-- ==== Defs.lean ====
def Pre_Band1 (m : (ℓ : Loc Cert.Band1.nD Cert.Band1.τ Cert.Band1.sig) → Buf (Elt Bits) ℓ) : Prop :=
  True

def Pre_Band1Ideal (m : (ℓ : Loc Cert.Band1Ideal.nD Cert.Band1Ideal.τ Cert.Band1Ideal.sig) → Buf (Elt Ideal) ℓ) : Prop :=
  True

def Pre_Band1Ideal_finite [hPre_finite : Cert.Pre_finite.Facts] (m : (ℓ : Loc Cert.Band1Ideal.nD Cert.Band1Ideal.τ Cert.Band1Ideal.sig) → Buf (Elt Ideal) ℓ) : Prop :=
  ∀ c : Dev Cert.Band1Ideal.nD,
    (Cert.Pre_finite.fn (F := Ideal) (m ((c.tc : Thread Cert.Band1Ideal.nD Cert.Band1Ideal.τ).loc Cert.Band1Ideal.main_arg0)) (m ((c.tc : Thread Cert.Band1Ideal.nD Cert.Band1Ideal.τ).loc Cert.Band1Ideal.main_arg1)) (m ((c.tc : Thread Cert.Band1Ideal.nD Cert.Band1Ideal.τ).loc Cert.Band1Ideal.main_arg2)) (m ((c.tc : Thread Cert.Band1Ideal.nD Cert.Band1Ideal.τ).loc Cert.Band1Ideal.main_arg3))) = (fun _ => 1#1)

def Pre_BandRef1Ideal (m : (ℓ : Loc Cert.BandRef1Ideal.nD Cert.BandRef1Ideal.τ Cert.BandRef1Ideal.sig) → Buf (Elt Ideal) ℓ) : Prop :=
  True

def Pre_BandRef1Ideal_finite [hPre_finite : Cert.Pre_finite.Facts] (m : (ℓ : Loc Cert.BandRef1Ideal.nD Cert.BandRef1Ideal.τ Cert.BandRef1Ideal.sig) → Buf (Elt Ideal) ℓ) : Prop :=
  ∀ c : Dev Cert.BandRef1Ideal.nD,
    (Cert.Pre_finite.fn (F := Ideal) (m ((c.tc : Thread Cert.BandRef1Ideal.nD Cert.BandRef1Ideal.τ).loc Cert.BandRef1Ideal.main_arg0)) (m ((c.tc : Thread Cert.BandRef1Ideal.nD Cert.BandRef1Ideal.τ).loc Cert.BandRef1Ideal.main_arg1)) (m ((c.tc : Thread Cert.BandRef1Ideal.nD Cert.BandRef1Ideal.τ).loc Cert.BandRef1Ideal.main_arg2)) (m ((c.tc : Thread Cert.BandRef1Ideal.nD Cert.BandRef1Ideal.τ).loc Cert.BandRef1Ideal.main_arg3))) = (fun _ => 1#1)

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite_lses [hPre_finite_lses : Cert.Pre_finite_lses.Facts] (m : (ℓ : Loc Cert.OutIdeal.nD Cert.OutIdeal.τ Cert.OutIdeal.sig) → Buf (Elt Ideal) ℓ) : Prop :=
  ∀ c : Dev Cert.OutIdeal.nD,
    (Cert.Pre_finite_lses.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10)) (m ((c.tc : Thread Cert.OutIdeal.nD Cert.OutIdeal.τ).loc Cert.OutIdeal.main_arg11)) (m ((c.tc : Thread Cert.OutIdeal.nD Cert.OutIdeal.τ).loc Cert.OutIdeal.main_arg12)) (m ((c.tc : Thread Cert.OutIdeal.nD Cert.OutIdeal.τ).loc Cert.OutIdeal.main_arg13)) (m ((c.tc : Thread Cert.OutIdeal.nD Cert.OutIdeal.τ).loc Cert.OutIdeal.main_arg14)) (m ((c.tc : Thread Cert.OutIdeal.nD Cert.OutIdeal.τ).loc Cert.OutIdeal.main_arg15)) (m ((c.tc : Thread Cert.OutIdeal.nD Cert.OutIdeal.τ).loc Cert.OutIdeal.main_arg16))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_finite_lses [hPre_finite_lses : Cert.Pre_finite_lses.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_finite_lses.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9)) (m ((c.tc : Thread Cert.OutRefIdeal.nD Cert.OutRefIdeal.τ).loc Cert.OutRefIdeal.main_arg10)) (m ((c.tc : Thread Cert.OutRefIdeal.nD Cert.OutRefIdeal.τ).loc Cert.OutRefIdeal.main_arg11)) (m ((c.tc : Thread Cert.OutRefIdeal.nD Cert.OutRefIdeal.τ).loc Cert.OutRefIdeal.main_arg12)) (m ((c.tc : Thread Cert.OutRefIdeal.nD Cert.OutRefIdeal.τ).loc Cert.OutRefIdeal.main_arg13)) (m ((c.tc : Thread Cert.OutRefIdeal.nD Cert.OutRefIdeal.τ).loc Cert.OutRefIdeal.main_arg14)) (m ((c.tc : Thread Cert.OutRefIdeal.nD Cert.OutRefIdeal.τ).loc Cert.OutRefIdeal.main_arg15)) (m ((c.tc : Thread Cert.OutRefIdeal.nD Cert.OutRefIdeal.τ).loc Cert.OutRefIdeal.main_arg16))) = (fun _ => 1#1)

def quiescent_Band1 [hBand1 : Cert.Band1.Facts] : Prop :=
  ∀ (m : (ℓ : Loc Cert.Band1.nD Cert.Band1.τ Cert.Band1.sig) → Buf (Elt Bits) ℓ) (g : Dev Cert.Band1.nD → PrngReg), Pre_Band1 m →
    θ_run (Cert.Band1.defs (F := Bits)) (onTc (τ := Cert.Band1.τ) (Cert.Band1.main (F := Bits))) ⟨m, fun _ => 0, g⟩ (fun r => (∀ c : Dev Cert.Band1.nD,
      r.2.mem ((c.tc : Thread Cert.Band1.nD Cert.Band1.τ).loc Cert.Band1.main_arg0) = m ((c.tc : Thread Cert.Band1.nD Cert.Band1.τ).loc Cert.Band1.main_arg0)
      ∧ r.2.mem ((c.tc : Thread Cert.Band1.nD Cert.Band1.τ).loc Cert.Band1.main_arg1) = m ((c.tc : Thread Cert.Band1.nD Cert.Band1.τ).loc Cert.Band1.main_arg1)
      ∧ r.2.mem ((c.tc : Thread Cert.Band1.nD Cert.Band1.τ).loc Cert.Band1.main_arg2) = m ((c.tc : Thread Cert.Band1.nD Cert.Band1.τ).loc Cert.Band1.main_arg2)
      ∧ r.2.mem ((c.tc : Thread Cert.Band1.nD Cert.Band1.τ).loc Cert.Band1.main_arg3) = m ((c.tc : Thread Cert.Band1.nD Cert.Band1.τ).loc Cert.Band1.main_arg3))
      ∧ r.2.sem = fun _ => 0)

def quiescent_Band1Ideal [hBand1Ideal : Cert.Band1Ideal.Facts] : Prop :=
  ∀ (m : (ℓ : Loc Cert.Band1Ideal.nD Cert.Band1Ideal.τ Cert.Band1Ideal.sig) → Buf (Elt Ideal) ℓ) (g : Dev Cert.Band1Ideal.nD → PrngReg), Pre_Band1Ideal m →
    θ_run (Cert.Band1Ideal.defs (F := Ideal)) (onTc (τ := Cert.Band1Ideal.τ) (Cert.Band1Ideal.main (F := Ideal))) ⟨m, fun _ => 0, g⟩ (fun r => (∀ c : Dev Cert.Band1Ideal.nD,
      r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0)
      ∧ r.2.mem ((c.tc : Thread Cert.Band1Ideal.nD Cert.Band1Ideal.τ).loc Cert.Band1Ideal.main_arg1) = m ((c.tc : Thread Cert.Band1Ideal.nD Cert.Band1Ideal.τ).loc Cert.Band1Ideal.main_arg1)
      ∧ r.2.mem ((c.tc : Thread Cert.Band1Ideal.nD Cert.Band1Ideal.τ).loc Cert.Band1Ideal.main_arg2) = m ((c.tc : Thread Cert.Band1Ideal.nD Cert.Band1Ideal.τ).loc Cert.Band1Ideal.main_arg2)
      ∧ r.2.mem ((c.tc : Thread Cert.Band1Ideal.nD Cert.Band1Ideal.τ).loc Cert.Band1Ideal.main_arg3) = m ((c.tc : Thread Cert.Band1Ideal.nD Cert.Band1Ideal.τ).loc Cert.Band1Ideal.main_arg3))
      ∧ r.2.sem = fun _ => 0)

def quiescent_Band1Ideal_pre_finite [hBand1Ideal : Cert.Band1Ideal.Facts] [hPre_finite : Cert.Pre_finite.Facts] : Prop :=
  ∀ (m : (ℓ : Loc Cert.Band1Ideal.nD Cert.Band1Ideal.τ Cert.Band1Ideal.sig) → Buf (Elt Ideal) ℓ) (g : Dev Cert.Band1Ideal.nD → PrngReg), Pre_Band1Ideal_finite m →
    θ_run (Cert.Band1Ideal.defs (F := Ideal)) (onTc (τ := Cert.Band1Ideal.τ) (Cert.Band1Ideal.main (F := Ideal))) ⟨m, fun _ => 0, g⟩ (fun r => (∀ c : Dev Cert.Band1Ideal.nD,
      r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0)
      ∧ r.2.mem ((c.tc : Thread Cert.Band1Ideal.nD Cert.Band1Ideal.τ).loc Cert.Band1Ideal.main_arg1) = m ((c.tc : Thread Cert.Band1Ideal.nD Cert.Band1Ideal.τ).loc Cert.Band1Ideal.main_arg1)
      ∧ r.2.mem ((c.tc : Thread Cert.Band1Ideal.nD Cert.Band1Ideal.τ).loc Cert.Band1Ideal.main_arg2) = m ((c.tc : Thread Cert.Band1Ideal.nD Cert.Band1Ideal.τ).loc Cert.Band1Ideal.main_arg2)
      ∧ r.2.mem ((c.tc : Thread Cert.Band1Ideal.nD Cert.Band1Ideal.τ).loc Cert.Band1Ideal.main_arg3) = m ((c.tc : Thread Cert.Band1Ideal.nD Cert.Band1Ideal.τ).loc Cert.Band1Ideal.main_arg3))
      ∧ r.2.sem = fun _ => 0)

def quiescent_BandRef1Ideal [hBandRef1Ideal : Cert.BandRef1Ideal.Facts] : Prop :=
  ∀ (m : (ℓ : Loc Cert.BandRef1Ideal.nD Cert.BandRef1Ideal.τ Cert.BandRef1Ideal.sig) → Buf (Elt Ideal) ℓ) (g : Dev Cert.BandRef1Ideal.nD → PrngReg), Pre_BandRef1Ideal m →
    θ_run (Cert.BandRef1Ideal.defs (F := Ideal)) (onTc (τ := Cert.BandRef1Ideal.τ) (Cert.BandRef1Ideal.main (F := Ideal))) ⟨m, fun _ => 0, g⟩ (fun r => (∀ c : Dev Cert.BandRef1Ideal.nD,
      r.2.mem ((c.tc : Thread Cert.BandRef1Ideal.nD Cert.BandRef1Ideal.τ).loc Cert.BandRef1Ideal.main_arg0) = m ((c.tc : Thread Cert.BandRef1Ideal.nD Cert.BandRef1Ideal.τ).loc Cert.BandRef1Ideal.main_arg0)
      ∧ r.2.mem ((c.tc : Thread Cert.BandRef1Ideal.nD Cert.BandRef1Ideal.τ).loc Cert.BandRef1Ideal.main_arg1) = m ((c.tc : Thread Cert.BandRef1Ideal.nD Cert.BandRef1Ideal.τ).loc Cert.BandRef1Ideal.main_arg1)
      ∧ r.2.mem ((c.tc : Thread Cert.BandRef1Ideal.nD Cert.BandRef1Ideal.τ).loc Cert.BandRef1Ideal.main_arg2) = m ((c.tc : Thread Cert.BandRef1Ideal.nD Cert.BandRef1Ideal.τ).loc Cert.BandRef1Ideal.main_arg2)
      ∧ r.2.mem ((c.tc : Thread Cert.BandRef1Ideal.nD Cert.BandRef1Ideal.τ).loc Cert.BandRef1Ideal.main_arg3) = m ((c.tc : Thread Cert.BandRef1Ideal.nD Cert.BandRef1Ideal.τ).loc Cert.BandRef1Ideal.main_arg3))
      ∧ r.2.sem = fun _ => 0)

def quiescent_BandRef1Ideal_pre_finite [hBandRef1Ideal : Cert.BandRef1Ideal.Facts] [hPre_finite : Cert.Pre_finite.Facts] : Prop :=
  ∀ (m : (ℓ : Loc Cert.BandRef1Ideal.nD Cert.BandRef1Ideal.τ Cert.BandRef1Ideal.sig) → Buf (Elt Ideal) ℓ) (g : Dev Cert.BandRef1Ideal.nD → PrngReg), Pre_BandRef1Ideal_finite m →
    θ_run (Cert.BandRef1Ideal.defs (F := Ideal)) (onTc (τ := Cert.BandRef1Ideal.τ) (Cert.BandRef1Ideal.main (F := Ideal))) ⟨m, fun _ => 0, g⟩ (fun r => (∀ c : Dev Cert.BandRef1Ideal.nD,
      r.2.mem ((c.tc : Thread Cert.BandRef1Ideal.nD Cert.BandRef1Ideal.τ).loc Cert.BandRef1Ideal.main_arg0) = m ((c.tc : Thread Cert.BandRef1Ideal.nD Cert.BandRef1Ideal.τ).loc Cert.BandRef1Ideal.main_arg0)
      ∧ r.2.mem ((c.tc : Thread Cert.BandRef1Ideal.nD Cert.BandRef1Ideal.τ).loc Cert.BandRef1Ideal.main_arg1) = m ((c.tc : Thread Cert.BandRef1Ideal.nD Cert.BandRef1Ideal.τ).loc Cert.BandRef1Ideal.main_arg1)
      ∧ r.2.mem ((c.tc : Thread Cert.BandRef1Ideal.nD Cert.BandRef1Ideal.τ).loc Cert.BandRef1Ideal.main_arg2) = m ((c.tc : Thread Cert.BandRef1Ideal.nD Cert.BandRef1Ideal.τ).loc Cert.BandRef1Ideal.main_arg2)
      ∧ r.2.mem ((c.tc : Thread Cert.BandRef1Ideal.nD Cert.BandRef1Ideal.τ).loc Cert.BandRef1Ideal.main_arg3) = m ((c.tc : Thread Cert.BandRef1Ideal.nD Cert.BandRef1Ideal.τ).loc Cert.BandRef1Ideal.main_arg3))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1)
      ∧ r.2.mem ((c.tc : Thread Cert.InF.nD Cert.InF.τ).loc Cert.InF.main_arg2) = m ((c.tc : Thread Cert.InF.nD Cert.InF.τ).loc Cert.InF.main_arg2))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
      ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1)
      ∧ r.2.mem ((c.tc : Thread Cert.InFRefIdeal.nD Cert.InFRefIdeal.τ).loc Cert.InFRefIdeal.main_arg2) = m ((c.tc : Thread Cert.InFRefIdeal.nD Cert.InFRefIdeal.τ).loc Cert.InFRefIdeal.main_arg2))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12)
      ∧ r.2.mem ((c.tc : Thread Cert.Out.nD Cert.Out.τ).loc Cert.Out.main_arg13) = m ((c.tc : Thread Cert.Out.nD Cert.Out.τ).loc Cert.Out.main_arg13)
      ∧ r.2.mem ((c.tc : Thread Cert.Out.nD Cert.Out.τ).loc Cert.Out.main_arg14) = m ((c.tc : Thread Cert.Out.nD Cert.Out.τ).loc Cert.Out.main_arg14)
      ∧ r.2.mem ((c.tc : Thread Cert.Out.nD Cert.Out.τ).loc Cert.Out.main_arg15) = m ((c.tc : Thread Cert.Out.nD Cert.Out.τ).loc Cert.Out.main_arg15)
      ∧ r.2.mem ((c.tc : Thread Cert.Out.nD Cert.Out.τ).loc Cert.Out.main_arg16) = m ((c.tc : Thread Cert.Out.nD Cert.Out.τ).loc Cert.Out.main_arg16))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
      ∧ r.2.mem ((c.tc : Thread Cert.OutIdeal.nD Cert.OutIdeal.τ).loc Cert.OutIdeal.main_arg13) = m ((c.tc : Thread Cert.OutIdeal.nD Cert.OutIdeal.τ).loc Cert.OutIdeal.main_arg13)
      ∧ r.2.mem ((c.tc : Thread Cert.OutIdeal.nD Cert.OutIdeal.τ).loc Cert.OutIdeal.main_arg14) = m ((c.tc : Thread Cert.OutIdeal.nD Cert.OutIdeal.τ).loc Cert.OutIdeal.main_arg14)
      ∧ r.2.mem ((c.tc : Thread Cert.OutIdeal.nD Cert.OutIdeal.τ).loc Cert.OutIdeal.main_arg15) = m ((c.tc : Thread Cert.OutIdeal.nD Cert.OutIdeal.τ).loc Cert.OutIdeal.main_arg15)
      ∧ r.2.mem ((c.tc : Thread Cert.OutIdeal.nD Cert.OutIdeal.τ).loc Cert.OutIdeal.main_arg16) = m ((c.tc : Thread Cert.OutIdeal.nD Cert.OutIdeal.τ).loc Cert.OutIdeal.main_arg16))
      ∧ r.2.sem = fun _ => 0)

def quiescent_OutIdeal_pre_finite_lses [hOutIdeal : Cert.OutIdeal.Facts] [hPre_finite_lses : Cert.Pre_finite_lses.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite_lses m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
      ∧ r.2.mem ((c.tc : Thread Cert.OutIdeal.nD Cert.OutIdeal.τ).loc Cert.OutIdeal.main_arg13) = m ((c.tc : Thread Cert.OutIdeal.nD Cert.OutIdeal.τ).loc Cert.OutIdeal.main_arg13)
      ∧ r.2.mem ((c.tc : Thread Cert.OutIdeal.nD Cert.OutIdeal.τ).loc Cert.OutIdeal.main_arg14) = m ((c.tc : Thread Cert.OutIdeal.nD Cert.OutIdeal.τ).loc Cert.OutIdeal.main_arg14)
      ∧ r.2.mem ((c.tc : Thread Cert.OutIdeal.nD Cert.OutIdeal.τ).loc Cert.OutIdeal.main_arg15) = m ((c.tc : Thread Cert.OutIdeal.nD Cert.OutIdeal.τ).loc Cert.OutIdeal.main_arg15)
      ∧ r.2.mem ((c.tc : Thread Cert.OutIdeal.nD Cert.OutIdeal.τ).loc Cert.OutIdeal.main_arg16) = m ((c.tc : Thread Cert.OutIdeal.nD Cert.OutIdeal.τ).loc Cert.OutIdeal.main_arg16))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12)
      ∧ r.2.mem ((c.tc : Thread Cert.OutRefIdeal.nD Cert.OutRefIdeal.τ).loc Cert.OutRefIdeal.main_arg13) = m ((c.tc : Thread Cert.OutRefIdeal.nD Cert.OutRefIdeal.τ).loc Cert.OutRefIdeal.main_arg13)
      ∧ r.2.mem ((c.tc : Thread Cert.OutRefIdeal.nD Cert.OutRefIdeal.τ).loc Cert.OutRefIdeal.main_arg14) = m ((c.tc : Thread Cert.OutRefIdeal.nD Cert.OutRefIdeal.τ).loc Cert.OutRefIdeal.main_arg14)
      ∧ r.2.mem ((c.tc : Thread Cert.OutRefIdeal.nD Cert.OutRefIdeal.τ).loc Cert.OutRefIdeal.main_arg15) = m ((c.tc : Thread Cert.OutRefIdeal.nD Cert.OutRefIdeal.τ).loc Cert.OutRefIdeal.main_arg15)
      ∧ r.2.mem ((c.tc : Thread Cert.OutRefIdeal.nD Cert.OutRefIdeal.τ).loc Cert.OutRefIdeal.main_arg16) = m ((c.tc : Thread Cert.OutRefIdeal.nD Cert.OutRefIdeal.τ).loc Cert.OutRefIdeal.main_arg16))
      ∧ r.2.sem = fun _ => 0)

def quiescent_OutRefIdeal_pre_finite_lses [hOutRefIdeal : Cert.OutRefIdeal.Facts] [hPre_finite_lses : Cert.Pre_finite_lses.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_finite_lses m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12)
      ∧ r.2.mem ((c.tc : Thread Cert.OutRefIdeal.nD Cert.OutRefIdeal.τ).loc Cert.OutRefIdeal.main_arg13) = m ((c.tc : Thread Cert.OutRefIdeal.nD Cert.OutRefIdeal.τ).loc Cert.OutRefIdeal.main_arg13)
      ∧ r.2.mem ((c.tc : Thread Cert.OutRefIdeal.nD Cert.OutRefIdeal.τ).loc Cert.OutRefIdeal.main_arg14) = m ((c.tc : Thread Cert.OutRefIdeal.nD Cert.OutRefIdeal.τ).loc Cert.OutRefIdeal.main_arg14)
      ∧ r.2.mem ((c.tc : Thread Cert.OutRefIdeal.nD Cert.OutRefIdeal.τ).loc Cert.OutRefIdeal.main_arg15) = m ((c.tc : Thread Cert.OutRefIdeal.nD Cert.OutRefIdeal.τ).loc Cert.OutRefIdeal.main_arg15)
      ∧ r.2.mem ((c.tc : Thread Cert.OutRefIdeal.nD Cert.OutRefIdeal.τ).loc Cert.OutRefIdeal.main_arg16) = m ((c.tc : Thread Cert.OutRefIdeal.nD Cert.OutRefIdeal.τ).loc Cert.OutRefIdeal.main_arg16))
      ∧ r.2.sem = fun _ => 0)

def preserves_Band1_Band1Ideal : Prop :=
  IdealRules.named_const.Statement Cert.Band1Ideal.κ "mask" .f32 0xF149F2CA#32 ⊥

def algebraic_Band1Ideal_BandRef1Ideal_pre_finite [hBand1Ideal : Cert.Band1Ideal.Facts] [hBandRef1Ideal : Cert.BandRef1Ideal.Facts] [hPre_finite : Cert.Pre_finite.Facts] : Prop :=
  ∀ (m : (ℓ : Loc Cert.Band1Ideal.nD Cert.Band1Ideal.τ Cert.Band1Ideal.sig) → Buf (Elt Ideal) ℓ) (g : Dev Cert.Band1Ideal.nD → PrngReg)
    (m' : (ℓ : Loc Cert.BandRef1Ideal.nD Cert.BandRef1Ideal.τ Cert.BandRef1Ideal.sig) → Buf (Elt Ideal) ℓ) (g' : Dev Cert.BandRef1Ideal.nD → PrngReg), Pre_Band1Ideal_finite m →
    (∀ c : Dev Cert.Band1Ideal.nD,
      m' ((c.tc : Thread Cert.BandRef1Ideal.nD Cert.BandRef1Ideal.τ).loc Cert.BandRef1Ideal.main_arg0) = m ((c.tc : Thread Cert.Band1Ideal.nD Cert.Band1Ideal.τ).loc Cert.Band1Ideal.main_arg0)
      ∧ m' ((c.tc : Thread Cert.BandRef1Ideal.nD Cert.BandRef1Ideal.τ).loc Cert.BandRef1Ideal.main_arg1) = m ((c.tc : Thread Cert.Band1Ideal.nD Cert.Band1Ideal.τ).loc Cert.Band1Ideal.main_arg1)
      ∧ m' ((c.tc : Thread Cert.BandRef1Ideal.nD Cert.BandRef1Ideal.τ).loc Cert.BandRef1Ideal.main_arg2) = m ((c.tc : Thread Cert.Band1Ideal.nD Cert.Band1Ideal.τ).loc Cert.Band1Ideal.main_arg2)
      ∧ m' ((c.tc : Thread Cert.BandRef1Ideal.nD Cert.BandRef1Ideal.τ).loc Cert.BandRef1Ideal.main_arg3) = m ((c.tc : Thread Cert.Band1Ideal.nD Cert.Band1Ideal.τ).loc Cert.Band1Ideal.main_arg3)) →
    ∃ (v0 : (c : Dev Cert.Band1Ideal.nD) → Buf (Elt Ideal) ((c.tc : Thread Cert.Band1Ideal.nD Cert.Band1Ideal.τ).loc Cert.Band1Ideal.main_v7_0)) (v1 : (c : Dev Cert.Band1Ideal.nD) → Buf (Elt Ideal) ((c.tc : Thread Cert.Band1Ideal.nD Cert.Band1Ideal.τ).loc Cert.Band1Ideal.main_v7_1)),
      θ_run (Cert.Band1Ideal.defs (F := Ideal)) (onTc (τ := Cert.Band1Ideal.τ) (Cert.Band1Ideal.main (F := Ideal))) ⟨m, fun _ => 0, g⟩ (fun r => ∀ c : Dev Cert.Band1Ideal.nD,
          r.2.mem ((c.tc : Thread Cert.Band1Ideal.nD Cert.Band1Ideal.τ).loc Cert.Band1Ideal.main_v7_0) = v0 c
          ∧ r.2.mem ((c.tc : Thread Cert.Band1Ideal.nD Cert.Band1Ideal.τ).loc Cert.Band1Ideal.main_v7_1) = v1 c
          ∧ r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0)
          ∧ r.2.mem ((c.tc : Thread Cert.Band1Ideal.nD Cert.Band1Ideal.τ).loc Cert.Band1Ideal.main_arg1) = m ((c.tc : Thread Cert.Band1Ideal.nD Cert.Band1Ideal.τ).loc Cert.Band1Ideal.main_arg1)
          ∧ r.2.mem ((c.tc : Thread Cert.Band1Ideal.nD Cert.Band1Ideal.τ).loc Cert.Band1Ideal.main_arg2) = m ((c.tc : Thread Cert.Band1Ideal.nD Cert.Band1Ideal.τ).loc Cert.Band1Ideal.main_arg2)
          ∧ r.2.mem ((c.tc : Thread Cert.Band1Ideal.nD Cert.Band1Ideal.τ).loc Cert.Band1Ideal.main_arg3) = m ((c.tc : Thread Cert.Band1Ideal.nD Cert.Band1Ideal.τ).loc Cert.Band1Ideal.main_arg3))
      ∧ θ_run (Cert.BandRef1Ideal.defs (F := Ideal)) (onTc (τ := Cert.BandRef1Ideal.τ) (Cert.BandRef1Ideal.main (F := Ideal))) ⟨m', fun _ => 0, g'⟩ (fun r => ∀ c : Dev Cert.BandRef1Ideal.nD,
          r.2.mem ((c.tc : Thread Cert.BandRef1Ideal.nD Cert.BandRef1Ideal.τ).loc Cert.BandRef1Ideal.main_v72) = v0 c
          ∧ r.2.mem ((c.tc : Thread Cert.BandRef1Ideal.nD Cert.BandRef1Ideal.τ).loc Cert.BandRef1Ideal.main_v78) = v1 c
          ∧ r.2.mem ((c.tc : Thread Cert.BandRef1Ideal.nD Cert.BandRef1Ideal.τ).loc Cert.BandRef1Ideal.main_arg0) = m' ((c.tc : Thread Cert.BandRef1Ideal.nD Cert.BandRef1Ideal.τ).loc Cert.BandRef1Ideal.main_arg0)
          ∧ r.2.mem ((c.tc : Thread Cert.BandRef1Ideal.nD Cert.BandRef1Ideal.τ).loc Cert.BandRef1Ideal.main_arg1) = m' ((c.tc : Thread Cert.BandRef1Ideal.nD Cert.BandRef1Ideal.τ).loc Cert.BandRef1Ideal.main_arg1)
          ∧ r.2.mem ((c.tc : Thread Cert.BandRef1Ideal.nD Cert.BandRef1Ideal.τ).loc Cert.BandRef1Ideal.main_arg2) = m' ((c.tc : Thread Cert.BandRef1Ideal.nD Cert.BandRef1Ideal.τ).loc Cert.BandRef1Ideal.main_arg2)
          ∧ r.2.mem ((c.tc : Thread Cert.BandRef1Ideal.nD Cert.BandRef1Ideal.τ).loc Cert.BandRef1Ideal.main_arg3) = m' ((c.tc : Thread Cert.BandRef1Ideal.nD Cert.BandRef1Ideal.τ).loc Cert.BandRef1Ideal.main_arg3))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)
      ∧ m' ((c.tc : Thread Cert.InFRefIdeal.nD Cert.InFRefIdeal.τ).loc Cert.InFRefIdeal.main_arg2) = m ((c.tc : Thread Cert.InFIdeal.nD Cert.InFIdeal.τ).loc Cert.InFIdeal.main_arg2)) →
    ∃ (v0 : (c : Dev Cert.InFIdeal.nD) → Buf (Elt Ideal) ((c.tc : Thread Cert.InFIdeal.nD Cert.InFIdeal.τ).loc Cert.InFIdeal.main_v31)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v31) = v0 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
          ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v44) = v0 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1)
          ∧ r.2.mem ((c.tc : Thread Cert.InFRefIdeal.nD Cert.InFRefIdeal.τ).loc Cert.InFRefIdeal.main_arg2) = m' ((c.tc : Thread Cert.InFRefIdeal.nD Cert.InFRefIdeal.τ).loc Cert.InFRefIdeal.main_arg2))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)) →
    ∃ (v0 : (c : Dev Cert.InBIdeal.nD) → Buf (Elt Ideal) ((c.tc : Thread Cert.InBIdeal.nD Cert.InBIdeal.τ).loc Cert.InBIdeal.main_v15)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v15) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v37) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2))

def preserves_Out_OutIdeal : Prop :=
  True

def algebraic_OutIdeal_OutRefIdeal_pre_finite_lses [hOutIdeal : Cert.OutIdeal.Facts] [hOutRefIdeal : Cert.OutRefIdeal.Facts] [hPre_finite_lses : Cert.Pre_finite_lses.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_finite_lses m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)
      ∧ m' ((c.tc : Thread Cert.OutRefIdeal.nD Cert.OutRefIdeal.τ).loc Cert.OutRefIdeal.main_arg11) = m ((c.tc : Thread Cert.OutIdeal.nD Cert.OutIdeal.τ).loc Cert.OutIdeal.main_arg11)
      ∧ m' ((c.tc : Thread Cert.OutRefIdeal.nD Cert.OutRefIdeal.τ).loc Cert.OutRefIdeal.main_arg12) = m ((c.tc : Thread Cert.OutIdeal.nD Cert.OutIdeal.τ).loc Cert.OutIdeal.main_arg12)
      ∧ m' ((c.tc : Thread Cert.OutRefIdeal.nD Cert.OutRefIdeal.τ).loc Cert.OutRefIdeal.main_arg13) = m ((c.tc : Thread Cert.OutIdeal.nD Cert.OutIdeal.τ).loc Cert.OutIdeal.main_arg13)
      ∧ m' ((c.tc : Thread Cert.OutRefIdeal.nD Cert.OutRefIdeal.τ).loc Cert.OutRefIdeal.main_arg14) = m ((c.tc : Thread Cert.OutIdeal.nD Cert.OutIdeal.τ).loc Cert.OutIdeal.main_arg14)
      ∧ m' ((c.tc : Thread Cert.OutRefIdeal.nD Cert.OutRefIdeal.τ).loc Cert.OutRefIdeal.main_arg15) = m ((c.tc : Thread Cert.OutIdeal.nD Cert.OutIdeal.τ).loc Cert.OutIdeal.main_arg15)
      ∧ m' ((c.tc : Thread Cert.OutRefIdeal.nD Cert.OutRefIdeal.τ).loc Cert.OutRefIdeal.main_arg16) = m ((c.tc : Thread Cert.OutIdeal.nD Cert.OutIdeal.τ).loc Cert.OutIdeal.main_arg16)) →
    ∃ (v0 : (c : Dev Cert.OutIdeal.nD) → Buf (Elt Ideal) ((c.tc : Thread Cert.OutIdeal.nD Cert.OutIdeal.τ).loc Cert.OutIdeal.main_v40)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v40) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
          ∧ r.2.mem ((c.tc : Thread Cert.OutIdeal.nD Cert.OutIdeal.τ).loc Cert.OutIdeal.main_arg13) = m ((c.tc : Thread Cert.OutIdeal.nD Cert.OutIdeal.τ).loc Cert.OutIdeal.main_arg13)
          ∧ r.2.mem ((c.tc : Thread Cert.OutIdeal.nD Cert.OutIdeal.τ).loc Cert.OutIdeal.main_arg14) = m ((c.tc : Thread Cert.OutIdeal.nD Cert.OutIdeal.τ).loc Cert.OutIdeal.main_arg14)
          ∧ r.2.mem ((c.tc : Thread Cert.OutIdeal.nD Cert.OutIdeal.τ).loc Cert.OutIdeal.main_arg15) = m ((c.tc : Thread Cert.OutIdeal.nD Cert.OutIdeal.τ).loc Cert.OutIdeal.main_arg15)
          ∧ r.2.mem ((c.tc : Thread Cert.OutIdeal.nD Cert.OutIdeal.τ).loc Cert.OutIdeal.main_arg16) = m ((c.tc : Thread Cert.OutIdeal.nD Cert.OutIdeal.τ).loc Cert.OutIdeal.main_arg16))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v48) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11)
          ∧ r.2.mem ((c.tc : Thread Cert.OutRefIdeal.nD Cert.OutRefIdeal.τ).loc Cert.OutRefIdeal.main_arg12) = m' ((c.tc : Thread Cert.OutRefIdeal.nD Cert.OutRefIdeal.τ).loc Cert.OutRefIdeal.main_arg12)
          ∧ r.2.mem ((c.tc : Thread Cert.OutRefIdeal.nD Cert.OutRefIdeal.τ).loc Cert.OutRefIdeal.main_arg13) = m' ((c.tc : Thread Cert.OutRefIdeal.nD Cert.OutRefIdeal.τ).loc Cert.OutRefIdeal.main_arg13)
          ∧ r.2.mem ((c.tc : Thread Cert.OutRefIdeal.nD Cert.OutRefIdeal.τ).loc Cert.OutRefIdeal.main_arg14) = m' ((c.tc : Thread Cert.OutRefIdeal.nD Cert.OutRefIdeal.τ).loc Cert.OutRefIdeal.main_arg14)
          ∧ r.2.mem ((c.tc : Thread Cert.OutRefIdeal.nD Cert.OutRefIdeal.τ).loc Cert.OutRefIdeal.main_arg15) = m' ((c.tc : Thread Cert.OutRefIdeal.nD Cert.OutRefIdeal.τ).loc Cert.OutRefIdeal.main_arg15)
          ∧ r.2.mem ((c.tc : Thread Cert.OutRefIdeal.nD Cert.OutRefIdeal.τ).loc Cert.OutRefIdeal.main_arg16) = m' ((c.tc : Thread Cert.OutRefIdeal.nD Cert.OutRefIdeal.τ).loc Cert.OutRefIdeal.main_arg16))

def Claim : Prop :=
  ∃ (hBand1 : Cert.Band1.Facts) (hBand1Ideal : Cert.Band1Ideal.Facts) (hBandRef1Ideal : Cert.BandRef1Ideal.Facts) (hInF : Cert.InF.Facts) (hInFIdeal : Cert.InFIdeal.Facts) (hInFRefIdeal : Cert.InFRefIdeal.Facts) (hInB : Cert.InB.Facts) (hInBIdeal : Cert.InBIdeal.Facts) (hInBRefIdeal : Cert.InBRefIdeal.Facts) (hOut : Cert.Out.Facts) (hOutIdeal : Cert.OutIdeal.Facts) (hOutRefIdeal : Cert.OutRefIdeal.Facts) (hPre_finite : Cert.Pre_finite.Facts) (hPre_finite_lses : Cert.Pre_finite_lses.Facts),
    quiescent_Band1 (hBand1 := hBand1)
    ∧ quiescent_Band1Ideal (hBand1Ideal := hBand1Ideal)
    ∧ quiescent_Band1Ideal_pre_finite (hBand1Ideal := hBand1Ideal) (hPre_finite := hPre_finite)
    ∧ quiescent_BandRef1Ideal (hBandRef1Ideal := hBandRef1Ideal)
    ∧ quiescent_BandRef1Ideal_pre_finite (hBandRef1Ideal := hBandRef1Ideal) (hPre_finite := hPre_finite)
    ∧ quiescent_InF (hInF := hInF)
    ∧ quiescent_InFIdeal (hInFIdeal := hInFIdeal)
    ∧ quiescent_InFRefIdeal (hInFRefIdeal := hInFRefIdeal)
    ∧ quiescent_InB (hInB := hInB)
    ∧ quiescent_InBIdeal (hInBIdeal := hInBIdeal)
    ∧ quiescent_InBRefIdeal (hInBRefIdeal := hInBRefIdeal)
    ∧ quiescent_Out (hOut := hOut)
    ∧ quiescent_OutIdeal (hOutIdeal := hOutIdeal)
    ∧ quiescent_OutIdeal_pre_finite_lses (hOutIdeal := hOutIdeal) (hPre_finite_lses := hPre_finite_lses)
    ∧ quiescent_OutRefIdeal (hOutRefIdeal := hOutRefIdeal)
    ∧ quiescent_OutRefIdeal_pre_finite_lses (hOutRefIdeal := hOutRefIdeal) (hPre_finite_lses := hPre_finite_lses)
    ∧ preserves_Band1_Band1Ideal
    ∧ algebraic_Band1Ideal_BandRef1Ideal_pre_finite (hBand1Ideal := hBand1Ideal) (hBandRef1Ideal := hBandRef1Ideal) (hPre_finite := hPre_finite)
    ∧ preserves_InF_InFIdeal
    ∧ algebraic_InFIdeal_InFRefIdeal (hInFIdeal := hInFIdeal) (hInFRefIdeal := hInFRefIdeal)
    ∧ preserves_InB_InBIdeal
    ∧ algebraic_InBIdeal_InBRefIdeal (hInBIdeal := hInBIdeal) (hInBRefIdeal := hInBRefIdeal)
    ∧ preserves_Out_OutIdeal
    ∧ algebraic_OutIdeal_OutRefIdeal_pre_finite_lses (hOutIdeal := hOutIdeal) (hOutRefIdeal := hOutRefIdeal) (hPre_finite_lses := hPre_finite_lses)
-- ==== Pre_finite.lean ====
abbrev S16384x512 : Shape := ⟨2, ![16384, 512]⟩
abbrev S8x128x256 : Shape := ⟨3, ![8, 128, 256]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8x128x256 : S_.BroadcastsInDim S8x128x256 (![] : Fin 0 → Fin S8x128x256.rank)
  reducesTo_S8x128x256_S_d0_1_2 : S8x128x256.ReducesTo [0, 1, 2] S_

variable [Facts]

def fn {F : FTy → Type} [FloatOps F] (main_arg0 : FVec F S16384x512 .f32) (main_arg1 : FVec F S16384x512 .f32) (main_arg2 : FVec F S16384x512 .f32) (main_arg3 : FVec F S8x128x256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S8x128x256 .f32 := Host.absf main_arg3
  let main_cst_2 : FVec F S_ .f32 := constant S_ .f32 0x7F800000#32
  let main_v10 : FVec F S8x128x256 .f32 := broadcastInDim S8x128x256 ![] bcast_S_S8x128x256 main_cst_2
  let main_v11 : IVec S8x128x256 1 := cmpf .olt main_v9 main_v10
  let main_c_3 : IVec S_ 1 := constantI S_ 1 1#1
  let main_v12 : IVec S_ 1 := (fun x v => Host.reduce IntOp.andi x v reducesTo_S8x128x256_S_d0_1_2 h_S_) main_v11 main_c_3
  let main_v13 : IVec S_ 1 := andi main_v8 main_v12
  main_v13
-- ==== Pre_finite_lses.lean ====
abbrev S1x16384x1024 : Shape := ⟨3, ![1, 16384, 1024]⟩
abbrev S1x16384x8x64 : Shape := ⟨4, ![1, 16384, 8, 64]⟩
abbrev S1x16384x512 : Shape := ⟨3, ![1, 16384, 512]⟩
abbrev S1x16384x8 : Shape := ⟨3, ![1, 16384, 8]⟩
abbrev S1x16384x4x64 : Shape := ⟨4, ![1, 16384, 4, 64]⟩
abbrev S1x16384x256 : Shape := ⟨3, ![1, 16384, 256]⟩
abbrev S2304x1024 : Shape := ⟨2, ![2304, 1024]⟩
abbrev S1024 : Shape := ⟨1, ![1024]⟩
abbrev S_ : Shape := ⟨0, ![]⟩

class Facts : Prop where
  bcast_S_S1x16384x8 : S_.BroadcastsInDim S1x16384x8 (![] : Fin 0 → Fin S1x16384x8.rank)
  reducesTo_S1x16384x8_S_d0_1_2 : S1x16384x8.ReducesTo [0, 1, 2] S_
  h_S_ : 0 < S_.numel

variable [Facts]

def fn {F : FTy → Type} [FloatOps F] (main_arg0 : FVec F S1x16384x1024 .f32) (main_arg1 : FVec F S1x16384x8x64 .f32) (main_arg2 : FVec F S1x16384x512 .f32) (main_arg3 : FVec F S1x16384x512 .f32) (main_arg4 : FVec F S1x16384x8x64 .f32) (main_arg5 : FVec F S1x16384x512 .f32) (main_arg6 : FVec F S1x16384x8x64 .f32) (main_arg7 : FVec F S1x16384x8x64 .f32) (main_arg8 : FVec F S1x16384x8x64 .f32) (main_arg9 : FVec F S1x16384x8 .f32) (main_arg10 : FVec F S1x16384x8 .f32) (main_arg11 : FVec F S1x16384x8 .f32) (main_arg12 : FVec F S1x16384x512 .f32) (main_arg13 : FVec F S1x16384x4x64 .f32) (main_arg14 : FVec F S1x16384x256 .f32) (main_arg15 : FVec F S2304x1024 .f32) (main_arg16 : FVec F S1024 .f32) : IVec S_ 1 :=
  let main_v0 : FVec F S1x16384x8 .f32 := Host.absf main_arg9
  let main_cst : FVec F S_ .f32 := constant S_ .f32 0x7F800000#32
  let main_v1 : FVec F S1x16384x8 .f32 := broadcastInDim S1x16384x8 ![] bcast_S_S1x16384x8 main_cst
  let main_v2 : IVec S1x16384x8 1 := cmpf .olt main_v0 main_v1
  let main_c : IVec S_ 1 := constantI S_ 1 1#1
  let main_v3 : IVec S_ 1 := (fun x v => Host.reduce IntOp.andi x v reducesTo_S1x16384x8_S_d0_1_2 h_S_) main_v2 main_c
  let main_v4 : FVec F S1x16384x8 .f32 := Host.absf main_arg10
  let main_cst_0 : FVec F S_ .f32 := constant S_ .f32 0x7F800000#32
  let main_v5 : FVec F S1x16384x8 .f32 := broadcastInDim S1x16384x8 ![] bcast_S_S1x16384x8 main_cst_0
  let main_v6 : IVec S1x16384x8 1 := cmpf .olt main_v4 main_v5
  let main_c_1 : IVec S_ 1 := constantI S_ 1 1#1
  let main_v7 : IVec S_ 1 := (fun x v => Host.reduce IntOp.andi x v reducesTo_S1x16384x8_S_d0_1_2 h_S_) main_v6 main_c_1
  let main_v8 : IVec S_ 1 := andi main_v3 main_v7
  let main_v9 : FVec F S1x16384x8 .f32 := Host.absf main_arg11
  let main_cst_2 : FVec F S_ .f32 := constant S_ .f32 0x7F800000#32
  let main_v10 : FVec F S1x16384x8 .f32 := broadcastInDim S1x16384x8 ![] bcast_S_S1x16384x8 main_cst_2
  let main_v11 : IVec S1x16384x8 1 := cmpf .olt main_v9 main_v10
  let main_c_3 : IVec S_ 1 := constantI S_ 1 1#1
  let main_v12 : IVec S_ 1 := (fun x v => Host.reduce IntOp.andi x v reducesTo_S1x16384x8_S_d0_1_2 h_S_) main_v11 main_c_3
  let main_v13 : IVec S_ 1 := andi main_v8 main_v12
  main_v13
-- ==== Band1.lean ====
abbrev S16384x512 : Shape := ⟨2, ![16384, 512]⟩
abbrev S8x128x256 : Shape := ⟨3, ![8, 128, 256]⟩
abbrev S8x128x128 : Shape := ⟨3, ![8, 128, 128]⟩
abbrev S8x1x128x128 : Shape := ⟨4, ![8, 1, 128, 128]⟩
abbrev S8x2x128x128 : Shape := ⟨4, ![8, 2, 128, 128]⟩
abbrev S_ : Shape := ⟨0, ![]⟩
abbrev S2048x128 : Shape := ⟨2, ![2048, 128]⟩
abbrev S128x128 : Shape := ⟨2, ![128, 128]⟩
abbrev S2x2x128x128 : Shape := ⟨4, ![2, 2, 128, 128]⟩
abbrev S128x256 : Shape := ⟨2, ![128, 256]⟩
abbrev S1x1x128x128 : Shape := ⟨4, ![1, 1, 128, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S8x128x256, .f32⟩
  | .hbm, ⟨4, _⟩ => ⟨S8x128x128, .f32⟩
  | .hbm, ⟨5, _⟩ => ⟨S8x128x128, .f32⟩
  | .hbm, ⟨6, _⟩ => ⟨S8x1x128x128, .f32⟩
  | .hbm, ⟨7, _⟩ => ⟨S8x1x128x128, .f32⟩
  | .hbm, ⟨8, _⟩ => ⟨S8x2x128x128, .f32⟩
  | .hbm, ⟨9, _⟩ => ⟨S_, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S128x128, .f32⟩
  | .local _ .vmem, ⟨6, _⟩ => ⟨S2048x128, .f32⟩
  | .local _ .vmem, ⟨7, _⟩ => ⟨S2048x128, .f32⟩
  | .local _ .vmem, ⟨8, _⟩ => ⟨S128x128, .f32⟩
  | .local _ .vmem, ⟨9, _⟩ => ⟨S128x128, .f32⟩
  | .local _ .vmem, ⟨10, _⟩ => ⟨S2x2x128x128, .f32⟩
  | .local _ .vmem, ⟨11, _⟩ => ⟨S2x2x128x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Band1Ideal.lean ====
variable {F : FTy → Type} [FloatOps F] [Named F]
def κ : String → Option EReal := fun
  | "mask" => some ⊥
  | _ => none
-- ==== BandRef1Ideal.lean ====
abbrev S16384x512 : Shape := ⟨2, ![16384, 512]⟩
abbrev S8x128x256 : Shape := ⟨3, ![8, 128, 256]⟩
abbrev S16384x1x8x64 : Shape := ⟨4, ![16384, 1, 8, 64]⟩
abbrev S1x16384x8x64 : Shape := ⟨4, ![1, 16384, 8, 64]⟩
abbrev S1x128x128x8x64 : Shape := ⟨5, ![1, 128, 128, 8, 64]⟩
abbrev S_ : Shape := ⟨0, ![]⟩
abbrev S1x16512x8x64 : Shape := ⟨4, ![1, 16512, 8, 64]⟩
abbrev S1x129x128x8x64 : Shape := ⟨5, ![1, 129, 128, 8, 64]⟩
abbrev S1x128x256x8x64 : Shape := ⟨5, ![1, 128, 256, 8, 64]⟩
abbrev S1x128x8x128x256 : Shape := ⟨5, ![1, 128, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x128x1x128x256 : Shape := ⟨5, ![1, 128, 1, 128, 256]⟩
abbrev S1x1x8x128x256 : Shape := ⟨5, ![1, 1, 8, 128, 256]⟩
abbrev S1x128x8x128 : Shape := ⟨4, ![1, 128, 8, 128]⟩
abbrev S1x128x8x128x1 : Shape := ⟨5, ![1, 128, 8, 128, 1]⟩
abbrev S1x128x8x64x128 : Shape := ⟨5, ![1, 128, 8, 64, 128]⟩
abbrev S1x128x128x8 : Shape := ⟨4, ![1, 128, 128, 8]⟩
abbrev S1x16384x8 : Shape := ⟨3, ![1, 16384, 8]⟩
abbrev S16384x1x8 : Shape := ⟨3, ![16384, 1, 8]⟩
abbrev S16384x8 : Shape := ⟨2, ![16384, 8]⟩
abbrev S16384x8x64 : Shape := ⟨3, ![16384, 8, 64]⟩

abbrev nBuf : Space → Nat
  | .hbm => 104
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S8x128x256, .f32⟩
  | .hbm, ⟨4, _⟩ => ⟨S16384x1x8x64, .f32⟩
  | .hbm, ⟨5, _⟩ => ⟨S1x16384x8x64, .f32⟩
  | .hbm, ⟨6, _⟩ => ⟨S1x128x128x8x64, .f32⟩
  | .hbm, ⟨7, _⟩ => ⟨S16384x1x8x64, .f32⟩
  | .hbm, ⟨8, _⟩ => ⟨S1x16384x8x64, .f32⟩
  | .hbm, ⟨9, _⟩ => ⟨S_, .i32⟩
  | .hbm, ⟨10, _⟩ => ⟨S_, .f32⟩
  | .hbm, ⟨11, _⟩ => ⟨S1x16512x8x64, .f32⟩
  | .hbm, ⟨12, _⟩ => ⟨S1x129x128x8x64, .f32⟩
  | .hbm, ⟨13, _⟩ => ⟨S1x128x128x8x64, .f32⟩
  | .hbm, ⟨14, _⟩ => ⟨S1x128x128x8x64, .f32⟩
  | .hbm, ⟨15, _⟩ => ⟨S1x128x256x8x64, .f32⟩
  | .hbm, ⟨16, _⟩ => ⟨S16384x1x8x64, .f32⟩
  | .hbm, ⟨17, _⟩ => ⟨S1x16384x8x64, .f32⟩
  | .hbm, ⟨18, _⟩ => ⟨S_, .i32⟩
  | .hbm, ⟨19, _⟩ => ⟨S_, .f32⟩
  | .hbm, ⟨20, _⟩ => ⟨S1x16512x8x64, .f32⟩
  | .hbm, ⟨21, _⟩ => ⟨S1x129x128x8x64, .f32⟩
  | .hbm, ⟨22, _⟩ => ⟨S1x128x128x8x64, .f32⟩
  | .hbm, ⟨23, _⟩ => ⟨S1x128x128x8x64, .f32⟩
  | .hbm, ⟨24, _⟩ => ⟨S1x128x256x8x64, .f32⟩
  | .hbm, ⟨25, _⟩ => ⟨S1x128x8x128x256, .f32⟩
  | .hbm, ⟨26, _⟩ => ⟨S_, .f32⟩
  | .hbm, ⟨27, _⟩ => ⟨S1x128x8x128x256, .f32⟩
  | .hbm, ⟨28, _⟩ => ⟨S1x128x8x128x256, .f32⟩
  | .hbm, ⟨29, _⟩ => ⟨S128, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x256, .i32⟩
  | .hbm, ⟨37, _⟩ => ⟨S128x256, .i32⟩
  | .hbm, ⟨38, _⟩ => ⟨S128x256, .i32⟩
  | .hbm, ⟨39, _⟩ => ⟨S128, .i32⟩
  | .hbm, ⟨40, _⟩ => ⟨S128x1x1, .i32⟩
  | .hbm, ⟨41, _⟩ => ⟨S_, .i32⟩
  | .hbm, ⟨42, _⟩ => ⟨S128x1x1, .i32⟩
  | .hbm, ⟨43, _⟩ => ⟨S128x1x1, .i32⟩
  | .hbm, ⟨44, _⟩ => ⟨S_, .i32⟩
  | .hbm, ⟨45, _⟩ => ⟨S128x1x1, .i32⟩
  | .hbm, ⟨46, _⟩ => ⟨S128x1x1, .i32⟩
  | .hbm, ⟨47, _⟩ => ⟨S1x1x256, .i32⟩
  | .hbm, ⟨48, _⟩ => ⟨S128x1x256, .i32⟩
  | .hbm, ⟨49, _⟩ => ⟨S128x1x256, .i32⟩
  | .hbm, ⟨50, _⟩ => ⟨S128x1x256, .i32⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S128x256, .i1⟩
  | .hbm, ⟨58, _⟩ => ⟨S_, .i32⟩
  | .hbm, ⟨59, _⟩ => ⟨S128x1x256, .i32⟩
  | .hbm, ⟨60, _⟩ => ⟨S128x1x256, .i1⟩
  | .hbm, ⟨61, _⟩ => ⟨S1x128x256, .i1⟩
  | .hbm, ⟨62, _⟩ => ⟨S128x128x256, .i1⟩
  | .hbm, ⟨63, _⟩ => ⟨S128x128x256, .i1⟩
  | .hbm, ⟨64, _⟩ => ⟨S128x128x256, .i1⟩
  | .hbm, ⟨65, _⟩ => ⟨S1x128x1x128x256, .i1⟩
  | .hbm, ⟨66, _⟩ => ⟨S1x1x8x128x256, .f32⟩
  | .hbm, ⟨67, _⟩ => ⟨S1x128x8x128x256, .f32⟩
  | .hbm, ⟨68, _⟩ => ⟨S1x128x8x128x256, .f32⟩
  | .hbm, ⟨69, _⟩ => ⟨S_, .f32⟩
  | .hbm, ⟨70, _⟩ => ⟨S_, .f32⟩
  | .hbm, ⟨71, _⟩ => ⟨S1x128x8x128x256, .i1⟩
  | .hbm, ⟨72, _⟩ => ⟨S1x128x8x128x256, .f32⟩
  | .hbm, ⟨73, _⟩ => ⟨S1x128x8x128x256, .f32⟩
  | .hbm, ⟨74, _⟩ => ⟨S_, .f32⟩
  | .hbm, ⟨75, _⟩ => ⟨S1x128x8x128, .f32⟩
  | .hbm, ⟨76, _⟩ => ⟨S1x128x8x128x1, .f32⟩
  | .hbm, ⟨77, _⟩ => ⟨S1x128x8x128x256, .f32⟩
  | .hbm, ⟨78, _⟩ => ⟨S1x128x8x128x256, .f32⟩
  | .hbm, ⟨79, _⟩ => ⟨S1x128x8x128x256, .f32⟩
  | .hbm, ⟨80, _⟩ => ⟨S_, .f32⟩
  | .hbm, ⟨81, _⟩ => ⟨S_, .f32⟩
  | .hbm, ⟨82, _⟩ => ⟨S1x128x8x128x256, .i1⟩
  | .hbm, ⟨83, _⟩ => ⟨S1x128x8x128x256, .f32⟩
  | .hbm, ⟨84, _⟩ => ⟨S1x128x8x128x256, .f32⟩
  | .hbm, ⟨85, _⟩ => ⟨S_, .f32⟩
  | .hbm, ⟨86, _⟩ => ⟨S1x128x8x128, .f32⟩
  | .hbm, ⟨87, _⟩ => ⟨S1x128x8x128x1, .f32⟩
  | .hbm, ⟨88, _⟩ => ⟨S1x128x8x128x256, .f32⟩
  | .hbm, ⟨89, _⟩ => ⟨S1x128x8x128x256, .f32⟩
  | .hbm, ⟨90, _⟩ => ⟨S1x128x8x64x128, .f32⟩
  | .hbm, ⟨91, _⟩ => ⟨S1x128x128x8x64, .f32⟩
  | .hbm, ⟨92, _⟩ => ⟨S1x128x8x128x1, .f32⟩
  | .hbm, ⟨93, _⟩ => ⟨S1x128x8x128x1, .f32⟩
  | .hbm, ⟨94, _⟩ => ⟨S1x128x8x128, .f32⟩
  | .hbm, ⟨95, _⟩ => ⟨S1x16384x8x64, .f32⟩
  | .hbm, ⟨96, _⟩ => ⟨S16384x1x8x64, .f32⟩
  | .hbm, ⟨97, _⟩ => ⟨S16384x512, .f32⟩
  | .hbm, ⟨98, _⟩ => ⟨S1x128x128x8, .f32⟩
  | .hbm, ⟨99, _⟩ => ⟨S1x16384x8, .f32⟩
  | .hbm, ⟨100, _⟩ => ⟨S16384x1x8, .f32⟩
  | .hbm, ⟨101, _⟩ => ⟨S16384x8, .f32⟩
  | .hbm, ⟨102, _⟩ => ⟨S16384x8x64, .f32⟩
  | .hbm, ⟨103, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== InF.lean ====
abbrev S1x16384x1024 : Shape := ⟨3, ![1, 16384, 1024]⟩
abbrev S1024 : Shape := ⟨1, ![1024]⟩
abbrev S1024x8224 : Shape := ⟨2, ![1024, 8224]⟩
abbrev S8 : Shape := ⟨1, ![8]⟩
abbrev S16384x1024 : Shape := ⟨2, ![16384, 1024]⟩
abbrev S1x1024 : Shape := ⟨2, ![1, 1024]⟩
abbrev S1024x1024 : Shape := ⟨2, ![1024, 1024]⟩
abbrev S1024x512 : Shape := ⟨2, ![1024, 512]⟩
abbrev S1024x8x64 : Shape := ⟨3, ![1024, 8, 64]⟩
abbrev S_ : Shape := ⟨0, ![]⟩
abbrev S8x1 : Shape := ⟨2, ![8, 1]⟩
abbrev S1 : Shape := ⟨1, ![1]⟩
abbrev S1x1 : Shape := ⟨2, ![1, 1]⟩
abbrev S1024x1536 : Shape := ⟨2, ![1024, 1536]⟩
abbrev S1024x256 : Shape := ⟨2, ![1024, 256]⟩
abbrev S1024x128 : Shape := ⟨2, ![1024, 128]⟩
abbrev S1024x24 : Shape := ⟨2, ![1024, 24]⟩
abbrev S1024x8 : Shape := ⟨2, ![1024, 8]⟩
abbrev S1024x7040 : Shape := ⟨2, ![1024, 7040]⟩
abbrev S16384x7040 : Shape := ⟨2, ![16384, 7040]⟩
abbrev S1024x1408 : Shape := ⟨2, ![1024, 1408]⟩
abbrev S1024x1 : Shape := ⟨2, ![1024, 1]⟩

abbrev nBuf : Space → Nat
  | .hbm => 87
  | .vmem => 8
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x8224, .f32⟩
  | .hbm, ⟨3, _⟩ => ⟨S8, .i32⟩
  | .hbm, ⟨4, _⟩ => ⟨S8, .i32⟩
  | .hbm, ⟨5, _⟩ => ⟨S16384x1024, .f32⟩
  | .hbm, ⟨6, _⟩ => ⟨S1x1024, .f32⟩
  | .hbm, ⟨7, _⟩ => ⟨S1024x1024, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x8x64, .f32⟩
  | .hbm, ⟨12, _⟩ => ⟨S_, .i32⟩
  | .hbm, ⟨13, _⟩ => ⟨S8, .i32⟩
  | .hbm, ⟨14, _⟩ => ⟨S8, .i1⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S8, .i32⟩
  | .hbm, ⟨19, _⟩ => ⟨S8x1, .i32⟩
  | .hbm, ⟨20, _⟩ => ⟨S1, .i32⟩
  | .hbm, ⟨21, _⟩ => ⟨S_, .i32⟩
  | .hbm, ⟨22, _⟩ => ⟨S8x1, .i32⟩
  | .hbm, ⟨23, _⟩ => ⟨S8x1, .i1⟩
  | .hbm, ⟨24, _⟩ => ⟨S1x1, .i32⟩
  | .hbm, ⟨25, _⟩ => ⟨S8x1, .i32⟩
  | .hbm, ⟨26, _⟩ => ⟨S8x1, .i1⟩
  | .hbm, ⟨27, _⟩ => ⟨S8x1, .i1⟩
  | .hbm, ⟨28, _⟩ => ⟨S_, .i1⟩
  | .hbm, ⟨29, _⟩ => ⟨S8, .i1⟩
  | .hbm, ⟨30, _⟩ => ⟨S1024x8x64, .f32⟩
  | .hbm, ⟨31, _⟩ => ⟨S1024x8x64, .i1⟩
  | .hbm, ⟨32, _⟩ => ⟨S_, .f32⟩
  | .hbm, ⟨33, _⟩ => ⟨S1024x8x64, .f32⟩
  | .hbm, ⟨34, _⟩ => ⟨S1024x8x64, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x8x64, .f32⟩
  | .hbm, ⟨42, _⟩ => ⟨S_, .i32⟩
  | .hbm, ⟨43, _⟩ => ⟨S8, .i32⟩
  | .hbm, ⟨44, _⟩ => ⟨S8, .i1⟩
  | .hbm, ⟨45, _⟩ => ⟨S_, .i32⟩
  | .hbm, ⟨46, _⟩ => ⟨S8, .i32⟩
  | .hbm, ⟨47, _⟩ => ⟨S8, .i32⟩
  | .hbm, ⟨48, _⟩ => ⟨S8, .i32⟩
  | .hbm, ⟨49, _⟩ => ⟨S8x1, .i32⟩
  | .hbm, ⟨50, _⟩ => ⟨S1, .i32⟩
  | .hbm, ⟨51, _⟩ => ⟨S_, .i32⟩
  | .hbm, ⟨52, _⟩ => ⟨S8x1, .i32⟩
  | .hbm, ⟨53, _⟩ => ⟨S8x1, .i1⟩
  | .hbm, ⟨54, _⟩ => ⟨S1x1, .i32⟩
  | .hbm, ⟨55, _⟩ => ⟨S8x1, .i32⟩
  | .hbm, ⟨56, _⟩ => ⟨S8x1, .i1⟩
  | .hbm, ⟨57, _⟩ => ⟨S8x1, .i1⟩
  | .hbm, ⟨58, _⟩ => ⟨S_, .i1⟩
  | .hbm, ⟨59, _⟩ => ⟨S8, .i1⟩
  | .hbm, ⟨60, _⟩ => ⟨S1024x8x64, .f32⟩
  | .hbm, ⟨61, _⟩ => ⟨S1024x8x64, .i1⟩
  | .hbm, ⟨62, _⟩ => ⟨S_, .f32⟩
  | .hbm, ⟨63, _⟩ => ⟨S1024x8x64, .f32⟩
  | .hbm, ⟨64, _⟩ => ⟨S1024x8x64, .f32⟩
  | .hbm, ⟨65, _⟩ => ⟨S1024x512, .f32⟩
  | .hbm, ⟨66, _⟩ => ⟨S1024x1536, .f32⟩
  | .hbm, ⟨67, _⟩ => ⟨S_, .f32⟩
  | .hbm, ⟨68, _⟩ => ⟨S1024x1536, .f32⟩
  | .hbm, ⟨69, _⟩ => ⟨S1024x1536, .f32⟩
  | .hbm, ⟨70, _⟩ => ⟨S1024x512, .f32⟩
  | .hbm, ⟨71, _⟩ => ⟨S1024x512, .f32⟩
  | .hbm, ⟨72, _⟩ => ⟨S1024x256, .f32⟩
  | .hbm, ⟨73, _⟩ => ⟨S1024x128, .f32⟩
  | .hbm, ⟨74, _⟩ => ⟨S1024x128, .f32⟩
  | .hbm, ⟨75, _⟩ => ⟨S1024x128, .f32⟩
  | .hbm, ⟨76, _⟩ => ⟨S1024x24, .f32⟩
  | .hbm, ⟨77, _⟩ => ⟨S_, .i32⟩
  | .hbm, ⟨78, _⟩ => ⟨S_, .f32⟩
  | .hbm, ⟨79, _⟩ => ⟨S1024x128, .f32⟩
  | .hbm, ⟨80, _⟩ => ⟨S1024x8, .f32⟩
  | .hbm, ⟨81, _⟩ => ⟨S_, .i32⟩
  | .hbm, ⟨82, _⟩ => ⟨S_, .f32⟩
  | .hbm, ⟨83, _⟩ => ⟨S1024x128, .f32⟩
  | .hbm, ⟨84, _⟩ => ⟨S1024x7040, .f32⟩
  | .hbm, ⟨85, _⟩ => ⟨S1024x7040, .bf16⟩
  | .hbm, ⟨86, _⟩ => ⟨S16384x7040, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_cst_1 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_c_2 : Ref sig .tc := ⟨.hbm, 77, rfl⟩
abbrev main_call2_v0 : Ref sig .tc := ⟨.hbm, 78, rfl⟩
abbrev main_v26 : Ref sig .tc := ⟨.hbm, 79, rfl⟩
abbrev main_v27 : Ref sig .tc := ⟨.hbm, 80, rfl⟩
abbrev main_c_3 : Ref sig .tc := ⟨.hbm, 81, rfl⟩
abbrev main_call3_v0 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InFRefIdeal.lean ====
abbrev S1x16384x1024 : Shape := ⟨3, ![1, 16384, 1024]⟩
abbrev S1024 : Shape := ⟨1, ![1024]⟩
abbrev S1024x8224 : Shape := ⟨2, ![1024, 8224]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x8224 : Shape := ⟨3, ![1, 16384, 8224]⟩
abbrev S16384x8224 : Shape := ⟨2, ![16384, 8224]⟩
abbrev S16384x512 : Shape := ⟨2, ![16384, 512]⟩
abbrev S16384x768 : Shape := ⟨2, ![16384, 768]⟩
abbrev S16384x24 : Shape := ⟨2, ![16384, 24]⟩
abbrev S16384x1024 : Shape := ⟨2, ![16384, 1024]⟩
abbrev S16384x8 : Shape := ⟨2, ![16384, 8]⟩
abbrev S16384x256 : Shape := ⟨2, ![16384, 256]⟩
abbrev S16384x1536 : Shape := ⟨2, ![16384, 1536]⟩
abbrev S16384x2x4x64 : Shape := ⟨4, ![16384, 2, 4, 64]⟩
abbrev S16384x4x2x64 : Shape := ⟨4, ![16384, 4, 2, 64]⟩
abbrev S16384x128 : Shape := ⟨2, ![16384, 128]⟩
abbrev S16384x7040 : Shape := ⟨2, ![16384, 7040]⟩

abbrev nBuf : Space → Nat
  | .hbm => 57
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x8224, .f32⟩
  | .hbm, ⟨3, _⟩ => ⟨S1x16384x1024, .f32⟩
  | .hbm, ⟨4, _⟩ => ⟨S_, .f32⟩
  | .hbm, ⟨5, _⟩ => ⟨S1x16384, .f32⟩
  | .hbm, ⟨6, _⟩ => ⟨S1x16384x1, .f32⟩
  | .hbm, ⟨7, _⟩ => ⟨S_, .f32⟩
  | .hbm, ⟨8, _⟩ => ⟨S1x16384x1, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S1x16384x1, .f32⟩
  | .hbm, ⟨14, _⟩ => ⟨S1x16384x1024, .f32⟩
  | .hbm, ⟨15, _⟩ => ⟨S1x16384x1024, .f32⟩
  | .hbm, ⟨16, _⟩ => ⟨S1x1x1024, .f32⟩
  | .hbm, ⟨17, _⟩ => ⟨S1x16384x1024, .f32⟩
  | .hbm, ⟨18, _⟩ => ⟨S1x16384x1024, .f32⟩
  | .hbm, ⟨19, _⟩ => ⟨S1x16384x8224, .f32⟩
  | .hbm, ⟨20, _⟩ => ⟨S16384x8224, .f32⟩
  | .hbm, ⟨21, _⟩ => ⟨S16384x512, .f32⟩
  | .hbm, ⟨22, _⟩ => ⟨S16384x768, .f32⟩
  | .hbm, ⟨23, _⟩ => ⟨S16384x24, .f32⟩
  | .hbm, ⟨24, _⟩ => ⟨S16384x512, .f32⟩
  | .hbm, ⟨25, _⟩ => ⟨S16384x1024, .f32⟩
  | .hbm, ⟨26, _⟩ => ⟨S16384x8, .f32⟩
  | .hbm, ⟨27, _⟩ => ⟨S16384x512, .f32⟩
  | .hbm, ⟨28, _⟩ => ⟨S16384x512, .f32⟩
  | .hbm, ⟨29, _⟩ => ⟨S16384x256, .f32⟩
  | .hbm, ⟨30, _⟩ => ⟨S16384x512, .f32⟩
  | .hbm, ⟨31, _⟩ => ⟨S16384x1536, .f32⟩
  | .hbm, ⟨32, _⟩ => ⟨S16384x1024, .f32⟩
  | .hbm, ⟨33, _⟩ => ⟨S16384x512, .f32⟩
  | .hbm, ⟨34, _⟩ => ⟨S16384x256, .f32⟩
  | .hbm, ⟨35, _⟩ => ⟨S16384x256, .f32⟩
  | .hbm, ⟨36, _⟩ => ⟨S16384x2x4x64, .f32⟩
  | .hbm, ⟨37, _⟩ => ⟨S16384x4x2x64, .f32⟩
  | .hbm, ⟨38, _⟩ => ⟨S16384x512, .f32⟩
  | .hbm, ⟨39, _⟩ => ⟨S16384x2x4x64, .f32⟩
  | .hbm, ⟨40, _⟩ => ⟨S16384x4x2x64, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x1536, .f32⟩
  | .hbm, ⟨47, _⟩ => ⟨S16384x1536, .f32⟩
  | .hbm, ⟨48, _⟩ => ⟨S16384x256, .f32⟩
  | .hbm, ⟨49, _⟩ => ⟨S16384x128, .f32⟩
  | .hbm, ⟨50, _⟩ => ⟨S_, .i32⟩
  | .hbm, ⟨51, _⟩ => ⟨S_, .f32⟩
  | .hbm, ⟨52, _⟩ => ⟨S16384x128, .f32⟩
  | .hbm, ⟨53, _⟩ => ⟨S_, .i32⟩
  | .hbm, ⟨54, _⟩ => ⟨S_, .f32⟩
  | .hbm, ⟨55, _⟩ => ⟨S16384x128, .f32⟩
  | .hbm, ⟨56, _⟩ => ⟨S16384x7040, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c : Ref sig .tc := ⟨.hbm, 50, rfl⟩
abbrev main_call0_v0 : Ref sig .tc := ⟨.hbm, 51, rfl⟩
abbrev main_v42 : Ref sig .tc := ⟨.hbm, 52, rfl⟩
abbrev main_c_4 : Ref sig .tc := ⟨.hbm, 53, rfl⟩
abbrev main_call1_v0 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== InB.lean ====
abbrev S1x16384x1024 : Shape := ⟨3, ![1, 16384, 1024]⟩
abbrev S1024 : Shape := ⟨1, ![1024]⟩
abbrev S1024x8224 : Shape := ⟨2, ![1024, 8224]⟩
abbrev S16384x1024 : Shape := ⟨2, ![16384, 1024]⟩
abbrev S1x1024 : Shape := ⟨2, ![1, 1024]⟩
abbrev S1024x512 : Shape := ⟨2, ![1024, 512]⟩
abbrev S_ : Shape := ⟨0, ![]⟩
abbrev S1024x256 : Shape := ⟨2, ![1024, 256]⟩
abbrev S1024x128 : Shape := ⟨2, ![1024, 128]⟩
abbrev S1024x1408 : Shape := ⟨2, ![1024, 1408]⟩
abbrev S16384x1408 : Shape := ⟨2, ![16384, 1408]⟩
abbrev S1024x1024 : Shape := ⟨2, ![1024, 1024]⟩
abbrev S1024x1 : Shape := ⟨2, ![1024, 1]⟩

abbrev nBuf : Space → Nat
  | .hbm => 21
  | .vmem => 7
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x8224, .f32⟩
  | .hbm, ⟨3, _⟩ => ⟨S16384x1024, .f32⟩
  | .hbm, ⟨4, _⟩ => ⟨S1x1024, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x1408, .f32⟩
  | .hbm, ⟨19, _⟩ => ⟨S1024x1408, .bf16⟩
  | .hbm, ⟨20, _⟩ => ⟨S16384x1408, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InBRefIdeal.lean ====
abbrev S1x16384x1024 : Shape := ⟨3, ![1, 16384, 1024]⟩
abbrev S1024 : Shape := ⟨1, ![1024]⟩
abbrev S1024x8224 : Shape := ⟨2, ![1024, 8224]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x8224 : Shape := ⟨3, ![1, 16384, 8224]⟩
abbrev S16384x8224 : Shape := ⟨2, ![16384, 8224]⟩
abbrev S16384x512 : Shape := ⟨2, ![16384, 512]⟩
abbrev S16384x768 : Shape := ⟨2, ![16384, 768]⟩
abbrev S16384x24 : Shape := ⟨2, ![16384, 24]⟩
abbrev S16384x1024 : Shape := ⟨2, ![16384, 1024]⟩
abbrev S16384x8 : Shape := ⟨2, ![16384, 8]⟩
abbrev S16384x256 : Shape := ⟨2, ![16384, 256]⟩
abbrev S16384x1536 : Shape := ⟨2, ![16384, 1536]⟩
abbrev S16384x128 : Shape := ⟨2, ![16384, 128]⟩
abbrev S16384x1408 : Shape := ⟨2, ![16384, 1408]⟩

abbrev nBuf : Space → Nat
  | .hbm => 46
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x8224, .f32⟩
  | .hbm, ⟨3, _⟩ => ⟨S1x16384x1024, .f32⟩
  | .hbm, ⟨4, _⟩ => ⟨S_, .f32⟩
  | .hbm, ⟨5, _⟩ => ⟨S1x16384, .f32⟩
  | .hbm, ⟨6, _⟩ => ⟨S1x16384x1, .f32⟩
  | .hbm, ⟨7, _⟩ => ⟨S_, .f32⟩
  | .hbm, ⟨8, _⟩ => ⟨S1x16384x1, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S1x16384x1, .f32⟩
  | .hbm, ⟨14, _⟩ => ⟨S1x16384x1024, .f32⟩
  | .hbm, ⟨15, _⟩ => ⟨S1x16384x1024, .f32⟩
  | .hbm, ⟨16, _⟩ => ⟨S1x1x1024, .f32⟩
  | .hbm, ⟨17, _⟩ => ⟨S1x16384x1024, .f32⟩
  | .hbm, ⟨18, _⟩ => ⟨S1x16384x1024, .f32⟩
  | .hbm, ⟨19, _⟩ => ⟨S1x16384x8224, .f32⟩
  | .hbm, ⟨20, _⟩ => ⟨S16384x8224, .f32⟩
  | .hbm, ⟨21, _⟩ => ⟨S16384x512, .f32⟩
  | .hbm, ⟨22, _⟩ => ⟨S16384x768, .f32⟩
  | .hbm, ⟨23, _⟩ => ⟨S16384x24, .f32⟩
  | .hbm, ⟨24, _⟩ => ⟨S16384x512, .f32⟩
  | .hbm, ⟨25, _⟩ => ⟨S16384x1024, .f32⟩
  | .hbm, ⟨26, _⟩ => ⟨S16384x8, .f32⟩
  | .hbm, ⟨27, _⟩ => ⟨S16384x512, .f32⟩
  | .hbm, ⟨28, _⟩ => ⟨S16384x512, .f32⟩
  | .hbm, ⟨29, _⟩ => ⟨S16384x256, .f32⟩
  | .hbm, ⟨30, _⟩ => ⟨S16384x512, .f32⟩
  | .hbm, ⟨31, _⟩ => ⟨S16384x1536, .f32⟩
  | .hbm, ⟨32, _⟩ => ⟨S16384x1024, .f32⟩
  | .hbm, ⟨33, _⟩ => ⟨S16384x512, .f32⟩
  | .hbm, ⟨34, _⟩ => ⟨S16384x256, .f32⟩
  | .hbm, ⟨35, _⟩ => ⟨S16384x256, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x256, .f32⟩
  | .hbm, ⟨41, _⟩ => ⟨S16384x256, .f32⟩
  | .hbm, ⟨42, _⟩ => ⟨S16384x512, .f32⟩
  | .hbm, ⟨43, _⟩ => ⟨S16384x128, .f32⟩
  | .hbm, ⟨44, _⟩ => ⟨S16384x1408, .f32⟩
  | .hbm, ⟨45, _⟩ => ⟨S16384x1408, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Out.lean ====
abbrev S1x16384x1024 : Shape := ⟨3, ![1, 16384, 1024]⟩
abbrev S1x16384x8x64 : Shape := ⟨4, ![1, 16384, 8, 64]⟩
abbrev S1x16384x512 : Shape := ⟨3, ![1, 16384, 512]⟩
abbrev S1x16384x8 : Shape := ⟨3, ![1, 16384, 8]⟩
abbrev S1x16384x4x64 : Shape := ⟨4, ![1, 16384, 4, 64]⟩
abbrev S1x16384x256 : Shape := ⟨3, ![1, 16384, 256]⟩
abbrev S2304x1024 : Shape := ⟨2, ![2304, 1024]⟩
abbrev S1024 : Shape := ⟨1, ![1024]⟩
abbrev S8 : Shape := ⟨1, ![8]⟩
abbrev S_ : Shape := ⟨0, ![]⟩
abbrev S16384x1024 : Shape := ⟨2, ![16384, 1024]⟩
abbrev S16384x512 : Shape := ⟨2, ![16384, 512]⟩
abbrev S16384x8x64 : Shape := ⟨3, ![16384, 8, 64]⟩
abbrev S8x1 : Shape := ⟨2, ![8, 1]⟩
abbrev S1 : Shape := ⟨1, ![1]⟩
abbrev S1x1 : Shape := ⟨2, ![1, 1]⟩
abbrev S16384x3072 : Shape := ⟨2, ![16384, 3072]⟩
abbrev S16384x256 : Shape := ⟨2, ![16384, 256]⟩
abbrev S16384x640 : Shape := ⟨2, ![16384, 640]⟩
abbrev S16384x7040 : Shape := ⟨2, ![16384, 7040]⟩
abbrev S512x1024 : Shape := ⟨2, ![512, 1024]⟩
abbrev S8x64x1024 : Shape := ⟨3, ![8, 64, 1024]⟩
abbrev S16384x8 : Shape := ⟨2, ![16384, 8]⟩
abbrev S1x1024 : Shape := ⟨2, ![1, 1024]⟩
abbrev S512x512 : Shape := ⟨2, ![512, 512]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 132
  | .vmem => 34
  | .smem => 0
  | _ => 0

abbrev hbmTy0_0 (i : Nat) : BufTy := match i % 128 with
  | 0 => ⟨S1x16384x1024, .f32⟩
  | 1 => ⟨S1x16384x8x64, .f32⟩
  | 2 => ⟨S1x16384x512, .f32⟩
  | 3 => ⟨S1x16384x512, .f32⟩
  | 4 => ⟨S1x16384x8x64, .f32⟩
  | 5 => ⟨S1x16384x512, .f32⟩
  | 6 => ⟨S1x16384x8x64, .f32⟩
  | 7 => ⟨S1x16384x8x64, .f32⟩
  | 8 => ⟨S1x16384x8x64, .f32⟩
  | 9 => ⟨S1x16384x8, .f32⟩
  | 10 => ⟨S1x16384x8, .f32⟩
  | 11 => ⟨S1x16384x8, .f32⟩
  | 12 => ⟨S1x16384x512, .f32⟩
  | 13 => ⟨S1x16384x4x64, .f32⟩
  | 14 => ⟨S1x16384x256, .f32⟩
  | 15 => ⟨S2304x1024, .f32⟩
  | 16 => ⟨S1024, .f32⟩
  | 17 => ⟨S8, .i32⟩
  | 18 => ⟨S8, .i32⟩
  | 19 => ⟨S8, .i32⟩
  | 20 => ⟨S_, .f32⟩
  | 21 => ⟨S16384x1024, .f32⟩
  | 22 => ⟨S16384x512, .f32⟩
  | 23 => ⟨S_, .f32⟩
  | 24 => ⟨S16384x512, .f32⟩
  | 25 => ⟨S16384x512, .f32⟩
  | 26 => ⟨S16384x8x64, .f32⟩
  | 27 => ⟨S_, .i32⟩
  | 28 => ⟨S8, .i32⟩
  | 29 => ⟨S8, .i1⟩
  | 30 => ⟨S_, .i32⟩
  | 31 => ⟨S8, .i32⟩
  | 32 => ⟨S8, .i32⟩
  | 33 => ⟨S8, .i32⟩
  | 34 => ⟨S8x1, .i32⟩
  | 35 => ⟨S1, .i32⟩
  | 36 => ⟨S_, .i32⟩
  | 37 => ⟨S8x1, .i32⟩
  | 38 => ⟨S8x1, .i1⟩
  | 39 => ⟨S1x1, .i32⟩
  | 40 => ⟨S8x1, .i32⟩
  | 41 => ⟨S8x1, .i1⟩
  | 42 => ⟨S8x1, .i1⟩
  | 43 => ⟨S_, .i1⟩
  | 44 => ⟨S8, .i1⟩
  | 45 => ⟨S16384x8x64, .f32⟩
  | 46 => ⟨S16384x8x64, .i1⟩
  | 47 => ⟨S_, .f32⟩
  | 48 => ⟨S16384x8x64, .f32⟩
  | 49 => ⟨S16384x8x64, .f32⟩
  | 50 => ⟨S16384x512, .f32⟩
  | 51 => ⟨S16384x512, .f32⟩
  | 52 => ⟨S_, .f32⟩
  | 53 => ⟨S16384x3072, .f32⟩
  | 54 => ⟨S16384x256, .f32⟩
  | 55 => ⟨S_, .f32⟩
  | 56 => ⟨S16384x640, .f32⟩
  | 57 => ⟨S16384x7040, .f32⟩
  | 58 => ⟨S512x1024, .f32⟩
  | 59 => ⟨S8x64x1024, .f32⟩
  | 60 => ⟨S_, .i32⟩
  | 61 => ⟨S8, .i32⟩
  | 62 => ⟨S8, .i1⟩
  | 63 => ⟨S_, .i32⟩
  | 64 => ⟨S8, .i32⟩
  | 65 => ⟨S8, .i32⟩
  | 66 => ⟨S8, .i32⟩
  | 67 => ⟨S8x1, .i32⟩
  | 68 => ⟨S1, .i32⟩
  | 69 => ⟨S_, .i32⟩
  | 70 => ⟨S8x1, .i32⟩
  | 71 => ⟨S8x1, .i1⟩
  | 72 => ⟨S1x1, .i32⟩
  | 73 => ⟨S8x1, .i32⟩
  | 74 => ⟨S8x1, .i1⟩
  | 75 => ⟨S8x1, .i1⟩
  | 76 => ⟨S_, .i1⟩
  | 77 => ⟨S8, .i1⟩
  | 78 => ⟨S8x64x1024, .f32⟩
  | 79 => ⟨S8x64x1024, .i1⟩
  | 80 => ⟨S_, .f32⟩
  | 81 => ⟨S8x64x1024, .f32⟩
  | 82 => ⟨S8x64x1024, .f32⟩
  | 83 => ⟨S512x1024, .f32⟩
  | 84 => ⟨S_, .i32⟩
  | 85 => ⟨S1, .i32⟩
  | 86 => ⟨S2304x1024, .f32⟩
  | 87 => ⟨S16384x1024, .f32⟩
  | 88 => ⟨S16384x512, .f32⟩
  | 89 => ⟨S16384x512, .f32⟩
  | 90 => ⟨S16384x512, .f32⟩
  | 91 => ⟨S16384x8x64, .f32⟩
  | 92 => ⟨S_, .i32⟩
  | 93 => ⟨S8, .i32⟩
  | 94 => ⟨S8, .i1⟩
  | 95 => ⟨S_, .i32⟩
  | 96 => ⟨S8, .i32⟩
  | 97 => ⟨S8, .i32⟩
  | 98 => ⟨S8, .i32⟩
  | 99 => ⟨S8x1, .i32⟩
  | 100 => ⟨S1, .i32⟩
  | 101 => ⟨S_, .i32⟩
  | 102 => ⟨S8x1, .i32⟩
  | 103 => ⟨S8x1, .i1⟩
  | 104 => ⟨S1x1, .i32⟩
  | 105 => ⟨S8x1, .i32⟩
  | 106 => ⟨S8x1, .i1⟩
  | 107 => ⟨S8x1, .i1⟩
  | 108 => ⟨S_, .i1⟩
  | 109 => ⟨S8, .i1⟩
  | 110 => ⟨S16384x8x64, .f32⟩
  | 111 => ⟨S16384x8x64, .i1⟩
  | 112 => ⟨S_, .f32⟩
  | 113 => ⟨S16384x8x64, .f32⟩
  | 114 => ⟨S16384x8x64, .f32⟩
  | 115 => ⟨S16384x512, .f32⟩
  | 116 => ⟨S16384x512, .f32⟩
  | 117 => ⟨S16384x512, .f32⟩
  | 118 => ⟨S16384x512, .f32⟩
  | 119 => ⟨S16384x8, .f32⟩
  | 120 => ⟨S16384x8x64, .f32⟩
  | 121 => ⟨S16384x512, .f32⟩
  | 122 => ⟨S16384x8, .f32⟩
  | 123 => ⟨S16384x8x64, .f32⟩
  | 124 => ⟨S16384x512, .f32⟩
  | 125 => ⟨S16384x8, .f32⟩
  | 126 => ⟨S16384x8x64, .f32⟩
  | 127 => ⟨S16384x512, .f32⟩
  | _ => ⟨S1x16384x1024, .f32⟩

abbrev hbmTy0_1 (i : Nat) : BufTy := match i % 128 with
  | 0 => ⟨S16384x256, .f32⟩
  | 1 => ⟨S2304x1024, .bf16⟩
  | 2 => ⟨S1x1024, .f32⟩
  | 3 => ⟨S16384x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x256, .f32⟩
  | .local _ .vmem, ⟨27, _⟩ => ⟨S512x256, .f32⟩
  | .local _ .vmem, ⟨28, _⟩ => ⟨S512x256, .f32⟩
  | .local _ .vmem, ⟨29, _⟩ => ⟨S512x256, .f32⟩
  | .local _ .vmem, ⟨30, _⟩ => ⟨S2304x1024, .bf16⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_c_0 : Ref sig .tc := ⟨.hbm, 18, rfl⟩
abbrev main_c_1 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_2 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_cst_3 : Ref sig .tc := ⟨.hbm, 52, rfl⟩
abbrev main_v8 : Ref sig .tc := ⟨.hbm, 53, rfl⟩
abbrev main_v9 : Ref sig .tc := ⟨.hbm, 54, rfl⟩
abbrev main_cst_4 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v14 : Ref sig .tc := ⟨.hbm, 82, rfl⟩
abbrev main_v15 : Ref sig .tc := ⟨.hbm, 83, rfl⟩
abbrev main_c_5 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_v26 : Ref sig .tc := ⟨.hbm, 117, rfl⟩
abbrev main_v27 : Ref sig .tc := ⟨.hbm, 118, rfl⟩
abbrev main_v28 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_v36 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_v40 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S2304x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== OutRefIdeal.lean ====
abbrev S1x16384x1024 : Shape := ⟨3, ![1, 16384, 1024]⟩
abbrev S1x16384x8x64 : Shape := ⟨4, ![1, 16384, 8, 64]⟩
abbrev S1x16384x512 : Shape := ⟨3, ![1, 16384, 512]⟩
abbrev S1x16384x8 : Shape := ⟨3, ![1, 16384, 8]⟩
abbrev S1x16384x4x64 : Shape := ⟨4, ![1, 16384, 4, 64]⟩
abbrev S1x16384x256 : Shape := ⟨3, ![1, 16384, 256]⟩
abbrev S2304x1024 : Shape := ⟨2, ![2304, 1024]⟩
abbrev S1024 : Shape := ⟨1, ![1024]⟩
abbrev S1x16384x1x8 : Shape := ⟨4, ![1, 16384, 1, 8]⟩
abbrev S1x16384x3x8 : Shape := ⟨4, ![1, 16384, 3, 8]⟩
abbrev S_ : Shape := ⟨0, ![]⟩
abbrev S1x16384x1x8x64 : Shape := ⟨5, ![1, 16384, 1, 8, 64]⟩
abbrev S1x16384x3x8x64 : Shape := ⟨5, ![1, 16384, 3, 8, 64]⟩
abbrev S1x16384x2304 : Shape := ⟨3, ![1, 16384, 2304]⟩
abbrev S1x16384 : Shape := ⟨2, ![1, 16384]⟩
abbrev S1x16384x1 : Shape := ⟨3, ![1, 16384, 1]⟩
abbrev S1x1x1024 : Shape := ⟨3, ![1, 1, 1024]⟩
abbrev S16384x1024 : Shape := ⟨2, ![16384, 1024]⟩

abbrev nBuf : Space → Nat
  | .hbm => 104
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x8x64, .f32⟩
  | .hbm, ⟨2, _⟩ => ⟨S1x16384x512, .f32⟩
  | .hbm, ⟨3, _⟩ => ⟨S1x16384x512, .f32⟩
  | .hbm, ⟨4, _⟩ => ⟨S1x16384x8x64, .f32⟩
  | .hbm, ⟨5, _⟩ => ⟨S1x16384x512, .f32⟩
  | .hbm, ⟨6, _⟩ => ⟨S1x16384x8x64, .f32⟩
  | .hbm, ⟨7, _⟩ => ⟨S1x16384x8x64, .f32⟩
  | .hbm, ⟨8, _⟩ => ⟨S1x16384x8x64, .f32⟩
  | .hbm, ⟨9, _⟩ => ⟨S1x16384x8, .f32⟩
  | .hbm, ⟨10, _⟩ => ⟨S1x16384x8, .f32⟩
  | .hbm, ⟨11, _⟩ => ⟨S1x16384x8, .f32⟩
  | .hbm, ⟨12, _⟩ => ⟨S1x16384x512, .f32⟩
  | .hbm, ⟨13, _⟩ => ⟨S1x16384x4x64, .f32⟩
  | .hbm, ⟨14, _⟩ => ⟨S1x16384x256, .f32⟩
  | .hbm, ⟨15, _⟩ => ⟨S2304x1024, .f32⟩
  | .hbm, ⟨16, _⟩ => ⟨S1024, .f32⟩
  | .hbm, ⟨17, _⟩ => ⟨S1x16384x1x8, .f32⟩
  | .hbm, ⟨18, _⟩ => ⟨S1x16384x1x8, .f32⟩
  | .hbm, ⟨19, _⟩ => ⟨S1x16384x1x8, .f32⟩
  | .hbm, ⟨20, _⟩ => ⟨S1x16384x3x8, .f32⟩
  | .hbm, ⟨21, _⟩ => ⟨S_, .f32⟩
  | .hbm, ⟨22, _⟩ => ⟨S1x16384x8, .f32⟩
  | .hbm, ⟨23, _⟩ => ⟨S_, .f32⟩
  | .hbm, ⟨24, _⟩ => ⟨S1x16384x8, .f32⟩
  | .hbm, ⟨25, _⟩ => ⟨S1x16384x8, .f32⟩
  | .hbm, ⟨26, _⟩ => ⟨S1x16384x1x8, .f32⟩
  | .hbm, ⟨27, _⟩ => ⟨S1x16384x3x8, .f32⟩
  | .hbm, ⟨28, _⟩ => ⟨S1x16384x3x8, .f32⟩
  | .hbm, ⟨29, _⟩ => ⟨S1x16384x3x8, .f32⟩
  | .hbm, ⟨30, _⟩ => ⟨S_, .f32⟩
  | .hbm, ⟨31, _⟩ => ⟨S1x16384x8, .f32⟩
  | .hbm, ⟨32, _⟩ => ⟨S1x16384x1x8, .f32⟩
  | .hbm, ⟨33, _⟩ => ⟨S1x16384x3x8, .f32⟩
  | .hbm, ⟨34, _⟩ => ⟨S1x16384x3x8, .f32⟩
  | .hbm, ⟨35, _⟩ => ⟨S1x16384x1x8x64, .f32⟩
  | .hbm, ⟨36, _⟩ => ⟨S1x16384x1x8x64, .f32⟩
  | .hbm, ⟨37, _⟩ => ⟨S1x16384x1x8x64, .f32⟩
  | .hbm, ⟨38, _⟩ => ⟨S1x16384x3x8x64, .f32⟩
  | .hbm, ⟨39, _⟩ => ⟨S1x16384x8x64, .f32⟩
  | .hbm, ⟨40, _⟩ => ⟨S1x16384x512, .f32⟩
  | .hbm, ⟨41, _⟩ => ⟨S1x16384x512, .f32⟩
  | .hbm, ⟨42, _⟩ => ⟨S1x16384x512, .f32⟩
  | .hbm, ⟨43, _⟩ => ⟨S_, .f32⟩
  | .hbm, ⟨44, _⟩ => ⟨S1x16384x512, .f32⟩
  | .hbm, ⟨45, _⟩ => ⟨S1x16384x512, .f32⟩
  | .hbm, ⟨46, _⟩ => ⟨S_, .f32⟩
  | .hbm, ⟨47, _⟩ => ⟨S1x16384x512, .f32⟩
  | .hbm, ⟨48, _⟩ => ⟨S1x16384x512, .f32⟩
  | .hbm, ⟨49, _⟩ => ⟨S1x16384x512, .f32⟩
  | .hbm, ⟨50, _⟩ => ⟨S1x16384x512, .f32⟩
  | .hbm, ⟨51, _⟩ => ⟨S1x16384x512, .f32⟩
  | .hbm, ⟨52, _⟩ => ⟨S1x16384x512, .f32⟩
  | .hbm, ⟨53, _⟩ => ⟨S1x16384x512, .f32⟩
  | .hbm, ⟨54, _⟩ => ⟨S_, .f32⟩
  | .hbm, ⟨55, _⟩ => ⟨S1x16384x512, .f32⟩
  | .hbm, ⟨56, _⟩ => ⟨S1x16384x512, .f32⟩
  | .hbm, ⟨57, _⟩ => ⟨S_, .f32⟩
  | .hbm, ⟨58, _⟩ => ⟨S1x16384x512, .f32⟩
  | .hbm, ⟨59, _⟩ => ⟨S1x16384x512, .f32⟩
  | .hbm, ⟨60, _⟩ => ⟨S1x16384x512, .f32⟩
  | .hbm, ⟨61, _⟩ => ⟨S1x16384x512, .f32⟩
  | .hbm, ⟨62, _⟩ => ⟨S1x16384x512, .f32⟩
  | .hbm, ⟨63, _⟩ => ⟨S1x16384x512, .f32⟩
  | .hbm, ⟨64, _⟩ => ⟨S1x16384x512, .f32⟩
  | .hbm, ⟨65, _⟩ => ⟨S_, .f32⟩
  | .hbm, ⟨66, _⟩ => ⟨S1x16384x512, .f32⟩
  | .hbm, ⟨67, _⟩ => ⟨S1x16384x512, .f32⟩
  | .hbm, ⟨68, _⟩ => ⟨S_, .f32⟩
  | .hbm, ⟨69, _⟩ => ⟨S1x16384x512, .f32⟩
  | .hbm, ⟨70, _⟩ => ⟨S1x16384x512, .f32⟩
  | .hbm, ⟨71, _⟩ => ⟨S1x16384x512, .f32⟩
  | .hbm, ⟨72, _⟩ => ⟨S1x16384x512, .f32⟩
  | .hbm, ⟨73, _⟩ => ⟨S1x16384x256, .f32⟩
  | .hbm, ⟨74, _⟩ => ⟨S1x16384x256, .f32⟩
  | .hbm, ⟨75, _⟩ => ⟨S1x16384x256, .f32⟩
  | .hbm, ⟨76, _⟩ => ⟨S_, .f32⟩
  | .hbm, ⟨77, _⟩ => ⟨S1x16384x256, .f32⟩
  | .hbm, ⟨78, _⟩ => ⟨S1x16384x256, .f32⟩
  | .hbm, ⟨79, _⟩ => ⟨S_, .f32⟩
  | .hbm, ⟨80, _⟩ => ⟨S1x16384x256, .f32⟩
  | .hbm, ⟨81, _⟩ => ⟨S1x16384x256, .f32⟩
  | .hbm, ⟨82, _⟩ => ⟨S1x16384x256, .f32⟩
  | .hbm, ⟨83, _⟩ => ⟨S1x16384x256, .f32⟩
  | .hbm, ⟨84, _⟩ => ⟨S1x16384x2304, .f32⟩
  | .hbm, ⟨85, _⟩ => ⟨S1x16384x1024, .f32⟩
  | .hbm, ⟨86, _⟩ => ⟨S1x16384x1024, .f32⟩
  | .hbm, ⟨87, _⟩ => ⟨S_, .f32⟩
  | .hbm, ⟨88, _⟩ => ⟨S1x16384, .f32⟩
  | .hbm, ⟨89, _⟩ => ⟨S1x16384x1, .f32⟩
  | .hbm, ⟨90, _⟩ => ⟨S_, .f32⟩
  | .hbm, ⟨91, _⟩ => ⟨S1x16384x1, .f32⟩
  | .hbm, ⟨92, _⟩ => ⟨S1x16384x1, .f32⟩
  | .hbm, ⟨93, _⟩ => ⟨S_, .f32⟩
  | .hbm, ⟨94, _⟩ => ⟨S1x16384x1, .f32⟩
  | .hbm, ⟨95, _⟩ => ⟨S1x16384x1, .f32⟩
  | .hbm, ⟨96, _⟩ => ⟨S1x16384x1, .f32⟩
  | .hbm, ⟨97, _⟩ => ⟨S1x16384x1024, .f32⟩
  | .hbm, ⟨98, _⟩ => ⟨S1x16384x1024, .f32⟩
  | .hbm, ⟨99, _⟩ => ⟨S1x1x1024, .f32⟩
  | .hbm, ⟨100, _⟩ => ⟨S1x16384x1024, .f32⟩
  | .hbm, ⟨101, _⟩ => ⟨S1x16384x1024, .f32⟩
  | .hbm, ⟨102, _⟩ => ⟨S1x16384x1024, .f32⟩
  | .hbm, ⟨103, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_call3_v0 : Ref sig .tc := ⟨.hbm, 74, rfl⟩
abbrev main_call3_v1 : Ref sig .tc := ⟨.hbm, 75, rfl⟩
abbrev main_call3_cst : Ref sig .tc := ⟨.hbm, 76, rfl⟩
abbrev main_call3_v2 : Ref sig .tc := ⟨.hbm, 77, rfl⟩
abbrev main_call3_v3 : Ref sig .tc := ⟨.hbm, 78, rfl⟩
abbrev main_call3_cst_0 : Ref sig .tc := ⟨.hbm, 79, rfl⟩
abbrev main_call3_v4 : Ref sig .tc := ⟨.hbm, 80, rfl⟩
abbrev main_call3_v5 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_cst_2 : Ref sig .tc := ⟨.hbm, 87, rfl⟩
abbrev main_v35 : Ref sig .tc := ⟨.hbm, 88, rfl⟩
abbrev main_v36 : Ref sig .tc := ⟨.hbm, 89, rfl⟩
abbrev main_cst_3 : Ref sig .tc := ⟨.hbm, 90, rfl⟩
abbrev main_v37 : Ref sig .tc := ⟨.hbm, 91, rfl⟩
abbrev main_v38 : Ref sig .tc := ⟨.hbm, 92, rfl⟩
abbrev main_cst_4 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩

abbrev nD : Nat := 1
abbrev τ : Topo := Topo.v7x

variable {F : FTy → Type} [FloatOps F]
-- ==== Proof.Soft.lean ====
/-
  Extended-real arithmetic of a masked softmax row: exponentials of scores less their maximum lie between 0 and 1, their
  sum is a positive real once one score is a real number, and dividing the weighted sum by it is the weighted sum of the
  quotients, whatever the values weighted.
-/
module

public import Idealize.ShloMosaic.Lib.Pointwise

@[expose] public section

noncomputable section

namespace Cert.Soft

open Idealize.ShloMosaic

/-- A factor that is a nonnegative real number goes through a finite sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- A finite sum of real numbers, read as extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a nonpositive extended real is a real number between 0 and 1. -/
theorem exp_le_one {x : EReal} (hx : x ≤ 0) : ∃ r : ℝ, 0 ≤ r ∧ r ≤ 1 ∧ Ideal.exp x = (r : EReal) := by
  induction x using EReal.rec with
  | bot => exact ⟨0, le_refl _, zero_le_one, by simp⟩
  | top => exact absurd hx (by simp)
  | coe a => exact ⟨Real.exp a, (Real.exp_pos a).le, Real.exp_le_one_iff.mpr (EReal.coe_nonpos.mp hx), rfl⟩

/-- The largest of finitely many scores, none counted being minus infinity. -/
def top {n : ℕ} (s : Fin n → EReal) : EReal := Finset.univ.fold max ⊥ s

/-- Every entry is at most the largest. -/
theorem le_top {n : ℕ} (s : Fin n → EReal) (j : Fin n) : s j ≤ top s :=
  (Finset.le_fold_max _).mpr (.inr ⟨j, Finset.mem_univ j, le_refl _⟩)

/-- The largest is at most any bound of all. -/
theorem top_le {n : ℕ} (s : Fin n → EReal) (M : EReal) (h : ∀ j, s j ≤ M) : top s ≤ M :=
  (Finset.fold_max_le _).mpr ⟨bot_le, fun j _ => h j⟩

/-- The largest score is one of the scores, or there is none above minus infinity. -/
theorem top_mem {n : ℕ} (s : Fin n → EReal) : top s = ⊥ ∨ ∃ j, top s = s j := by
  unfold top
  have : ∀ t : Finset (Fin n), t.fold max ⊥ s = ⊥ ∨ ∃ j, t.fold max ⊥ s = s j := by
    classical
    intro t
    induction t using Finset.induction_on with
    | empty => left; simp
    | insert a t ha ih =>
      rw [Finset.fold_insert ha]
      rcases max_choice (s a) (t.fold max ⊥ s) with h | h
      · right; exact ⟨a, h⟩
      · rw [h]; exact ih
  exact this _

/-- With every score below plus infinity and one of them real, the largest is real. -/
theorem top_real {n : ℕ} (s : Fin n → EReal) (hs : ∀ j, s j ≠ ⊤) (j₀ : Fin n) (h₀ : s j₀ ≠ ⊥) : ∃ M : ℝ, top s = (M : EReal) := by
  have hb : top s ≠ ⊥ := fun h => h₀ (le_bot_iff.mp (h ▸ le_top s j₀))
  have ht : top s ≠ ⊤ := by
    rcases top_mem s with h | ⟨j, h⟩
    · exact absurd h hb
    · rw [h]; exact hs j
  exact ⟨(top s).toReal, (EReal.coe_toReal ht hb).symm⟩

/-- The exponential of a score less the largest. -/
def wt {n : ℕ} (s : Fin n → EReal) (j : Fin n) : EReal := Ideal.exp (s j - top s)

/-- A weight is a real number between 0 and 1. -/
theorem wt_real {n : ℕ} (s : Fin n → EReal) (M : ℝ) (hM : top s = (M : EReal)) (j : Fin n) :
    ∃ r : ℝ, 0 ≤ r ∧ wt s j = (r : EReal) := by
  have : s j - top s ≤ 0 := by
    rw [hM]
    have := le_top s j
    rw [hM] at this
    exact EReal.sub_nonpos.mpr this
  obtain ⟨r, h0, _, h⟩ := exp_le_one this
  exact ⟨r, h0, h⟩

/-- The weights' sum is a positive real number. -/
theorem den_real {n : ℕ} (s : Fin n → EReal) (hs : ∀ j, s j ≠ ⊤) (j₀ : Fin n) (h₀ : s j₀ ≠ ⊥) :
    ∃ d : ℝ, 0 < d ∧ ∑ j, wt s j = (d : EReal) := by
  obtain ⟨M, hM⟩ := top_real s hs j₀ h₀
  choose r hr0 hr using wt_real s M hM
  refine ⟨∑ j, r j, ?_, ?_⟩
  · rcases top_mem s with h | ⟨j, h⟩
    · rw [hM] at h; exact absurd h (EReal.coe_ne_bot M)
    · refine Finset.sum_pos' (fun i _ => hr0 i) ⟨j, Finset.mem_univ j, ?_⟩
      have h1 : wt s j = 1 := by
        unfold wt
        rw [← h, hM, ← EReal.coe_sub, sub_self, Ideal.exp_coe, Real.exp_zero]
        rfl
      rw [hr j] at h1
      have : r j = 1 := by exact_mod_cast h1
      rw [this]; exact one_pos
  · rw [coe_sum]; exact Finset.sum_congr rfl fun j _ => hr j

/-- Dividing by a positive real number is multiplying by its reciprocal. -/
theorem div_pos (x : EReal) (d : ℝ) (hd : 0 < d) : Ideal.div x (d : EReal) = x * ((1 / d : ℝ) : EReal) :=
  Ideal.div_coe hd.ne' x

/-- THE SOFTMAX'S TWO ORDERS: the weighted sum divided by the weights' sum is the sum weighted by the quotients. -/
theorem div_sum {n : ℕ} (s : Fin n → EReal) (hs : ∀ j, s j ≠ ⊤) (j₀ : Fin n) (h₀ : s j₀ ≠ ⊥) (v : Fin n → EReal) :
    Ideal.div (∑ j, wt s j * v j) (∑ j, wt s j) = ∑ j, v j * Ideal.div (wt s j) (∑ j, wt s j) := by
  obtain ⟨d, hd, h⟩ := den_real s hs j₀ h₀
  rw [h, div_pos _ d hd, sum_mul_real _ _ _ (one_div_nonneg.mpr hd.le)]
  refine Finset.sum_congr rfl fun j _ => ?_
  rw [div_pos _ d hd, mul_comm (wt s j) (v j), mul_assoc]

end Cert.Soft

end
-- ==== Proof.Tile.lean ====
/-
  One query row of the sliding-window attention as a function of its 256 scores, and the lane arithmetic of a pair of
  heads that share 128 lanes.
-/
module

public import proofs.«01_k».proof.Proof.Soft

@[expose] public section

noncomputable section

namespace Cert.Tile

open Idealize.ShloMosaic Cert.Soft

/-- A row's output: the values weighted by the exponentials, over the exponentials' sum. -/
def att (s v : Fin 256 → EReal) : EReal := Ideal.div (∑ j, wt s j * v j) (∑ j, wt s j)

/-- A row's log-sum-exp: the largest score plus the logarithm of the exponentials' sum. -/
def lse (s : Fin 256 → EReal) : EReal := top s + Ideal.log (∑ j, wt s j)

/-- Which of the pair's two heads lane `l` belongs to. -/
def hd (l : Fin 128) : Fin 2 := if l.val < 64 then 0 else 1

/-- Lane `d` of head `h` of the pair. -/
def lane (h : Fin 2) (d : Fin 64) : Fin 128 := ⟨64 * h.val + d.val, by omega⟩

/-- A sum over 128 lanes whose left factor is zeroed off head `h`'s lanes is the sum over head `h`'s lanes. -/
theorem lane_sum (h : Fin 2) (f g : Fin 128 → EReal) :
    ∑ x : Fin 128, (if hd x = h then f x else 0) * g x = ∑ d : Fin 64, f (lane h d) * g (lane h d) := by
  have e : (∑ x : Fin 128, (if hd x = h then f x else 0) * g x)
      = ∑ x : Fin (64 + 64), (if hd x = h then f x else 0) * g x := rfl
  rw [e, Fin.sum_univ_add]
  have hl : ∀ d : Fin 64, hd (Fin.castAdd 64 d) = 0 := fun d => if_pos d.isLt
  have hr : ∀ d : Fin 64, hd (Fin.natAdd 64 d) = 1 := fun d => if_neg (by simp)
  simp only [hl, hr]
  obtain rfl | rfl : h = 0 ∨ h = 1 := by omega
  · simp only [reduceIte, one_ne_zero, zero_mul, Finset.sum_const_zero, add_zero]
    exact Finset.sum_congr rfl fun d _ => by
      rw [show Fin.castAdd 64 d = lane 0 d from Fin.ext (by simp [lane])]
  · simp only [reduceIte, zero_ne_one, zero_mul, Finset.sum_const_zero, zero_add]
    exact Finset.sum_congr rfl fun d _ => by
      rw [show Fin.natAdd 64 d = lane 1 d from Fin.ext (by simp [lane, Nat.add_comm])]

/-- A sum over 256 keys cut in its two halves of 128. -/
theorem sum_halves (f : Fin 256 → EReal) :
    (∑ x : Fin 128, f ⟨x.val, by omega⟩) + ∑ x : Fin 128, f ⟨128 + x.val, by omega⟩ = ∑ j, f j := by
  have e : (∑ j, f j) = ∑ j : Fin (128 + 128), f j := rfl
  rw [e, Fin.sum_univ_add]
  rfl

end Cert.Tile

end
-- ==== Proof.BandSpec.lean ====
/-
  Sliding-window attention over whole arrays, as mathematics: position `ρ` of block `n = ρ / 128` sees the keys of its own
  block and of the block before that lie at most 128 positions back.
-/
module

public import proofs.«01_k».proof.Proof.Tile

@[expose] public section

noncomputable section

namespace Cert.BandSpec

open Idealize.ShloMosaic Cert.Soft Cert.Tile

/-- Position `ρ` sees slot `j` of its window of 256 (slot `j` is position `128 * (ρ / 128) + j - 128`). -/
def ok (ρ : Fin 16384) (j : Fin 256) : Prop :=
  (ρ.val % 128 ≤ j.val ∧ j.val ≤ 128 + ρ.val % 128) ∧ 128 ≤ 128 * (ρ.val / 128) + j.val

/-- Which keys are seen is decidable. -/
instance (ρ : Fin 16384) (j : Fin 256) : Decidable (ok ρ j) := by unfold ok; infer_instance

/-- The position of slot `j`. -/
def kr (ρ : Fin 16384) (j : Fin 256) : Fin 16384 := ⟨128 * (ρ.val / 128) + j.val - 128, by omega⟩

/-- Column `d` of head `h`. -/
def col (h : Fin 8) (d : Fin 64) : Fin 512 := ⟨64 * h.val + d.val, by omega⟩

/-- The head of a column. -/
def hd8 (c : Fin 512) : Fin 8 := ⟨c.val / 64, by omega⟩

variable (q k v : Fin 16384 → Fin 512 → EReal) (bias : Fin 8 → Fin 128 → Fin 256 → EReal)

/-- The score of slot `j` for position `ρ` and head `h`, −∞ where the slot is not seen. -/
def score (ρ : Fin 16384) (h : Fin 8) (j : Fin 256) : EReal :=
  if ok ρ j then (∑ d : Fin 64, q ρ (col h d) * k (kr ρ j) (col h d)) + bias h ⟨ρ.val % 128, by omega⟩ j else ⊥

/-- The attention's output. -/
def attO (ρ : Fin 16384) (c : Fin 512) : EReal := att (score q k bias ρ (hd8 c)) (fun j => v (kr ρ j) c)

/-- The logarithm of its denominator, the maximum added back. -/
def lseO (ρ : Fin 16384) (c : Fin 512) : EReal := lse (score q k bias ρ (hd8 c))

/-- A slot of score −∞ has weight 0. -/
theorem wt_bot {s : Fin 256 → EReal} {j : Fin 256} (h : s j = ⊥) : wt s j = 0 := by
  unfold wt
  rw [h, sub_eq_add_neg, EReal.bot_add]
  rfl

/-- So the values at such slots do not matter. -/
theorem att_congr {s : Fin 256 → EReal} {v v' : Fin 256 → EReal} (h : ∀ j, s j ≠ ⊥ → v j = v' j) : att s v = att s v' := by
  unfold att
  congr 1
  refine Finset.sum_congr rfl fun j _ => ?_
  by_cases hj : s j = ⊥
  · rw [wt_bot hj, zero_mul, zero_mul]
  · rw [h j hj]

end Cert.BandSpec

end
-- ==== Proof.Words.lean ====
/-
  The attention window's integer tests, on the 32-bit words the programs compute, decided over the numbers a tile has.
-/
module

public import Idealize.ShloMosaic.Lib.Pointwise

@[expose] public section

namespace Cert.Words

open Idealize.ShloMosaic

/-- The printed window test on the words of a query's and a key's number: the key is at most 128 back and not ahead. -/
theorem window_word : ∀ (r : Fin 128) (j : Fin 256),
    IntOp.andi
        (IntOp.cmpi CmpIPredicate.sge (IntOp.subi (IntOp.addi (128#32) (BitVec.ofNat 32 r.val)) (BitVec.ofNat 32 j.val)) 0#32)
        (IntOp.cmpi CmpIPredicate.sle (IntOp.subi (IntOp.addi (128#32) (BitVec.ofNat 32 r.val)) (BitVec.ofNat 32 j.val)) 128#32)
      = if r.val ≤ j.val ∧ j.val ≤ 128 + r.val then 1#1 else 0#1 := by
  decide +kernel

/-- The printed test that a key lies in the second half of its window. -/
theorem second_half_word : ∀ j : Fin 256,
    IntOp.cmpi CmpIPredicate.sge (BitVec.ofNat 32 j.val) 128#32 = if 128 ≤ j.val then 1#1 else 0#1 := by
  decide +kernel

/-- The printed test that a lane belongs to the pair's first head. -/
theorem low_lane_word : ∀ l : Fin 128,
    IntOp.cmpi CmpIPredicate.slt (BitVec.ofNat 32 l.val) 64#32 = if l.val < 64 then 1#1 else 0#1 := by
  decide +kernel

end Cert.Words

end
-- ==== Proof.RefWords.lean ====
/-
  The printed test that a window's slot is a position of the array, decided over every block and slot.
-/
module

public import Idealize.ShloMosaic.PureOps

@[expose] public section

namespace Cert.Words

open Idealize.ShloMosaic

/-- Slot `j` of block `n`'s window is position `128 * (n - 1) + j`, counted in signed words. -/
theorem first_block_word : ∀ (n : Fin 128) (j : Fin 256),
    IntOp.cmpi CmpIPredicate.sge
        (IntOp.addi (IntOp.muli (IntOp.subi (BitVec.ofNat 32 n.val) 1#32) 128#32) (BitVec.ofNat 32 j.val)) 0#32
      = if 128 ≤ 128 * n.val + j.val then 1#1 else 0#1 := by
  decide +kernel

end Cert.Words

end
-- ==== Proof.BandRef.lean ====
/-
  What the sliding-window attention's reference computes, index by index.
-/
module

public import proofs.«01_k».proof.Proof.BandSpec
public import proofs.«01_k».proof.Proof.Words
public import proofs.«01_k».proof.Proof.RefWords
public import proofs.«01_k».proof.Proof.Gen.BandRef1Ideal.Read
public import Idealize.ShloMosaic.Lib.Pointwise

@[expose] public section

set_option maxRecDepth 16384

noncomputable section

namespace Cert.BandRef

open Cert.BandRef1Ideal Cert.BandRef1Ideal.Gen Cert.BandRef1Ideal.Read Idealize.ShloMosaic Cert.Soft Cert.Tile Cert.BandSpec

variable (x0 x1 x2 : Vec Ideal S16384x512 .f32) (x3 : Vec Ideal S8x128x256 .f32)

/-- Position `r` of block `n`. -/
def pos (n r : Fin 128) : Fin 16384 := ⟨128 * n.val + r.val, by omega⟩

/-- The queries by block, position, head and column. -/
theorem q_apply (n r : Fin 128) (h : Fin 8) (d : Fin 64) :
    val_main_v2 (F := Ideal) x0 (ix5 (0 : Fin 1) n r h d) = x0 (ix2 (pos n r) (col h d)) := by
  rw [val_main_v2_apply, val_main_v1_apply, val_main_v0_apply]
  congr 1
  refine Shape.idx_ext₂ ?_ ?_
  · show _ = 128 * n.val + r.val
    dsimp
    omega
  · show _ = 64 * h.val + d.val
    dsimp
    omega

/-- A key of the array padded with one block of zeros in front. -/
theorem kpad_apply (a : Fin 16512) (h : Fin 8) (d : Fin 64) (ha : 128 ≤ a.val) :
    val_main_v5 (F := Ideal) x1 (ix4 (0 : Fin 1) a h d) = x1 (ix2 ⟨a.val - 128, by omega⟩ (col h d)) := by
  unfold val_main_v5
  pointwise
  rw [dif_pos ⟨ha, by omega⟩, val_main_v4_apply, val_main_v3_apply]
  congr 1
  refine Shape.idx_ext₂ ?_ ?_
  · show _ = a.val - 128
    dsimp
    omega
  · show _ = 64 * h.val + d.val
    dsimp
    omega

/-- Slot `j` of block `n`'s window of keys. -/
theorem kwin_apply (n : Fin 128) (j : Fin 256) (h : Fin 8) (d : Fin 64) :
    val_main_v9 (F := Ideal) x1 (ix5 (0 : Fin 1) n j h d)
      = val_main_v5 (F := Ideal) x1 (ix4 (0 : Fin 1) ⟨128 * n.val + j.val, by omega⟩ h d) := by
  unfold val_main_v9
  pointwise
  split
  · rw [val_main_v7_apply, val_main_v6_apply]
    congr 1
    funext x
    refine Fin.ext ?_
    match x with
    | ⟨0, _⟩ => rfl
    | ⟨1, _⟩ => show _ = 128 * n.val + j.val; dsimp; omega
    | ⟨2, _⟩ => show _ = h.val; dsimp; omega
    | ⟨3, _⟩ => show _ = d.val; dsimp; omega
  · rw [val_main_v8_apply, val_main_v6_apply]
    congr 1
    funext x
    refine Fin.ext ?_
    match x with
    | ⟨0, _⟩ => rfl
    | ⟨1, _⟩ => show _ = 128 * n.val + j.val; dsimp; omega
    | ⟨2, _⟩ => show _ = h.val; dsimp; omega
    | ⟨3, _⟩ => show _ = d.val; dsimp; omega

/-- So a seen slot holds the key of its position. -/
theorem key_apply (n r : Fin 128) (j : Fin 256) (h : Fin 8) (d : Fin 64) (hk : ok (pos n r) j) :
    val_main_v9 (F := Ideal) x1 (ix5 (0 : Fin 1) n j h d) = x1 (ix2 (kr (pos n r) j) (col h d)) := by
  have h3 : 128 ≤ 128 * ((128 * n.val + r.val) / 128) + j.val := hk.2
  have h4 : 128 ≤ 128 * n.val + j.val := by omega
  rw [kwin_apply, kpad_apply x1 _ h d h4]
  refine congrArg (fun a => x1 (ix2 a (col h d))) (Fin.ext ?_)
  show 128 * n.val + j.val - 128 = 128 * ((128 * n.val + r.val) / 128) + j.val - 128
  omega

/-- A value of the array padded with one block of zeros in front. -/
theorem vpad_apply (a : Fin 16512) (h : Fin 8) (d : Fin 64) (ha : 128 ≤ a.val) :
    val_main_v12 (F := Ideal) x2 (ix4 (0 : Fin 1) a h d) = x2 (ix2 ⟨a.val - 128, by omega⟩ (col h d)) := by
  unfold val_main_v12
  pointwise
  rw [dif_pos ⟨ha, by omega⟩, val_main_v11_apply, val_main_v10_apply]
  congr 1
  refine Shape.idx_ext₂ ?_ ?_
  · show _ = a.val - 128
    dsimp
    omega
  · show _ = 64 * h.val + d.val
    dsimp
    omega

/-- Slot `j` of block `n`'s window of values. -/
theorem vwin_apply (n : Fin 128) (j : Fin 256) (h : Fin 8) (d : Fin 64) :
    val_main_v16 (F := Ideal) x2 (ix5 (0 : Fin 1) n j h d)
      = val_main_v12 (F := Ideal) x2 (ix4 (0 : Fin 1) ⟨128 * n.val + j.val, by omega⟩ h d) := by
  unfold val_main_v16
  pointwise
  split
  · rw [val_main_v14_apply, val_main_v13_apply]
    congr 1
    funext x
    refine Fin.ext ?_
    match x with
    | ⟨0, _⟩ => rfl
    | ⟨1, _⟩ => show _ = 128 * n.val + j.val; dsimp; omega
    | ⟨2, _⟩ => show _ = h.val; dsimp; omega
    | ⟨3, _⟩ => show _ = d.val; dsimp; omega
  · rw [val_main_v15_apply, val_main_v13_apply]
    congr 1
    funext x
    refine Fin.ext ?_
    match x with
    | ⟨0, _⟩ => rfl
    | ⟨1, _⟩ => show _ = 128 * n.val + j.val; dsimp; omega
    | ⟨2, _⟩ => show _ = h.val; dsimp; omega
    | ⟨3, _⟩ => show _ = d.val; dsimp; omega

/-- So a seen slot holds the value of its position. -/
theorem val_apply (n r : Fin 128) (j : Fin 256) (h : Fin 8) (d : Fin 64) (hk : ok (pos n r) j) :
    val_main_v16 (F := Ideal) x2 (ix5 (0 : Fin 1) n j h d) = x2 (ix2 (kr (pos n r) j) (col h d)) := by
  have h3 : 128 ≤ 128 * ((128 * n.val + r.val) / 128) + j.val := hk.2
  have h4 : 128 ≤ 128 * n.val + j.val := by omega
  rw [vwin_apply, vpad_apply x2 _ h d h4]
  refine congrArg (fun a => x2 (ix2 a (col h d))) (Fin.ext ?_)
  show 128 * n.val + j.val - 128 = 128 * ((128 * n.val + r.val) / 128) + j.val - 128
  omega

/-- The mask: which slots are seen. -/
theorem mask_apply (n r : Fin 128) (j : Fin 256) :
    val_main_v50 (F := Ideal) (ix5 (0 : Fin 1) n (0 : Fin 1) r j) = if ok (pos n r) j then 1#1 else 0#1 := by
  have hok : ok (pos n r) j ↔ (r.val ≤ j.val ∧ j.val ≤ 128 + r.val) ∧ 128 ≤ 128 * n.val + j.val := by
    show ((128 * n.val + r.val) % 128 ≤ j.val ∧ j.val ≤ 128 + (128 * n.val + r.val) % 128)
      ∧ 128 ≤ 128 * ((128 * n.val + r.val) / 128) + j.val ↔ _
    omega
  rw [val_main_v50_apply, val_main_v49_apply, val_main_v48_apply, val_main_v47_apply, val_main_v46_apply, val_main_v45_apply,
    val_main_v44_apply, val_main_v43_apply, val_main_v42_apply, val_main_v41_apply, val_main_v40_apply, val_main_v39_apply,
    val_main_v38_apply, val_main_v37_apply, val_main_v36_apply, val_main_v35_apply, val_main_v34_apply, val_main_v33_apply,
    val_main_v32_apply, val_main_v31_apply, val_main_v30_apply, val_main_v29_apply, val_main_v28_apply, val_main_v27_apply,
    val_main_v26_apply, val_main_v25_apply, val_main_v24_apply, val_main_v23_apply, val_main_v22_apply, val_main_v21_apply,
    val_main_v20_apply]
  show IntOp.andi (IntOp.andi
      (IntOp.cmpi CmpIPredicate.sge (IntOp.subi (IntOp.addi (128#32) (BitVec.ofNat 32 r.val)) (BitVec.ofNat 32 j.val)) 0#32)
      (IntOp.cmpi CmpIPredicate.sle (IntOp.subi (IntOp.addi (128#32) (BitVec.ofNat 32 r.val)) (BitVec.ofNat 32 j.val)) 128#32))
    (IntOp.cmpi CmpIPredicate.sge
        (IntOp.addi (IntOp.muli (IntOp.subi (BitVec.ofNat 32 n.val) 1#32) 128#32) (BitVec.ofNat 32 j.val)) 0#32) = _
  rw [Cert.Words.window_word, Cert.Words.first_block_word]
  simp only [hok]
  by_cases h1 : r.val ≤ j.val ∧ j.val ≤ 128 + r.val <;> by_cases h2 : 128 ≤ 128 * n.val + j.val <;> simp [h1, h2, IntOp.andi]

/-- The word of −∞. -/
theorem neg_inf : Ideal.ofBits .f32 0xFF800000#32 = ⊥ := by
  simp [Ideal.ofBits, Ideal.ieee]

/-- The word of zero. -/
theorem zero_word : Ideal.ofBits .f32 0x00000000#32 = 0 := by
  simp [Ideal.ofBits, Ideal.ieee]

/-- The word the scores are scaled by is one eighth. -/
theorem eighth : Ideal.ofBits .f32 0x3E000000#32 = ((1 / 8 : ℝ) : EReal) := by
  simp [Ideal.ofBits, Ideal.ieee]
  norm_num
  rw [← EReal.coe_mul]
  norm_num

/-- The reference's arguments, by coordinates, the queries scaled. -/
def Q (a : Fin 16384) (b : Fin 512) : EReal := x0 (ix2 a b) * Ideal.ofBits .f32 0x3E000000#32
/-- A key, by position and column. -/
def K (a : Fin 16384) (b : Fin 512) : EReal := x1 (ix2 a b)
/-- A bias, by head, row and key. -/
def B (h : Fin 8) (r : Fin 128) (j : Fin 256) : EReal := x3 (ix3 h r j)

/-- The masked scores. -/
theorem score_apply (n r : Fin 128) (h : Fin 8) (j : Fin 256) :
    val_main_v54 (F := Ideal) x0 x1 x3 (ix5 (0 : Fin 1) n h r j) = score (Q x0) (K x1) (B x3) (pos n r) h j := by
  rw [val_main_v54_apply, val_main_call2_v1_apply, val_main_call2_v2_apply, val_main_call2_v0_apply, val_main_cst_7_apply]
  rw [show idx_main_call2_v1 (ix5 (0 : Fin 1) n h r j) = ix5 (0 : Fin 1) n (0 : Fin 1) r j from by
    funext x; match x with | ⟨0, _⟩ => rfl | ⟨1, _⟩ => rfl | ⟨2, _⟩ => rfl | ⟨3, _⟩ => rfl | ⟨4, _⟩ => rfl]
  rw [mask_apply]
  unfold score Scalar.select
  by_cases hk : ok (pos n r) j
  · rw [if_pos hk, if_pos hk]
    rw [if_pos (by decide), val_main_v53_apply, val_main_v52_apply, val_main_v51_apply, val_main_v19_apply, val_main_v18_apply,
      val_main_cst_apply, val_main_v17_apply]
    show (∑ k : Fin 64, _) * Ideal.ofBits .f32 0x3E000000#32 + _ = _
    congr 1
    · rw [eighth, sum_mul_real _ _ _ (by norm_num)]
      refine Finset.sum_congr rfl fun d _ => ?_
      have el : lidx_main_v17 (ix5 (0 : Fin 1) n h r j) d = ix5 (0 : Fin 1) n r h d := by
        funext x; match x with | ⟨0, _⟩ => rfl | ⟨1, _⟩ => rfl | ⟨2, _⟩ => rfl | ⟨3, _⟩ => rfl | ⟨4, _⟩ => rfl
      have er : ridx_main_v17 (ix5 (0 : Fin 1) n h r j) d = ix5 (0 : Fin 1) n j h d := by
        funext x; match x with | ⟨0, _⟩ => rfl | ⟨1, _⟩ => rfl | ⟨2, _⟩ => rfl | ⟨3, _⟩ => rfl | ⟨4, _⟩ => rfl
      rw [el, er, q_apply, key_apply x1 n r j h d hk, mul_right_comm]
      unfold Q K
      rw [eighth]
    · unfold B
      congr 1
      funext x
      refine Fin.ext ?_
      match x with
      | ⟨0, _⟩ => rfl
      | ⟨1, _⟩ => show r.val = (128 * n.val + r.val) % 128; omega
      | ⟨2, _⟩ => rfl
  · rw [if_neg hk, if_neg hk, if_neg (by decide)]
    exact neg_inf

/-- A row's scores. -/
abbrev sc (n r : Fin 128) (h : Fin 8) : Fin 256 → EReal := score (Q x0) (K x1) (B x3) (pos n r) h

/-- The largest score of a row. -/
theorem max_apply (n r : Fin 128) (h : Fin 8) :
    val_main_v55 (F := Ideal) x0 x1 x3 (ix4 (0 : Fin 1) n h r) = top (sc x0 x1 x3 n r h) := by
  unfold val_main_v55
  pointwise
  rw [val_main_cst_8_apply]
  simp only [score_apply]
  show Finset.fold max (Ideal.ofBits .f32 0xFF800000#32) _ _ = _
  rw [neg_inf]
  rfl

/-- The weights: the exponentials, zero at slots not seen, which is the exponential of −∞. -/
theorem wt_apply (n r : Fin 128) (h : Fin 8) (j : Fin 256) :
    val_main_v60 (F := Ideal) x0 x1 x3 (ix5 (0 : Fin 1) n h r j) = wt (sc x0 x1 x3 n r h) j := by
  rw [val_main_v60_apply, val_main_call3_v1_apply, val_main_call3_v2_apply, val_main_call3_v0_apply, val_main_cst_9_apply]
  rw [show idx_main_call3_v1 (ix5 (0 : Fin 1) n h r j) = ix5 (0 : Fin 1) n (0 : Fin 1) r j from by
    funext x; match x with | ⟨0, _⟩ => rfl | ⟨1, _⟩ => rfl | ⟨2, _⟩ => rfl | ⟨3, _⟩ => rfl | ⟨4, _⟩ => rfl]
  rw [mask_apply, val_main_v59_apply, val_main_v58_apply, score_apply, val_main_v57_apply, val_main_v56_apply]
  rw [show idx_main_v56 (idx_main_v57 (ix5 (0 : Fin 1) n h r j)) = ix4 (0 : Fin 1) n h r from by
    funext x; match x with | ⟨0, _⟩ => rfl | ⟨1, _⟩ => rfl | ⟨2, _⟩ => rfl | ⟨3, _⟩ => rfl]
  rw [max_apply]
  unfold Scalar.select
  by_cases hk : ok (pos n r) j
  · rw [if_pos hk, if_pos (by decide)]
    rfl
  · rw [if_neg hk, if_neg (by decide), wt_bot (show sc x0 x1 x3 n r h j = ⊥ from if_neg hk)]
    exact zero_word

/-- Their sum. -/
theorem den_apply (n r : Fin 128) (h : Fin 8) :
    val_main_v61 (F := Ideal) x0 x1 x3 (ix4 (0 : Fin 1) n h r) = ∑ j, wt (sc x0 x1 x3 n r h) j := by
  rw [val_main_v61_apply, val_main_cst_10_apply]
  rw [show (FloatOps.ofBits .f32 0x00000000#32 : Ideal .f32) = 0 from zero_word, zero_add]
  refine Finset.sum_congr rfl fun j _ => ?_
  rw [show idx_main_v61 (ix4 (0 : Fin 1) n h r) j = ix5 (0 : Fin 1) n h r j from by
    funext x; match x with | ⟨0, _⟩ => rfl | ⟨1, _⟩ => rfl | ⟨2, _⟩ => rfl | ⟨3, _⟩ => rfl | ⟨4, _⟩ => rfl]
  exact wt_apply x0 x1 x3 n r h j

/-- The output, by the window's slots: the values weighted by the weights over their sum. -/
theorem out_apply (n r : Fin 128) (h : Fin 8) (d : Fin 64) :
    val_main_v72 (F := Ideal) x0 x1 x2 x3 (ix2 (pos n r) (col h d))
      = ∑ j, val_main_v16 (F := Ideal) x2 (ix5 (0 : Fin 1) n j h d)
          * Ideal.div (wt (sc x0 x1 x3 n r h) j) (∑ j, wt (sc x0 x1 x3 n r h) j) := by
  have hp : (pos n r).val = 128 * n.val + r.val := rfl
  have hc : (col h d).val = 64 * h.val + d.val := rfl
  rw [val_main_v72_apply, val_main_v71_apply, val_main_v70_apply, val_main_v66_apply, val_main_v65_apply]
  refine Finset.sum_congr rfl fun j _ => ?_
  have el : lidx_main_v65 (idx_main_v66 (idx_main_v70 (idx_main_v71 (idx_main_v72 (ix2 (pos n r) (col h d)))))) j
      = ix5 (0 : Fin 1) n j h d := by
    funext x
    refine Fin.ext ?_
    match x with
    | ⟨0, _⟩ => rfl
    | ⟨1, _⟩ => show _ = n.val; dsimp; omega
    | ⟨2, _⟩ => rfl
    | ⟨3, _⟩ => show _ = h.val; dsimp; omega
    | ⟨4, _⟩ => show _ = d.val; dsimp; omega
  have er : ridx_main_v65 (idx_main_v66 (idx_main_v70 (idx_main_v71 (idx_main_v72 (ix2 (pos n r) (col h d)))))) j
      = ix5 (0 : Fin 1) n h r j := by
    funext x
    refine Fin.ext ?_
    match x with
    | ⟨0, _⟩ => rfl
    | ⟨1, _⟩ => show _ = n.val; dsimp; omega
    | ⟨2, _⟩ => show _ = h.val; dsimp; omega
    | ⟨3, _⟩ => show _ = r.val; dsimp; omega
    | ⟨4, _⟩ => rfl
  rw [el, er, val_main_v64_apply, wt_apply, val_main_v63_apply, val_main_v62_apply]
  rw [show idx_main_v62 (idx_main_v63 (ix5 (0 : Fin 1) n h r j)) = ix4 (0 : Fin 1) n h r from by
    funext x; match x with | ⟨0, _⟩ => rfl | ⟨1, _⟩ => rfl | ⟨2, _⟩ => rfl | ⟨3, _⟩ => rfl]
  rw [den_apply]
  rfl

/-- THE LOG-SUM-EXPS. -/
theorem lse_apply (n r : Fin 128) (h : Fin 8) (d : Fin 64) :
    val_main_v78 (F := Ideal) x0 x1 x3 (ix2 (pos n r) (col h d)) = lse (sc x0 x1 x3 n r h) := by
  have hp : (pos n r).val = 128 * n.val + r.val := rfl
  have hc : (col h d).val = 64 * h.val + d.val := rfl
  rw [val_main_v78_apply, val_main_v77_apply, val_main_v76_apply, val_main_v75_apply, val_main_v74_apply, val_main_v73_apply,
    val_main_v69_apply, val_main_v68_apply, val_main_v67_apply, val_main_v62_apply, val_main_v56_apply]
  have e1 : ∀ i, idx_main_v56 i = idx_main_v62 i := fun _ => rfl
  rw [e1]
  have a1 : idx_main_v77 (idx_main_v78 (ix2 (pos n r) (col h d))) = ix2 (pos n r) h := by
    refine Shape.idx_ext₂ ?_ ?_
    · show _ = 128 * n.val + r.val; dsimp; omega
    · show _ = h.val; dsimp; omega
  have a2 : idx_main_v76 (ix2 (pos n r) h) = ix3 (pos n r) (0 : Fin 1) h := by
    funext x
    refine Fin.ext ?_
    match x with
    | ⟨0, _⟩ => show _ = 128 * n.val + r.val; dsimp; omega
    | ⟨1, _⟩ => rfl
    | ⟨2, _⟩ => show _ = h.val; dsimp; omega
  have a3 : idx_main_v74 (idx_main_v75 (ix3 (pos n r) (0 : Fin 1) h)) = ix4 (0 : Fin 1) n r h := by
    funext x
    refine Fin.ext ?_
    match x with
    | ⟨0, _⟩ => rfl
    | ⟨1, _⟩ => show _ = n.val; dsimp; omega
    | ⟨2, _⟩ => show _ = r.val; dsimp; omega
    | ⟨3, _⟩ => show _ = h.val; dsimp; omega
  have a4 : idx_main_v62 (idx_main_v69 (idx_main_v73 (ix4 (0 : Fin 1) n r h))) = ix4 (0 : Fin 1) n h r := by
    funext x
    refine Fin.ext ?_
    match x with
    | ⟨0, _⟩ => rfl
    | ⟨1, _⟩ => show _ = n.val; dsimp; omega
    | ⟨2, _⟩ => show _ = h.val; dsimp; omega
    | ⟨3, _⟩ => show _ = r.val; dsimp; omega
  rw [a1, a2, a3, a4]
  rw [max_apply, den_apply]
  rfl

end Cert.BandRef

end
-- ==== Proof.BandTile.lean ====
/-
  What one step of the sliding-window attention kernel computes: from a tile's queries, the window's keys and values, the
  mask and the bias, each query row's output and log-sum-exp.
-/
module

public import proofs.«01_k».proof.Proof.Gen.Band1Ideal.Value
public import proofs.«01_k».proof.Proof.Tile
public import proofs.«01_k».proof.Proof.Words

@[expose] public section

set_option maxRecDepth 16384

noncomputable section

namespace Cert.BandTile

open Cert.Band1Ideal Cert.Band1Ideal.Gen Idealize.ShloMosaic Cert.Soft Cert.Tile

/-- The named constant is minus infinity. -/
theorem mask_bot : (Named.named κ "mask" 0xF149F2CA#32 : Ideal .f32) = ⊥ :=
  IdealRules.named_const.ideal_named_scalar _ _ _ _ rfl

/-- The word of minus infinity is minus infinity. -/
theorem neg_inf : Ideal.ofBits .f32 0xFF800000#32 = ⊥ := by
  simp [Ideal.ofBits, Ideal.ieee]

/-- Row `128 h + r` of the two heads' rows laid one above the other. -/
def row (h : Fin 2) (r : Fin 128) : Fin 256 := ⟨128 * h.val + r.val, by omega⟩

/-- The window's row `j`: the first 128 from the earlier block. -/
def win (a b : Vec Ideal S128x128 .f32) (j : Fin 256) (l : Fin 128) : EReal :=
  if h : j.val < 128 then a (ix2 ⟨j.val, h⟩ l) else b (ix2 ⟨j.val - 128, by omega⟩ l)

/-- A score of the tile. -/
def sc (M : FVec Ideal S128x256 .f32) (B : FVec Ideal S256x256 .f32) (q a b : Vec Ideal S128x128 .f32) (h : Fin 2)
    (r : Fin 128) (j : Fin 256) : EReal :=
  ((∑ d : Fin 64, q (ix2 r (lane h d)) * win a b j (lane h d)) + M (ix2 r j)) + B (ix2 (row h r) j)

/-- The mask of the first head's lanes. -/
theorem lane_mask (r l : Fin 128) : k0_pay4 (ix2 r l) = if hd l = 0 then 1#1 else 0#1 := by
  unfold k0_pay4
  pointwise
  rw [Cert.Words.low_lane_word]
  unfold hd
  split <;> simp_all

/-- Taking one of two by the first head's mask. -/
theorem sel_lane (r l : Fin 128) (x y : EReal) :
    Scalar.select (k0_pay4 (ix2 r l)) x y = if hd l = 0 then x else y := by
  rw [lane_mask]
  unfold Scalar.select
  split <;> simp_all

/-- The same, seen from the second head. -/
theorem sel_lane' (r l : Fin 128) (x y : EReal) :
    Scalar.select (k0_pay4 (ix2 r l)) x y = if hd l = 1 then y else x := by
  rw [sel_lane]
  obtain h | h : hd l = 0 ∨ hd l = 1 := by omega
  · simp [h]
  · simp [h]

/-- The scores of both heads, a row each. -/
theorem pay6_apply (M : FVec Ideal S128x256 .f32) (B : FVec Ideal S256x256 .f32) (q a b : Vec Ideal S128x128 .f32)
    (h : Fin 2) (r : Fin 128) (j : Fin 256) :
    k0_pay6 (F := Ideal) M k0_pay4 B q a b (ix2 (row h r) j) = sc M B q a b h r j := by
  unfold k0_pay6
  pointwise
  unfold sc
  rw [← lane_sum h (fun l => q (ix2 r l)) (fun l => win a b j l)]
  obtain rfl | rfl : h = 0 ∨ h = 1 := by omega
  · have hr : (row 0 r).val < 128 := by simp [row]
    have er : (⟨(row 0 r).val, hr⟩ : Fin 128) = r := Fin.ext (by simp [row])
    simp only [dif_pos hr, er, sel_lane, win]
  · have hr : ¬ (row 1 r).val < 128 := by simp [row]
    have er : (⟨(row 1 r).val - 128, by omega⟩ : Fin 128) = r := Fin.ext (by simp [row])
    simp only [dif_neg hr, er, sel_lane', win]

/-- The largest score of each row. -/
theorem pay7_apply (M : FVec Ideal S128x256 .f32) (B : FVec Ideal S256x256 .f32) (q a b : Vec Ideal S128x128 .f32)
    (h : Fin 2) (r : Fin 128) :
    k0_pay7 (F := Ideal) M k0_pay4 B q a b (ix2 (row h r) 0) = top (sc M B q a b h r) := by
  unfold k0_pay7
  pointwise
  rw [neg_inf]
  unfold top
  congr 1
  funext j
  exact pay6_apply M B q a b h r j

/-- The weighted values of each row, beside the sum of its weights. -/
theorem pay8_apply (M : FVec Ideal S128x256 .f32) (B : FVec Ideal S256x256 .f32) (q a v b w : Vec Ideal S128x128 .f32)
    (h : Fin 2) (r : Fin 128) (l : Fin 256) :
    k0_pay8 (F := Ideal) M k0_pay4 B q a v b w (ix2 (row h r) l)
      = ∑ j, wt (sc M B q a b h r) j * (if hl : l.val < 128 then win v w j ⟨l.val, hl⟩ else 1) := by
  unfold k0_pay8
  pointwise
  simp only [pay6_apply, pay7_apply]
  rw [← sum_halves]
  congr 1
  all_goals
    refine Finset.sum_congr rfl fun x _ => ?_
    unfold wt
    split <;> simp [win]

/-- A tile's output rows. -/
theorem pay10_apply (M : FVec Ideal S128x256 .f32) (B : FVec Ideal S256x256 .f32) (q a v b w : Vec Ideal S128x128 .f32)
    (r l : Fin 128) :
    k0_pay10 (F := Ideal) M k0_pay4 B q a v b w (ix2 r l)
      = att (sc M B q a b (hd l) r) (fun j => win v w j l) := by
  unfold k0_pay10 k0_pay9
  pointwise
  rw [sel_lane]
  have e0 : ∀ p, (⟨r.val, p⟩ : Fin 256) = row 0 r := fun p => Fin.ext (by simp [row])
  have e1 : ∀ p, (⟨128 + r.val, p⟩ : Fin 256) = row 1 r := fun p => Fin.ext (by simp [row])
  simp only [e0, e1, pay8_apply]
  have hn : ¬ 128 + l.val < 128 := by omega
  simp only [dif_pos l.isLt, dif_neg hn, mul_one]
  unfold att
  obtain h | h : hd l = 0 ∨ hd l = 1 := by omega
  · simp [h]
  · simp [h]

/-- A tile's log-sum-exps, one repeated over its head's lanes. -/
theorem pay11_apply (M : FVec Ideal S128x256 .f32) (B : FVec Ideal S256x256 .f32) (q a v b w : Vec Ideal S128x128 .f32)
    (r l : Fin 128) :
    k0_pay11 (F := Ideal) M k0_pay4 B q a v b w (ix2 r l) = lse (sc M B q a b (hd l) r) := by
  unfold k0_pay11 k0_pay9
  pointwise
  rw [sel_lane]
  have e0 : ∀ p, (⟨r.val, p⟩ : Fin 256) = row 0 r := fun p => Fin.ext (by simp [row])
  have e1 : ∀ p, (⟨128 + r.val, p⟩ : Fin 256) = row 1 r := fun p => Fin.ext (by simp [row])
  simp only [e0, e1, pay8_apply, pay7_apply]
  have hn : ¬ 128 + l.val < 128 := by omega
  simp only [dif_neg hn, mul_one]
  unfold lse
  obtain h | h : hd l = 0 ∨ hd l = 1 := by omega
  · simp [h]
  · simp [h]

/-- The window's mask, as a number to add. -/
theorem pay2_apply (r : Fin 128) (j : Fin 256) :
    k0_pay2 (F := Ideal) (ix2 r j) = if r.val ≤ j.val ∧ j.val ≤ 128 + r.val then 0 else ⊥ := by
  unfold k0_pay2
  pointwise
  rw [Cert.Words.window_word, mask_bot]
  unfold Scalar.select
  split <;> simp_all

/-- The first tile's mask: at the array's start there is no earlier block. -/
theorem pay3_apply (i : grid0.Coords) (r : Fin 128) (j : Fin 256) :
    k0_pay3 (F := Ideal) i (ix2 r j)
      = if (r.val ≤ j.val ∧ j.val ≤ 128 + r.val) ∧ (0 < (i 1).val ∨ 128 ≤ j.val) then 0 else ⊥ := by
  have hi : (i 1).val < 8 := (i 1).isLt
  have hw : Scalar.cmpi CmpIPredicate.sgt (BitVec.ofNat 32 (i 1).val) 0#32 = if 0 < (i 1).val then 1#1 else 0#1 := by
    have : ∀ n : Fin 8, Scalar.cmpi CmpIPredicate.sgt (BitVec.ofNat 32 n.val) 0#32 = if 0 < n.val then 1#1 else 0#1 := by
      decide +kernel
    exact this ⟨(i 1).val, hi⟩
  unfold k0_pay3
  pointwise
  rw [hw, Cert.Words.second_half_word, mask_bot, pay2_apply]
  unfold Scalar.select
  by_cases h1 : 0 < (i 1).val
  · simp [h1]
  · by_cases h2 : 128 ≤ j.val
    · simp [h1, h2]
    · simp [h1, h2]

/-- The bias, from its four 128 × 128 tables. -/
theorem pay5_apply (a b c d : Vec Ideal S1x1x128x128 .f32) (h : Fin 2) (r : Fin 128) (j : Fin 256) :
    k0_pay5 (F := Ideal) a b c d (ix2 (row h r) j)
      = if hj : j.val < 128 then (if h = 0 then a else c) (ix4 0 0 r ⟨j.val, hj⟩)
        else (if h = 0 then b else d) (ix4 0 0 r ⟨j.val - 128, by omega⟩) := by
  unfold k0_pay5
  pointwise
  obtain rfl | rfl : h = 0 ∨ h = 1 := by omega
  · have hr : (row 0 r).val < 128 := by simp [row]
    have er : (⟨(row 0 r).val, hr⟩ : Fin 128) = r := Fin.ext (by simp [row])
    simp only [dif_pos hr, er, reduceIte]
  · have hr : ¬ (row 1 r).val < 128 := by simp [row]
    have er : (⟨(row 1 r).val - 128, by omega⟩ : Fin 128) = r := Fin.ext (by simp [row])
    simp only [dif_neg hr, er, one_ne_zero, reduceIte]

end Cert.BandTile

end
-- ==== Proof.BandBlock.lean ====
/-
  What one grid point of the sliding-window attention kernel leaves in its two output blocks of 2048 rows: each row is the
  attention of its query over the 256 keys of its window.
-/
module

public import proofs.«01_k».proof.Proof.BandTile

@[expose] public section

set_option maxRecDepth 16384

noncomputable section

namespace Cert.BandBlock

open Cert.Band1Ideal Cert.Band1Ideal.Gen Idealize.ShloMosaic Cert.Soft Cert.Tile Cert.BandTile

variable (i : grid0.Coords) (x0 x1 : Vec Ideal S2048x128 .f32) (x2 : Vec Ideal S128x128 .f32)
  (x3 : Vec Ideal S2048x128 .f32) (x4 : Vec Ideal S128x128 .f32) (x5 : Vec Ideal S2x2x128x128 .f32)

/-- Row `j` of the window of tile `t`: the block's own rows, the first tile's earlier half being the block before. -/
def key (x : Vec Ideal S2048x128 .f32) (p : Vec Ideal S128x128 .f32) (t : Fin 16) (j : Fin 256) (l : Fin 128) : EReal :=
  if h : t.val = 0 ∧ j.val < 128 then p (ix2 ⟨j.val, h.2⟩ l) else x (ix2 ⟨128 * t.val + j.val - 128, by omega⟩ l)

/-- Whether query `r` of tile `t` of row block `b` sees key `j` of its window. -/
def sees (b : ℕ) (t : Fin 16) (r : Fin 128) (j : Fin 256) : Prop :=
  (r.val ≤ j.val ∧ j.val ≤ 128 + r.val) ∧ (0 < b ∨ 0 < t.val ∨ 128 ≤ j.val)

/-- Which keys are seen is decidable. -/
instance (b : ℕ) (t : Fin 16) (r : Fin 128) (j : Fin 256) : Decidable (sees b t r j) := by unfold sees; infer_instance

/-- A score of the block. -/
def bsc (t : Fin 16) (h : Fin 2) (r : Fin 128) (j : Fin 256) : EReal :=
  if sees (i 1).val t r j then
    (∑ d : Fin 64, x0 (ix2 ⟨128 * t.val + r.val, by omega⟩ (lane h d)) * key x1 x2 t j (lane h d))
      + x5 (ix4 h ⟨j.val / 128, by omega⟩ r ⟨j.val % 128, by omega⟩)
  else ⊥

/-- The tile a row of the block lies in, and the row within it. -/
def tl (R : Fin 2048) : Fin 16 := ⟨R.val / 128, by omega⟩
/-- The row within its tile. -/
def rw' (R : Fin 2048) : Fin 128 := ⟨R.val % 128, by omega⟩

/-- The output block. -/
def outO (y : S2048x128.Idx) : EReal :=
  att (bsc i x0 x1 x2 x5 (tl (y 0)) (hd (y 1)) (rw' (y 0))) (fun j => key x3 x4 (tl (y 0)) j (y 1))

/-- The log-sum-exp block. -/
def outL (y : S2048x128.Idx) : EReal :=
  lse (bsc i x0 x1 x2 x5 (tl (y 0)) (hd (y 1)) (rw' (y 0)))

/-- The bias the body builds, read off its block. -/
theorem bias_apply (h : Fin 2) (r : Fin 128) (j : Fin 256) :
    k0_pay5 (F := Ideal) (View.ld x5 r0_0) (View.ld x5 r0_1) (View.ld x5 r0_2) (View.ld x5 r0_3) (ix2 (row h r) j)
      = x5 (ix4 h ⟨j.val / 128, by omega⟩ r ⟨j.val % 128, by omega⟩) := by
  rw [pay5_apply]
  by_cases hj : j.val < 128
  · have e1 : (⟨j.val / 128, by omega⟩ : Fin 2) = 0 := Fin.ext (by show j.val / 128 = 0; omega)
    have e2 : (⟨j.val % 128, by omega⟩ : Fin 128) = ⟨j.val, hj⟩ := Fin.ext (by show j.val % 128 = j.val; omega)
    rw [dif_pos hj, e1, e2]
    obtain rfl | rfl : h = 0 ∨ h = 1 := by omega
    · simp only [reduceIte]; pointwise
    · simp only [one_ne_zero, reduceIte]; pointwise
  · have e1 : (⟨j.val / 128, by omega⟩ : Fin 2) = 1 := Fin.ext (by show j.val / 128 = 1; omega)
    have e2 : (⟨j.val % 128, by omega⟩ : Fin 128) = ⟨j.val - 128, by omega⟩ :=
      Fin.ext (by show j.val % 128 = j.val - 128; omega)
    rw [dif_neg hj, e1, e2]
    obtain rfl | rfl : h = 0 ∨ h = 1 := by omega
    · simp only [reduceIte]; pointwise
    · simp only [one_ne_zero, reduceIte]; pointwise

/-- A score from its three terms, the mask being 0 where the key is seen. -/
theorem add_mask (a b : EReal) (P : Prop) [Decidable P] : (a + (if P then 0 else ⊥)) + b = if P then a + b else ⊥ := by
  split <;> simp

/-- Rows of the block loaded from row `o` on. -/
theorem ld_rows (x : Vec Ideal S2048x128 .f32) (o : ℕ) (inb) (r l : Fin 128) (ho : o + r.val < 2048) :
    View.ld x (Rect.unit (s := S2048x128) ![o, 0] S128x128.size inb) (ix2 r l) = x (ix2 ⟨o + r.val, ho⟩ l) := by
  pointwise

/-- The window of a later tile is rows of the block. -/
theorem win_later (x : Vec Ideal S2048x128 .f32) (p : Vec Ideal S128x128 .f32) (t : Fin 16) (o : ℕ)
    (ho : 128 * t.val = o + 128) (inb) (inb') (j : Fin 256) (l : Fin 128) :
    win (View.ld x (Rect.unit (s := S2048x128) ![o, 0] S128x128.size inb))
      (View.ld x (Rect.unit (s := S2048x128) ![o + 128, 0] S128x128.size inb')) j l = key x p t j l := by
  unfold win key
  have h0 : ¬ (t.val = 0 ∧ j.val < 128) := by omega
  rw [dif_neg h0]
  split
  · rw [ld_rows x o inb _ l (by show o + j.val < 2048; omega)]
    congr 2; apply Fin.ext; show o + j.val = 128 * t.val + j.val - 128; omega
  · rw [ld_rows x (o + 128) inb' _ l (by show o + 128 + (j.val - 128) < 2048; omega)]
    congr 2; apply Fin.ext; show o + 128 + (j.val - 128) = 128 * t.val + j.val - 128; omega

/-- The window of the first tile: the block before, then the block's first rows. -/
theorem win_first (x : Vec Ideal S2048x128 .f32) (p : Vec Ideal S128x128 .f32) (j : Fin 256) (l : Fin 128) :
    win (View.ld p r0_5) (View.ld x r0_4) j l = key x p 0 j l := by
  unfold win key
  by_cases h : j.val < 128
  · rw [dif_pos h, dif_pos ⟨rfl, h⟩]
    pointwise
  · rw [dif_neg h, dif_neg (by omega)]
    rw [ld_rows x 0 _ _ l (by show 0 + (j.val - 128) < 2048; omega)]
    congr 2; apply Fin.ext; show 0 + (j.val - 128) = 128 * 0 + j.val - 128; omega

/-- A later tile's scores. -/
theorem sc_later (t : Fin 16) (o : ℕ) (ho : 128 * t.val = o + 128) (inb) (inb') (h : Fin 2) (r : Fin 128) (j : Fin 256) :
    sc (k0_pay2 (F := Ideal)) (k0_pay5 (View.ld x5 r0_0) (View.ld x5 r0_1) (View.ld x5 r0_2) (View.ld x5 r0_3))
      (View.ld x0 (Rect.unit (s := S2048x128) ![o + 128, 0] S128x128.size inb'))
      (View.ld x1 (Rect.unit (s := S2048x128) ![o, 0] S128x128.size inb))
      (View.ld x1 (Rect.unit (s := S2048x128) ![o + 128, 0] S128x128.size inb')) h r j
    = bsc i x0 x1 x2 x5 t h r j := by
  unfold sc bsc
  rw [bias_apply, pay2_apply, add_mask]
  have hs : sees (i 1).val t r j ↔ r.val ≤ j.val ∧ j.val ≤ 128 + r.val :=
    ⟨fun h => h.1, fun h => ⟨h, .inr (.inl (by omega))⟩⟩
  simp only [hs]
  congr 2
  refine Finset.sum_congr rfl fun d _ => ?_
  rw [win_later x1 x2 t o ho, ld_rows x0 (o + 128) inb' r _ (by omega)]
  congr 3; apply Fin.ext; show o + 128 + r.val = 128 * t.val + r.val; omega

/-- The first tile's scores. -/
theorem sc_first (h : Fin 2) (r : Fin 128) (j : Fin 256) :
    sc (k0_pay3 (F := Ideal) i) (k0_pay5 (View.ld x5 r0_0) (View.ld x5 r0_1) (View.ld x5 r0_2) (View.ld x5 r0_3))
      (View.ld x0 r0_4) (View.ld x2 r0_5) (View.ld x1 r0_4) h r j = bsc i x0 x1 x2 x5 0 h r j := by
  unfold sc bsc
  rw [bias_apply, pay3_apply, add_mask]
  have hs : sees (i 1).val 0 r j ↔ (r.val ≤ j.val ∧ j.val ≤ 128 + r.val) ∧ (0 < (i 1).val ∨ 128 ≤ j.val) := by
    unfold sees; simp
  simp only [hs]
  congr 2
  refine Finset.sum_congr rfl fun d _ => ?_
  rw [win_first, ld_rows x0 0 _ r _ (by omega)]
  congr 3

/-- Where a tile's row sits in its block. -/
theorem emb_row (o : ℕ) (inb) (r l : Fin 128) (t : Fin 16) (ho : o = 128 * t.val) :
    tl (((Rect.unit (s := S2048x128) ![o, 0] S128x128.size inb).emb (ix2 r l)) 0) = t
      ∧ rw' (((Rect.unit (s := S2048x128) ![o, 0] S128x128.size inb).emb (ix2 r l)) 0) = r
      ∧ ((Rect.unit (s := S2048x128) ![o, 0] S128x128.size inb).emb (ix2 r l)) 1 = l := by
  have e0 : (((Rect.unit (s := S2048x128) ![o, 0] S128x128.size inb).emb (ix2 r l)) 0).val = o + r.val := by
    show o + 1 * r.val = o + r.val; omega
  have e1 : (((Rect.unit (s := S2048x128) ![o, 0] S128x128.size inb).emb (ix2 r l)) 1).val = l.val := by
    show 0 + 1 * l.val = l.val; omega
  refine ⟨Fin.ext ?_, Fin.ext ?_, Fin.ext e1⟩
  · show _ / 128 = t.val
    rw [e0]; omega
  · show _ % 128 = r.val
    rw [e0]; omega

/-- What a later tile stores. -/
theorem later (t : Fin 16) (o : ℕ) (ho : 128 * t.val = o + 128) (inb) (inb') (x : S128x128.Idx) :
    k0_pay10 (F := Ideal) k0_pay2 k0_pay4 (k0_pay5 (View.ld x5 r0_0) (View.ld x5 r0_1) (View.ld x5 r0_2) (View.ld x5 r0_3))
      (View.ld x0 (Rect.unit (s := S2048x128) ![o + 128, 0] S128x128.size inb'))
      (View.ld x1 (Rect.unit (s := S2048x128) ![o, 0] S128x128.size inb))
      (View.ld x3 (Rect.unit (s := S2048x128) ![o, 0] S128x128.size inb))
      (View.ld x1 (Rect.unit (s := S2048x128) ![o + 128, 0] S128x128.size inb'))
      (View.ld x3 (Rect.unit (s := S2048x128) ![o + 128, 0] S128x128.size inb')) x
    = outO i x0 x1 x2 x3 x4 x5 ((Rect.unit (s := S2048x128) ![o + 128, 0] S128x128.size inb').emb x) := by
  obtain ⟨r, l, rfl⟩ : ∃ r l : Fin 128, x = ix2 r l := ⟨x 0, x 1, eq_ix2 x⟩
  obtain ⟨et, er, el⟩ := emb_row (o + 128) inb' r l t ho.symm
  unfold outO
  rw [et, er, el, pay10_apply]
  congr 1
  · funext j; exact sc_later i x0 x1 x2 x5 t o ho inb inb' (hd l) r j
  · funext j; exact win_later x3 x4 t o ho inb inb' j l

/-- A later tile of log-sum-exps where it is stored. -/
theorem laterL (t : Fin 16) (o : ℕ) (ho : 128 * t.val = o + 128) (inb) (inb') (x : S128x128.Idx) :
    k0_pay11 (F := Ideal) k0_pay2 k0_pay4 (k0_pay5 (View.ld x5 r0_0) (View.ld x5 r0_1) (View.ld x5 r0_2) (View.ld x5 r0_3))
      (View.ld x0 (Rect.unit (s := S2048x128) ![o + 128, 0] S128x128.size inb'))
      (View.ld x1 (Rect.unit (s := S2048x128) ![o, 0] S128x128.size inb))
      (View.ld x3 (Rect.unit (s := S2048x128) ![o, 0] S128x128.size inb))
      (View.ld x1 (Rect.unit (s := S2048x128) ![o + 128, 0] S128x128.size inb'))
      (View.ld x3 (Rect.unit (s := S2048x128) ![o + 128, 0] S128x128.size inb')) x
    = outL i x0 x1 x2 x5 ((Rect.unit (s := S2048x128) ![o + 128, 0] S128x128.size inb').emb x) := by
  obtain ⟨r, l, rfl⟩ : ∃ r l : Fin 128, x = ix2 r l := ⟨x 0, x 1, eq_ix2 x⟩
  obtain ⟨et, er, el⟩ := emb_row (o + 128) inb' r l t ho.symm
  unfold outL
  rw [et, er, el, pay11_apply]
  congr 1
  funext j; exact sc_later i x0 x1 x2 x5 t o ho inb inb' (hd l) r j

/-- What the first tile stores. -/
theorem first (x : S128x128.Idx) :
    k0_pay10 (F := Ideal) (k0_pay3 i) k0_pay4 (k0_pay5 (View.ld x5 r0_0) (View.ld x5 r0_1) (View.ld x5 r0_2) (View.ld x5 r0_3))
      (View.ld x0 r0_4) (View.ld x2 r0_5) (View.ld x4 r0_5) (View.ld x1 r0_4) (View.ld x3 r0_4) x
    = outO i x0 x1 x2 x3 x4 x5 (r0_4.emb x) := by
  obtain ⟨r, l, rfl⟩ : ∃ r l : Fin 128, x = ix2 r l := ⟨x 0, x 1, eq_ix2 x⟩
  obtain ⟨et, er, el⟩ := emb_row 0 inb_S2048x128_S128x128_0_0 r l 0 rfl
  unfold outO
  rw [et, er, el, pay10_apply]
  congr 1
  · funext j; exact sc_first i x0 x1 x2 x5 (hd l) r j
  · funext j; exact win_first x3 x4 j l

/-- The first tile of log-sum-exps where it is stored. -/
theorem firstL (x : S128x128.Idx) :
    k0_pay11 (F := Ideal) (k0_pay3 i) k0_pay4 (k0_pay5 (View.ld x5 r0_0) (View.ld x5 r0_1) (View.ld x5 r0_2) (View.ld x5 r0_3))
      (View.ld x0 r0_4) (View.ld x2 r0_5) (View.ld x4 r0_5) (View.ld x1 r0_4) (View.ld x3 r0_4) x
    = outL i x0 x1 x2 x5 (r0_4.emb x) := by
  obtain ⟨r, l, rfl⟩ : ∃ r l : Fin 128, x = ix2 r l := ⟨x 0, x 1, eq_ix2 x⟩
  obtain ⟨et, er, el⟩ := emb_row 0 inb_S2048x128_S128x128_0_0 r l 0 rfl
  unfold outL
  rw [et, er, el, pay11_apply]
  congr 1
  funext j; exact sc_first i x0 x1 x2 x5 (hd l) r j

/-- THE OUTPUT BLOCK the grid point leaves. -/
theorem out6_eq : out0_6 (F := Ideal) i x0 x1 x2 x3 x4 x5 = outO i x0 x1 x2 x3 x4 x5 := by
  funext y
  unfold out0_6
  refine View.canon_apply_of_pieces _ _ ?_ y (cover0_6 _ _ _ _ _ _ _ _ _ _ _ _ _ _ _ _ y)
  simp only [List.forall_mem_cons]
  refine ⟨later i x0 x1 x2 x3 x4 x5 15 1792 rfl _ _, later i x0 x1 x2 x3 x4 x5 14 1664 rfl _ _,
    later i x0 x1 x2 x3 x4 x5 13 1536 rfl _ _, later i x0 x1 x2 x3 x4 x5 12 1408 rfl _ _,
    later i x0 x1 x2 x3 x4 x5 11 1280 rfl _ _, later i x0 x1 x2 x3 x4 x5 10 1152 rfl _ _,
    later i x0 x1 x2 x3 x4 x5 9 1024 rfl _ _, later i x0 x1 x2 x3 x4 x5 8 896 rfl _ _,
    later i x0 x1 x2 x3 x4 x5 7 768 rfl _ _, later i x0 x1 x2 x3 x4 x5 6 640 rfl _ _,
    later i x0 x1 x2 x3 x4 x5 5 512 rfl _ _, later i x0 x1 x2 x3 x4 x5 4 384 rfl _ _,
    later i x0 x1 x2 x3 x4 x5 3 256 rfl _ _, later i x0 x1 x2 x3 x4 x5 2 128 rfl _ _,
    later i x0 x1 x2 x3 x4 x5 1 0 rfl _ _, first i x0 x1 x2 x3 x4 x5, ?_⟩
  simp

end Cert.BandBlock

end
-- ==== Proof.BandLse.lean ====
/-
  What one grid point of the sliding-window attention kernel leaves in its block of log-sum-exps.
-/
module

public import proofs.«01_k».proof.Proof.BandBlock

@[expose] public section

set_option maxRecDepth 16384

noncomputable section

namespace Cert.BandBlock

open Cert.Band1Ideal Cert.Band1Ideal.Gen Idealize.ShloMosaic Cert.Soft Cert.Tile Cert.BandTile

variable (i : grid0.Coords) (x0 x1 : Vec Ideal S2048x128 .f32) (x2 : Vec Ideal S128x128 .f32)
  (x3 : Vec Ideal S2048x128 .f32) (x4 : Vec Ideal S128x128 .f32) (x5 : Vec Ideal S2x2x128x128 .f32)

/-! The tiles' log-sum-exps are printed with their values cut in different places. Each is the same function of the mask, the
    lane test, the bias, the query tile and the two halves of keys and values. -/

variable (M : FVec Ideal S128x256 .f32) (L : IVec S128x128 1) (B : FVec Ideal S256x256 .f32) (q a v b w : Vec Ideal S128x128 .f32)

/-- The log-sum-exps of cut 1, in the first tile's form. -/
theorem cut1 : k0_pay19 (F := Ideal) L (k0_pay17 M L B q a v b w) (k0_pay18 M L B q a v b w)
    = k0_pay11 M L B q a v b w := rfl

/-- The log-sum-exps of cut 2, in the first tile's form. -/
theorem cut2 : k0_pay26 (F := Ideal) L (k0_pay21 M L B q a b) (k0_pay25 M L B q a v b w)
    = k0_pay11 M L B q a v b w := rfl

/-- The log-sum-exps of cut 3, in the first tile's form. -/
theorem cut3 : k0_pay32 (F := Ideal) L (k0_pay28 M L B q a b) (k0_pay30 M L B q a v b w)
    = k0_pay11 M L B q a v b w := rfl

/-- The log-sum-exps of cut 4, in the first tile's form. -/
theorem cut4 : k0_pay41 (F := Ideal) L (k0_pay34 M L B q a b) (k0_pay36 M L B q a v b w)
    = k0_pay11 M L B q a v b w := rfl

/-- The log-sum-exps of cut 5, in the first tile's form. -/
theorem cut5 : k0_pay48 (F := Ideal) L (k0_pay43 M L B q a b) (k0_pay45 M L B q a v b w)
    = k0_pay11 M L B q a v b w := rfl

/-- The log-sum-exps of cut 6, in the first tile's form. -/
theorem cut6 : k0_pay56 (F := Ideal) L (k0_pay50 M L B q a b) (k0_pay51 M L B q a b) (k0_pay52 v w) (constant S256x256 .f32 0x00000000#32)
    = k0_pay11 M L B q a v b w := rfl

/-- The log-sum-exps of cut 7, in the first tile's form. -/
theorem cut7 : k0_pay65 (F := Ideal) L (k0_pay57 v w) (k0_pay59 M L B q a b) (k0_pay60 M L B q a b) k0_pay61
    = k0_pay11 M L B q a v b w := rfl

/-- The log-sum-exps of cut 8, in the first tile's form. -/
theorem cut8 : k0_pay73 (F := Ideal) L (k0_pay66 v w) (k0_pay68 M L B q a b) (k0_pay69 M L B q a b)
    = k0_pay11 M L B q a v b w := rfl

/-- The log-sum-exps of cut 9, in the first tile's form. -/
theorem cut9 : k0_pay81 (F := Ideal) L (k0_pay74 v w) (k0_pay75 M L B q a b) (k0_pay76 M L B q a b)
    = k0_pay11 M L B q a v b w := rfl

/-- The log-sum-exps of cut 10, in the first tile's form. -/
theorem cut10 : k0_pay89 (F := Ideal) L B (k0_pay82 v w) (k0_pay83 M L q a b)
    = k0_pay11 M L B q a v b w := rfl

/-! So each tile leaves its rows' log-sum-exps. -/

/-- The log-sum-exps of tile 1. -/
theorem tile1 (x : S128x128.Idx) :
    k0_pay19 (F := Ideal) (k0_pay133 i x0 x1 x2 x3 x4 x5) (k0_pay17 (k0_pay131 i x0 x1 x2 x3 x4 x5) (k0_pay133 i x0 x1 x2 x3 x4 x5) (k0_pay134 i x0 x1 x2 x3 x4 x5) (View.ld x0 r0_6) (View.ld x1 r0_4) (View.ld x3 r0_4) (View.ld x1 r0_6) (View.ld x3 r0_6)) (k0_pay18 (k0_pay131 i x0 x1 x2 x3 x4 x5) (k0_pay133 i x0 x1 x2 x3 x4 x5) (k0_pay134 i x0 x1 x2 x3 x4 x5) (View.ld x0 r0_6) (View.ld x1 r0_4) (View.ld x3 r0_4) (View.ld x1 r0_6) (View.ld x3 r0_6)) x
      = outL i x0 x1 x2 x5 (r0_6.emb x) := by
  refine (congrFun (cut1 (k0_pay131 i x0 x1 x2 x3 x4 x5) (k0_pay133 i x0 x1 x2 x3 x4 x5) (k0_pay134 i x0 x1 x2 x3 x4 x5)
    (View.ld x0 r0_6) (View.ld x1 r0_4) (View.ld x3 r0_4) (View.ld x1 r0_6) (View.ld x3 r0_6)) x).trans ?_
  unfold k0_pay131 k0_pay133 k0_pay134
  exact laterL i x0 x1 x2 x3 x5 1 0 rfl _ _ x

/-- The log-sum-exps of tile 2. -/
theorem tile2 (x : S128x128.Idx) :
    k0_pay26 (F := Ideal) (k0_pay133 i x0 x1 x2 x3 x4 x5) (k0_pay21 (k0_pay131 i x0 x1 x2 x3 x4 x5) (k0_pay133 i x0 x1 x2 x3 x4 x5) (k0_pay134 i x0 x1 x2 x3 x4 x5) (View.ld x0 r0_7) (View.ld x1 r0_6) (View.ld x1 r0_7)) (k0_pay25 (k0_pay131 i x0 x1 x2 x3 x4 x5) (k0_pay133 i x0 x1 x2 x3 x4 x5) (k0_pay134 i x0 x1 x2 x3 x4 x5) (View.ld x0 r0_7) (View.ld x1 r0_6) (View.ld x3 r0_6) (View.ld x1 r0_7) (View.ld x3 r0_7)) x
      = outL i x0 x1 x2 x5 (r0_7.emb x) := by
  refine (congrFun (cut2 (k0_pay131 i x0 x1 x2 x3 x4 x5) (k0_pay133 i x0 x1 x2 x3 x4 x5) (k0_pay134 i x0 x1 x2 x3 x4 x5)
    (View.ld x0 r0_7) (View.ld x1 r0_6) (View.ld x3 r0_6) (View.ld x1 r0_7) (View.ld x3 r0_7)) x).trans ?_
  unfold k0_pay131 k0_pay133 k0_pay134
  exact laterL i x0 x1 x2 x3 x5 2 128 rfl _ _ x

/-- The log-sum-exps of tile 3. -/
theorem tile3 (x : S128x128.Idx) :
    k0_pay32 (F := Ideal) (k0_pay133 i x0 x1 x2 x3 x4 x5) (k0_pay28 (k0_pay131 i x0 x1 x2 x3 x4 x5) (k0_pay133 i x0 x1 x2 x3 x4 x5) (k0_pay134 i x0 x1 x2 x3 x4 x5) (View.ld x0 r0_8) (View.ld x1 r0_7) (View.ld x1 r0_8)) (k0_pay30 (k0_pay131 i x0 x1 x2 x3 x4 x5) (k0_pay133 i x0 x1 x2 x3 x4 x5) (k0_pay134 i x0 x1 x2 x3 x4 x5) (View.ld x0 r0_8) (View.ld x1 r0_7) (View.ld x3 r0_7) (View.ld x1 r0_8) (View.ld x3 r0_8)) x
      = outL i x0 x1 x2 x5 (r0_8.emb x) := by
  refine (congrFun (cut3 (k0_pay131 i x0 x1 x2 x3 x4 x5) (k0_pay133 i x0 x1 x2 x3 x4 x5) (k0_pay134 i x0 x1 x2 x3 x4 x5)
    (View.ld x0 r0_8) (View.ld x1 r0_7) (View.ld x3 r0_7) (View.ld x1 r0_8) (View.ld x3 r0_8)) x).trans ?_
  unfold k0_pay131 k0_pay133 k0_pay134
  exact laterL i x0 x1 x2 x3 x5 3 256 rfl _ _ x

/-- The log-sum-exps of tile 4. -/
theorem tile4 (x : S128x128.Idx) :
    k0_pay41 (F := Ideal) (k0_pay133 i x0 x1 x2 x3 x4 x5) (k0_pay34 (k0_pay131 i x0 x1 x2 x3 x4 x5) (k0_pay133 i x0 x1 x2 x3 x4 x5) (k0_pay134 i x0 x1 x2 x3 x4 x5) (View.ld x0 r0_9) (View.ld x1 r0_8) (View.ld x1 r0_9)) (k0_pay36 (k0_pay131 i x0 x1 x2 x3 x4 x5) (k0_pay133 i x0 x1 x2 x3 x4 x5) (k0_pay134 i x0 x1 x2 x3 x4 x5) (View.ld x0 r0_9) (View.ld x1 r0_8) (View.ld x3 r0_8) (View.ld x1 r0_9) (View.ld x3 r0_9)) x
      = outL i x0 x1 x2 x5 (r0_9.emb x) := by
  refine (congrFun (cut4 (k0_pay131 i x0 x1 x2 x3 x4 x5) (k0_pay133 i x0 x1 x2 x3 x4 x5) (k0_pay134 i x0 x1 x2 x3 x4 x5)
    (View.ld x0 r0_9) (View.ld x1 r0_8) (View.ld x3 r0_8) (View.ld x1 r0_9) (View.ld x3 r0_9)) x).trans ?_
  unfold k0_pay131 k0_pay133 k0_pay134
  exact laterL i x0 x1 x2 x3 x5 4 384 rfl _ _ x

/-- The log-sum-exps of tile 5. -/
theorem tile5 (x : S128x128.Idx) :
    k0_pay48 (F := Ideal) (k0_pay133 i x0 x1 x2 x3 x4 x5) (k0_pay43 (k0_pay131 i x0 x1 x2 x3 x4 x5) (k0_pay133 i x0 x1 x2 x3 x4 x5) (k0_pay134 i x0 x1 x2 x3 x4 x5) (View.ld x0 r0_10) (View.ld x1 r0_9) (View.ld x1 r0_10)) (k0_pay135 i x0 x1 x2 x3 x4 x5) x
      = outL i x0 x1 x2 x5 (r0_10.emb x) := by
  unfold k0_pay135
  refine (congrFun (cut5 (k0_pay131 i x0 x1 x2 x3 x4 x5) (k0_pay133 i x0 x1 x2 x3 x4 x5) (k0_pay134 i x0 x1 x2 x3 x4 x5)
    (View.ld x0 r0_10) (View.ld x1 r0_9) (View.ld x3 r0_9) (View.ld x1 r0_10) (View.ld x3 r0_10)) x).trans ?_
  unfold k0_pay131 k0_pay133 k0_pay134
  exact laterL i x0 x1 x2 x3 x5 5 512 rfl _ _ x

/-- The log-sum-exps of tile 6. -/
theorem tile6 (x : S128x128.Idx) :
    k0_pay56 (F := Ideal) (k0_pay133 i x0 x1 x2 x3 x4 x5) (k0_pay50 (k0_pay131 i x0 x1 x2 x3 x4 x5) (k0_pay133 i x0 x1 x2 x3 x4 x5) (k0_pay134 i x0 x1 x2 x3 x4 x5) (View.ld x0 r0_11) (View.ld x1 r0_10) (View.ld x1 r0_11)) (k0_pay137 i x0 x1 x2 x3 x4 x5) (k0_pay138 i x0 x1 x2 x3 x4 x5) (k0_pay136 i x0 x1 x2 x3 x4 x5) x
      = outL i x0 x1 x2 x5 (r0_11.emb x) := by
  unfold k0_pay136 k0_pay137 k0_pay138
  refine (congrFun (cut6 (k0_pay131 i x0 x1 x2 x3 x4 x5) (k0_pay133 i x0 x1 x2 x3 x4 x5) (k0_pay134 i x0 x1 x2 x3 x4 x5)
    (View.ld x0 r0_11) (View.ld x1 r0_10) (View.ld x3 r0_10) (View.ld x1 r0_11) (View.ld x3 r0_11)) x).trans ?_
  unfold k0_pay131 k0_pay133 k0_pay134
  exact laterL i x0 x1 x2 x3 x5 6 640 rfl _ _ x

/-- The log-sum-exps of tile 7. -/
theorem tile7 (x : S128x128.Idx) :
    k0_pay65 (F := Ideal) (k0_pay133 i x0 x1 x2 x3 x4 x5) (k0_pay139 i x0 x1 x2 x3 x4 x5) (k0_pay59 (k0_pay131 i x0 x1 x2 x3 x4 x5) (k0_pay133 i x0 x1 x2 x3 x4 x5) (k0_pay134 i x0 x1 x2 x3 x4 x5) (View.ld x0 r0_12) (View.ld x1 r0_11) (View.ld x1 r0_12)) (k0_pay140 i x0 x1 x2 x3 x4 x5) (k0_pay141 i x0 x1 x2 x3 x4 x5) x
      = outL i x0 x1 x2 x5 (r0_12.emb x) := by
  unfold k0_pay139 k0_pay140 k0_pay141
  refine (congrFun (cut7 (k0_pay131 i x0 x1 x2 x3 x4 x5) (k0_pay133 i x0 x1 x2 x3 x4 x5) (k0_pay134 i x0 x1 x2 x3 x4 x5)
    (View.ld x0 r0_12) (View.ld x1 r0_11) (View.ld x3 r0_11) (View.ld x1 r0_12) (View.ld x3 r0_12)) x).trans ?_
  unfold k0_pay131 k0_pay133 k0_pay134
  exact laterL i x0 x1 x2 x3 x5 7 768 rfl _ _ x

/-- The log-sum-exps of tile 8. -/
theorem tile8 (x : S128x128.Idx) :
    k0_pay73 (F := Ideal) (k0_pay133 i x0 x1 x2 x3 x4 x5) (k0_pay142 i x0 x1 x2 x3 x4 x5) (k0_pay68 (k0_pay131 i x0 x1 x2 x3 x4 x5) (k0_pay133 i x0 x1 x2 x3 x4 x5) (k0_pay134 i x0 x1 x2 x3 x4 x5) (View.ld x0 r0_13) (View.ld x1 r0_12) (View.ld x1 r0_13)) (k0_pay143 i x0 x1 x2 x3 x4 x5) x
      = outL i x0 x1 x2 x5 (r0_13.emb x) := by
  unfold k0_pay142 k0_pay143
  refine (congrFun (cut8 (k0_pay131 i x0 x1 x2 x3 x4 x5) (k0_pay133 i x0 x1 x2 x3 x4 x5) (k0_pay134 i x0 x1 x2 x3 x4 x5)
    (View.ld x0 r0_13) (View.ld x1 r0_12) (View.ld x3 r0_12) (View.ld x1 r0_13) (View.ld x3 r0_13)) x).trans ?_
  unfold k0_pay131 k0_pay133 k0_pay134
  exact laterL i x0 x1 x2 x3 x5 8 896 rfl _ _ x

/-- The log-sum-exps of tile 9. -/
theorem tile9 (x : S128x128.Idx) :
    k0_pay81 (F := Ideal) (k0_pay133 i x0 x1 x2 x3 x4 x5) (k0_pay144 i x0 x1 x2 x3 x4 x5) (k0_pay145 i x0 x1 x2 x3 x4 x5) (k0_pay146 i x0 x1 x2 x3 x4 x5) x
      = outL i x0 x1 x2 x5 (r0_14.emb x) := by
  unfold k0_pay144 k0_pay145 k0_pay146
  refine (congrFun (cut9 (k0_pay131 i x0 x1 x2 x3 x4 x5) (k0_pay133 i x0 x1 x2 x3 x4 x5) (k0_pay134 i x0 x1 x2 x3 x4 x5)
    (View.ld x0 r0_14) (View.ld x1 r0_13) (View.ld x3 r0_13) (View.ld x1 r0_14) (View.ld x3 r0_14)) x).trans ?_
  unfold k0_pay131 k0_pay133 k0_pay134
  exact laterL i x0 x1 x2 x3 x5 9 1024 rfl _ _ x

/-- The log-sum-exps of tile 10. -/
theorem tile10 (x : S128x128.Idx) :
    k0_pay89 (F := Ideal) (k0_pay133 i x0 x1 x2 x3 x4 x5) (k0_pay134 i x0 x1 x2 x3 x4 x5) (k0_pay147 i x0 x1 x2 x3 x4 x5) (k0_pay148 i x0 x1 x2 x3 x4 x5) x
      = outL i x0 x1 x2 x5 (r0_15.emb x) := by
  unfold k0_pay147 k0_pay148
  refine (congrFun (cut10 (k0_pay131 i x0 x1 x2 x3 x4 x5) (k0_pay133 i x0 x1 x2 x3 x4 x5) (k0_pay134 i x0 x1 x2 x3 x4 x5)
    (View.ld x0 r0_15) (View.ld x1 r0_14) (View.ld x3 r0_14) (View.ld x1 r0_15) (View.ld x3 r0_15)) x).trans ?_
  unfold k0_pay131 k0_pay133 k0_pay134
  exact laterL i x0 x1 x2 x3 x5 10 1152 rfl _ _ x

/-- THE LOG-SUM-EXP BLOCK the grid point leaves. -/
theorem out7_eq : out0_7 (F := Ideal) i x0 x1 x2 x3 x4 x5 = outL i x0 x1 x2 x5 := by
  funext y
  unfold out0_7
  refine View.canon_apply_of_pieces _ _ ?_ y (cover0_7 _ _ _ _ _ _ _ _ _ _ _ _ _ _ _ _ y)
  rw [List.forall_mem_cons, List.forall_mem_cons, List.forall_mem_cons, List.forall_mem_cons, List.forall_mem_cons,
    List.forall_mem_cons, List.forall_mem_cons, List.forall_mem_cons, List.forall_mem_cons, List.forall_mem_cons,
    List.forall_mem_cons, List.forall_mem_cons, List.forall_mem_cons, List.forall_mem_cons, List.forall_mem_cons,
    List.forall_mem_cons]
  refine ⟨laterL i x0 x1 x2 x3 x5 15 1792 rfl _ _,
    laterL i x0 x1 x2 x3 x5 14 1664 rfl _ _,
    laterL i x0 x1 x2 x3 x5 13 1536 rfl _ _,
    laterL i x0 x1 x2 x3 x5 12 1408 rfl _ _,
    laterL i x0 x1 x2 x3 x5 11 1280 rfl _ _,
    tile10 i x0 x1 x2 x3 x4 x5, tile9 i x0 x1 x2 x3 x4 x5,
    tile8 i x0 x1 x2 x3 x4 x5, tile7 i x0 x1 x2 x3 x4 x5, tile6 i x0 x1 x2 x3 x4 x5, tile5 i x0 x1 x2 x3 x4 x5,
    tile4 i x0 x1 x2 x3 x4 x5, tile3 i x0 x1 x2 x3 x4 x5, tile2 i x0 x1 x2 x3 x4 x5, tile1 i x0 x1 x2 x3 x4 x5,
    firstL i x0 x1 x2 x3 x4 x5, ?_⟩
  simp

end Cert.BandBlock

end
-- ==== Proof.BandArray.lean ====
/-
  The two arrays the sliding-window attention kernel leaves, index by index.
-/
module

public import proofs.«01_k».proof.Proof.BandLse
public import proofs.«01_k».proof.Proof.BandSpec
public import proofs.«01_k».proof.Proof.Gen.Band1Ideal.Value
public import Idealize.ShloMosaic.Lib.Pipeline.ValueKit.Geometry

@[expose] public section

set_option maxRecDepth 16384

noncomputable section

namespace Cert.BandArray

open Cert.Band1Ideal Cert.Band1Ideal.Gen Idealize.ShloMosaic Idealize.ShloMosaic.TcCoe Cert.Soft Cert.Tile Cert.BandBlock Cert.BandSpec

variable (m : (ℓ : Loc nD τ sig) → Buf (Elt Ideal) ℓ) (c : Dev nD)

/-- The four arguments. -/
def q0 : Vec Ideal S16384x512 .f32 := m ((c : Thread nD τ).loc main_arg0)
/-- The keys given. -/
def k0 : Vec Ideal S16384x512 .f32 := m ((c : Thread nD τ).loc main_arg1)
/-- The values given. -/
def v0 : Vec Ideal S16384x512 .f32 := m ((c : Thread nD τ).loc main_arg2)
/-- The bias given. -/
def b0 : Vec Ideal S8x128x256 .f32 := m ((c : Thread nD τ).loc main_arg3)

/-- The queries, scaled as the kernel's caller scales them. -/
def Q (a : Fin 16384) (b : Fin 512) : EReal := q0 m c (ix2 a b) * Ideal.ofBits .f32 0x3E000000#32
/-- A key, by position and column. -/
def K (a : Fin 16384) (b : Fin 512) : EReal := k0 m c (ix2 a b)
/-- A value, by position and column. -/
def W (a : Fin 16384) (b : Fin 512) : EReal := v0 m c (ix2 a b)
/-- A bias, by head, row and key. -/
def B (h : Fin 8) (r : Fin 128) (j : Fin 256) : EReal := b0 m c (ix3 h r j)

/-- A grid point's row block and head pair. -/
def rb (t : Fin cfg0.N) : Fin 8 := grid0.coords t 1
/-- A step's pair of heads. -/
def hp (t : Fin cfg0.N) : Fin 4 := grid0.coords t 0

/-- Where each window's block lies. -/
theorem where_ : ∀ t : Fin cfg0.N,
    (win0_0.index t 0 = (rb t).val ∧ win0_0.index t 1 = (hp t).val) ∧ (win0_1.index t 0 = (rb t).val ∧ win0_1.index t 1 = (hp t).val)
    ∧ (win0_2.index t 0 = 16 * (rb t).val - 1 ∧ win0_2.index t 1 = (hp t).val)
    ∧ (win0_3.index t 0 = (rb t).val ∧ win0_3.index t 1 = (hp t).val)
    ∧ (win0_4.index t 0 = 16 * (rb t).val - 1 ∧ win0_4.index t 1 = (hp t).val)
    ∧ (win0_5.index t 0 = (hp t).val ∧ win0_5.index t 1 = 0 ∧ win0_5.index t 2 = 0 ∧ win0_5.index t 3 = 0)
    ∧ (win0_6.index t 0 = (rb t).val ∧ win0_6.index t 1 = (hp t).val)
    ∧ (win0_7.index t 0 = (rb t).val ∧ win0_7.index t 1 = (hp t).val) := by
  decide +kernel

/-- Row `R` and column `l` of a block, in the array. -/
def row (t : Fin cfg0.N) (R : Fin 2048) : Fin 16384 := ⟨2048 * (rb t).val + R.val, by omega⟩
/-- A row of the block of keys before a step's. -/
def prow (t : Fin cfg0.N) (R : Fin 128) : Fin 16384 := ⟨128 * (16 * (rb t).val - 1) + R.val, by omega⟩
/-- A lane of a step, among the columns. -/
def cl (t : Fin cfg0.N) (l : Fin 128) : Fin 512 := ⟨128 * (hp t).val + l.val, by omega⟩

/-- The step's queries. -/
theorem read0 (t : Fin cfg0.N) (R : Fin 2048) (l : Fin 128) : iblk m c 0 t (ix2 R l) = Q m c (row t R) (cl t l) := by
  have e : (win0_0.blk t).view.emb (ix2 R l) = ix2 (row t R) (cl t l) := by
    refine Shape.idx_ext₂ ?_ ?_
    · blk_simp [(where_ t).1.1]; show _ = 2048 * _ + _; omega
    · blk_simp [(where_ t).1.2]; show _ = 128 * _ + _; omega
  unfold iblk Q q0
  entry_read
  blk_simp
  rw [e]
  pointwise

/-- The step's keys. -/
theorem read1 (t : Fin cfg0.N) (R : Fin 2048) (l : Fin 128) : iblk m c 1 t (ix2 R l) = K m c (row t R) (cl t l) := by
  have e : (win0_1.blk t).view.emb (ix2 R l) = ix2 (row t R) (cl t l) := by
    refine Shape.idx_ext₂ ?_ ?_
    · blk_simp [(where_ t).2.1.1]; show _ = 2048 * _ + _; omega
    · blk_simp [(where_ t).2.1.2]; show _ = 128 * _ + _; omega
  unfold iblk K k0
  entry_read
  blk_simp
  rw [e]

/-- The keys of the block before. -/
theorem read2 (t : Fin cfg0.N) (R : Fin 128) (l : Fin 128) : iblk m c 2 t (ix2 R l) = K m c (prow t R) (cl t l) := by
  have e : (win0_2.blk t).view.emb (ix2 R l) = ix2 (prow t R) (cl t l) := by
    refine Shape.idx_ext₂ ?_ ?_
    · blk_simp [(where_ t).2.2.1.1]; show _ = 128 * _ + _; omega
    · blk_simp [(where_ t).2.2.1.2]; show _ = 128 * _ + _; omega
  unfold iblk K k0
  entry_read
  blk_simp
  rw [e]

/-- The step's values. -/
theorem read3 (t : Fin cfg0.N) (R : Fin 2048) (l : Fin 128) : iblk m c 3 t (ix2 R l) = W m c (row t R) (cl t l) := by
  have e : (win0_3.blk t).view.emb (ix2 R l) = ix2 (row t R) (cl t l) := by
    refine Shape.idx_ext₂ ?_ ?_
    · blk_simp [(where_ t).2.2.2.1.1]; show _ = 2048 * _ + _; omega
    · blk_simp [(where_ t).2.2.2.1.2]; show _ = 128 * _ + _; omega
  unfold iblk W v0
  entry_read
  blk_simp
  rw [e]

/-- The values of the block before. -/
theorem read4 (t : Fin cfg0.N) (R : Fin 128) (l : Fin 128) : iblk m c 4 t (ix2 R l) = W m c (prow t R) (cl t l) := by
  have e : (win0_4.blk t).view.emb (ix2 R l) = ix2 (prow t R) (cl t l) := by
    refine Shape.idx_ext₂ ?_ ?_
    · blk_simp [(where_ t).2.2.2.2.1.1]; show _ = 128 * _ + _; omega
    · blk_simp [(where_ t).2.2.2.2.1.2]; show _ = 128 * _ + _; omega
  unfold iblk W v0
  entry_read
  blk_simp
  rw [e]

/-- The step's bias. -/
theorem read5 (t : Fin cfg0.N) (h : Fin 2) (x : Fin 2) (r s : Fin 128) :
    iblk m c 5 t (ix4 h x r s) = B m c ⟨2 * (hp t).val + h.val, by omega⟩ r ⟨128 * x.val + s.val, by omega⟩ := by
  have e : (win0_5.blk t).view.emb (ix4 h x r s) = ix4 (⟨2 * (hp t).val + h.val, by omega⟩ : Fin 8) x r s := by
    obtain ⟨e0, e1, e2, e3⟩ := (where_ t).2.2.2.2.2.1
    funext a
    refine Fin.ext ?_
    fin_cases a
    · blk_simp [e0]; show (hp t).val * 2 + h.val = 2 * (hp t).val + h.val; omega
    · blk_simp [e1]; rfl
    · blk_simp [e2]; rfl
    · blk_simp [e3]; rfl
  unfold iblk B b0
  entry_read
  blk_simp
  rw [e]
  obtain rfl | rfl : x = 0 ∨ x = 1 := by omega
  · pointwise
  · pointwise

/-- A seen key of the block's window is the array's. -/
theorem key_k (t : Fin cfg0.N) (R : Fin 2048) (j : Fin 256) (l : Fin 128) (h : ok (row t R) j) :
    key (iblk m c 1 t) (iblk m c 2 t) (tl R) j l = K m c (kr (row t R) j) (cl t l) := by
  have h3 := h.2
  unfold key
  split
  · rename_i hh
    rw [read2]
    have h4 : 128 ≤ 128 * ((2048 * (rb t).val + R.val) / 128) + j.val := h3
    have h5 : R.val / 128 = 0 := hh.1
    refine congrArg (fun a => K m c a (cl t l)) (Fin.ext ?_)
    show 128 * (16 * (rb t).val - 1) + j.val = 128 * ((2048 * (rb t).val + R.val) / 128) + j.val - 128
    omega
  · rename_i hh
    rw [read1]
    have h4 : 128 ≤ 128 * ((2048 * (rb t).val + R.val) / 128) + j.val := h3
    have h5 : ¬(R.val / 128 = 0 ∧ j.val < 128) := hh
    refine congrArg (fun a => K m c a (cl t l)) (Fin.ext ?_)
    show 2048 * (rb t).val + (128 * (R.val / 128) + j.val - 128) = 128 * ((2048 * (rb t).val + R.val) / 128) + j.val - 128
    omega

/-- A seen value likewise. -/
theorem key_v (t : Fin cfg0.N) (R : Fin 2048) (j : Fin 256) (l : Fin 128) (h : ok (row t R) j) :
    key (iblk m c 3 t) (iblk m c 4 t) (tl R) j l = W m c (kr (row t R) j) (cl t l) := by
  have h3 := h.2
  unfold key
  split
  · rename_i hh
    rw [read4]
    have h4 : 128 ≤ 128 * ((2048 * (rb t).val + R.val) / 128) + j.val := h3
    have h5 : R.val / 128 = 0 := hh.1
    refine congrArg (fun a => W m c a (cl t l)) (Fin.ext ?_)
    show 128 * (16 * (rb t).val - 1) + j.val = 128 * ((2048 * (rb t).val + R.val) / 128) + j.val - 128
    omega
  · rename_i hh
    rw [read3]
    have h4 : 128 ≤ 128 * ((2048 * (rb t).val + R.val) / 128) + j.val := h3
    have h5 : ¬(R.val / 128 = 0 ∧ j.val < 128) := hh
    refine congrArg (fun a => W m c a (cl t l)) (Fin.ext ?_)
    show 2048 * (rb t).val + (128 * (R.val / 128) + j.val - 128) = 128 * ((2048 * (rb t).val + R.val) / 128) + j.val - 128
    omega

/-- A lane's head within the pair. -/
theorem hd_val (l : Fin 128) : (hd l).val = l.val / 64 := by
  unfold hd
  split
  · show 0 = _; omega
  · show 1 = _; omega

/-- The block's scores are the array's. -/
theorem bsc_eq (t : Fin cfg0.N) (R : Fin 2048) (l : Fin 128) :
    bsc (grid0.coords t) (iblk m c 0 t) (iblk m c 1 t) (iblk m c 2 t) (iblk m c 5 t) (tl R) (hd l) (rw' R)
      = score (Q m c) (K m c) (B m c) (row t R) (hd8 (cl t l)) := by
  funext j
  unfold bsc score
  have hsee : sees (grid0.coords t 1).val (tl R) (rw' R) j ↔ ok (row t R) j := by
    show sees (rb t).val _ _ _ ↔ _
    unfold sees ok tl rw' row
    dsimp only
    omega
  by_cases hk : ok (row t R) j
  · rw [if_pos hk, if_pos (hsee.mpr hk)]
    have hR : (⟨128 * (tl R).val + (rw' R).val, by unfold tl rw'; dsimp only; omega⟩ : Fin 2048) = R :=
      Fin.ext (by unfold tl rw'; dsimp only; omega)
    have hc : ∀ d, cl t (lane (hd l) d) = col (hd8 (cl t l)) d := fun d =>
      Fin.ext (by
        have := hd_val l
        show 128 * (hp t).val + (64 * (hd l).val + d.val) = 64 * ((128 * (hp t).val + l.val) / 64) + d.val
        omega)
    congr 1
    · refine Finset.sum_congr rfl fun d _ => ?_
      rw [hR, read0, key_k m c t R j _ hk, hc]
    · rw [read5]
      congr 1
      · refine Fin.ext ?_
        have := hd_val l
        show 2 * (hp t).val + (hd l).val = (128 * (hp t).val + l.val) / 64
        omega
      · exact Fin.ext (by unfold rw' row; dsimp only; omega)
      · exact Fin.ext (by dsimp only; omega)
  · rw [if_neg hk, if_neg (fun h => hk (hsee.mp h))]

/-- Where an entry of the output block lies. -/
theorem row_emb6 (t : Fin cfg0.N) (y : S2048x128.Idx) : (win0_6.blk t).view.emb y = ix2 (row t (y 0)) (cl t (y 1)) := by
  refine Shape.idx_ext₂ ?_ ?_
  · blk_simp [(where_ t).2.2.2.2.2.2.1.1]; show _ = 2048 * _ + _; omega
  · blk_simp [(where_ t).2.2.2.2.2.2.1.2]; show _ = 128 * _ + _; omega

/-- Where an entry of the log-sum-exp block lies. -/
theorem row_emb7 (t : Fin cfg0.N) (y : S2048x128.Idx) : (win0_7.blk t).view.emb y = ix2 (row t (y 0)) (cl t (y 1)) := by
  refine Shape.idx_ext₂ ?_ ?_
  · blk_simp [(where_ t).2.2.2.2.2.2.2.1]; show _ = 2048 * _ + _; omega
  · blk_simp [(where_ t).2.2.2.2.2.2.2.2]; show _ = 128 * _ + _; omega

/-- The step's output, entry by entry. -/
theorem out_apply (t : Fin cfg0.N) (R : Fin 2048) (l : Fin 128) :
    outO (grid0.coords t) (iblk m c 0 t) (iblk m c 1 t) (iblk m c 2 t) (iblk m c 3 t) (iblk m c 4 t) (iblk m c 5 t) (ix2 R l)
      = attO (Q m c) (K m c) (W m c) (B m c) (row t R) (cl t l) := by
  show att (bsc (grid0.coords t) (iblk m c 0 t) (iblk m c 1 t) (iblk m c 2 t) (iblk m c 5 t) (tl R) (hd l) (rw' R))
      (fun j => key (iblk m c 3 t) (iblk m c 4 t) (tl R) j l) = _
  unfold attO
  rw [bsc_eq]
  refine att_congr fun j hj => key_v m c t R j l ?_
  by_contra hn
  exact hj (by unfold score; rw [if_neg hn])

/-- The step's log-sum-exps, entry by entry. -/
theorem lse_apply (t : Fin cfg0.N) (R : Fin 2048) (l : Fin 128) :
    outL (grid0.coords t) (iblk m c 0 t) (iblk m c 1 t) (iblk m c 2 t) (iblk m c 5 t) (ix2 R l)
      = lseO (Q m c) (K m c) (B m c) (row t R) (cl t l) := by
  show lse (bsc (grid0.coords t) (iblk m c 0 t) (iblk m c 1 t) (iblk m c 2 t) (iblk m c 5 t) (tl R) (hd l) (rw' R)) = _
  unfold lseO
  rw [bsc_eq]

/-- THE ATTENTION'S OUTPUT. -/
theorem arr6 : (dats m 0 c).arrAt 6 cfg0.N
    = (fun y => attO (Q m c) (K m c) (W m c) (B m c) (y 0) (y 1) : Vec Ideal S16384x512 .f32) := by
  refine (dats m 0 c).arrAt_eq_of_covers 6 _ (by decide +kernel) fun t hf y => ?_
  blk_simp
  rw [after0_6, out6_eq]
  refine Eq.trans ?_ (congrArg (fun y : S16384x512.Idx => attO (Q m c) (K m c) (W m c) (B m c) (y 0) (y 1)) (row_emb6 t y)).symm
  obtain ⟨R, l, rfl⟩ : ∃ (R : Fin 2048) (l : Fin 128), y = ix2 R l := ⟨y 0, y 1, eq_ix2 y⟩
  exact out_apply m c t R l

/-- ITS LOG-SUM-EXPS. -/
theorem arr7 : (dats m 0 c).arrAt 7 cfg0.N
    = (fun y => lseO (Q m c) (K m c) (B m c) (y 0) (y 1) : Vec Ideal S16384x512 .f32) := by
  refine (dats m 0 c).arrAt_eq_of_covers 7 _ (by decide +kernel) fun t hf y => ?_
  blk_simp
  rw [after0_7, out7_eq]
  refine Eq.trans ?_ (congrArg (fun y : S16384x512.Idx => lseO (Q m c) (K m c) (B m c) (y 0) (y 1)) (row_emb7 t y)).symm
  obtain ⟨R, l, rfl⟩ : ∃ (R : Fin 2048) (l : Fin 128), y = ix2 R l := ⟨y 0, y 1, eq_ix2 y⟩
  exact lse_apply m c t R l

end Cert.BandArray

end
-- ==== Proof.BandEq.lean ====
/-
  The two programs compute the same arrays: where the queries, the keys and the bias are finite, the kernel's output — the
  weighted values over the weights' sum — is the reference's, which divides the weights first.
-/
module

public import proofs.«01_k».proof.Proof.BandRef
public import proofs.«01_k».proof.Proof.BandArray

@[expose] public section

noncomputable section

namespace Cert.BandEq

open Idealize.ShloMosaic Cert.BandRef1Ideal Cert.BandRef1Ideal.Read Cert.BandRef Cert.BandSpec Cert.Soft Cert.Tile

/-- An extended real that is neither infinity. -/
def fin (x : EReal) : Prop := ∃ r : ℝ, x = (r : EReal)

/-- Products of reals are real. -/
theorem fin_mul {x y : EReal} : fin x → fin y → fin (x * y) := by
  rintro ⟨a, rfl⟩ ⟨b, rfl⟩
  exact ⟨a * b, (EReal.coe_mul a b).symm⟩

/-- Sums of two reals are real. -/
theorem fin_add {x y : EReal} : fin x → fin y → fin (x + y) := by
  rintro ⟨a, rfl⟩ ⟨b, rfl⟩
  exact ⟨a + b, (EReal.coe_add a b).symm⟩

/-- Sums of reals are real. -/
theorem fin_sum {n : ℕ} (f : Fin n → EReal) (h : ∀ i, fin (f i)) : fin (∑ i, f i) := by
  choose g hg using h
  exact ⟨∑ i, g i, by rw [coe_sum]; exact Finset.sum_congr rfl fun i _ => hg i⟩

variable (x0 x1 x2 : FVec Ideal S16384x512 .f32) (x3 : FVec Ideal S8x128x256 .f32)
variable (h0 : ∀ i, fin (x0 i)) (h1 : ∀ i, fin (x1 i)) (h3 : ∀ i, fin (x3 i))

include h0 h1 h3

/-- A seen slot's score is finite. -/
theorem score_fin (n r : Fin 128) (h : Fin 8) (j : Fin 256) (hk : ok (pos n r) j) : fin (sc x0 x1 x3 n r h j) := by
  show fin (score (Q x0) (K x1) (B x3) (pos n r) h j)
  unfold score
  rw [if_pos hk]
  refine fin_add (fin_sum _ fun d => fin_mul (fin_mul (h0 _) ?_) (h1 _)) (h3 _)
  rw [eighth]
  exact ⟨_, rfl⟩

/-- No score is +∞. -/
theorem score_ne_top (n r : Fin 128) (h : Fin 8) (j : Fin 256) : sc x0 x1 x3 n r h j ≠ ⊤ := by
  by_cases hk : ok (pos n r) j
  · obtain ⟨a, ha⟩ := score_fin x0 x1 x3 h0 h1 h3 n r h j hk
    rw [ha]
    exact EReal.coe_ne_top a
  · rw [show sc x0 x1 x3 n r h j = ⊥ from if_neg hk]
    exact bot_ne_top

/-- Every position sees itself. -/
theorem self_ne_bot (n r : Fin 128) (h : Fin 8) : sc x0 x1 x3 n r h ⟨128 + r.val, by omega⟩ ≠ ⊥ := by
  have hk : ok (pos n r) ⟨128 + r.val, by omega⟩ := by
    show ((128 * n.val + r.val) % 128 ≤ 128 + r.val ∧ 128 + r.val ≤ 128 + (128 * n.val + r.val) % 128)
      ∧ 128 ≤ 128 * ((128 * n.val + r.val) / 128) + (128 + r.val)
    omega
  obtain ⟨a, ha⟩ := score_fin x0 x1 x3 h0 h1 h3 n r h _ hk
  rw [ha]
  exact EReal.coe_ne_bot a

/-- THE OUTPUTS ARE EQUAL, element by element. -/
theorem out_eq (n r : Fin 128) (h : Fin 8) (d : Fin 64) :
    attO (Q x0) (K x1) (fun a b => x2 (ix2 a b)) (B x3) (pos n r) (col h d)
      = val_main_v72 (F := Ideal) x0 x1 x2 x3 (ix2 (pos n r) (col h d)) := by
  have hh : hd8 (col h d) = h := by
    refine Fin.ext ?_
    show (64 * h.val + d.val) / 64 = h.val
    omega
  rw [out_apply]
  have e := div_sum (sc x0 x1 x3 n r h) (score_ne_top x0 x1 x3 h0 h1 h3 n r h) _ (self_ne_bot x0 x1 x3 h0 h1 h3 n r h)
    (fun j => val_main_v16 (F := Ideal) x2 (ix5 (0 : Fin 1) n j h d))
  rw [← e]
  unfold attO
  rw [hh]
  refine att_congr fun j hj => ?_
  have hk : ok (pos n r) j := by
    by_contra hn
    exact hj (if_neg hn)
  exact (val_apply x2 n r j h d hk).symm

omit h0 h1 h3

/-- THE LOG-SUM-EXPS ARE EQUAL, element by element. -/
theorem lse_eq (n r : Fin 128) (h : Fin 8) (d : Fin 64) :
    lseO (Q x0) (K x1) (B x3) (pos n r) (col h d) = val_main_v78 (F := Ideal) x0 x1 x3 (ix2 (pos n r) (col h d)) := by
  have hh : hd8 (col h d) = h := by
    refine Fin.ext ?_
    show (64 * h.val + d.val) / 64 = h.val
    omega
  rw [lse_apply]
  unfold lseO
  rw [hh]

/-- Every index of the results is a block's position and a head's lane. -/
theorem idx_cases (y : S16384x512.Idx) : ∃ (n r : Fin 128) (h : Fin 8) (d : Fin 64), y = ix2 (pos n r) (col h d) := by
  have b0 : (y 0).val < 16384 := (y 0).isLt
  have b1 : (y 1).val < 512 := (y 1).isLt
  refine ⟨⟨(y 0).val / 128, by omega⟩, ⟨(y 0).val % 128, by omega⟩, ⟨(y 1).val / 64, by omega⟩, ⟨(y 1).val % 64, by omega⟩,
    Shape.idx_ext₂ ?_ ?_⟩
  · show (y 0).val = 128 * ((y 0).val / 128) + (y 0).val % 128
    omega
  · show (y 1).val = 64 * ((y 1).val / 64) + (y 1).val % 64
    omega

end Cert.BandEq

end
-- ==== Proof.BandFinite.lean ====
/-
  The precondition read: where it holds, every query, key and bias is a real number.
-/
module

public import proofs.«01_k».proof.Proof.BandEq
public import proofs.«01_k».proof.Proof.Gen.Pre_finite
public import Idealize.ShloMosaic.Lib.ReduceAll

@[expose] public section

noncomputable section

namespace Cert.BandFinite

open Idealize.ShloMosaic Cert.BandEq

/-- The word the magnitudes are compared with is +∞. -/
theorem inf_word : Ideal.ofBits .f32 0x7F800000#32 = ⊤ := by
  simp [Ideal.ofBits, Ideal.ieee]

/-- A number whose magnitude compares below +∞ is real. -/
theorem fin_of_test {x : EReal} (h : Ideal.cmp CmpFPredicate.olt (max x (-x)) (Ideal.ofBits .f32 0x7F800000#32) = 1#1) : fin x := by
  rw [inf_word] at h
  induction x using EReal.rec with
  | bot => exact absurd h (by simp [Ideal.cmp])
  | top => exact absurd h (by simp [Ideal.cmp])
  | coe r => exact ⟨r, rfl⟩

variable [Cert.Pre_finite.Facts]
open Cert.Pre_finite

/-- The precondition's three tests, read at every element. -/
theorem read (x0 x1 x2 : FVec Ideal S16384x512 .f32) (x3 : FVec Ideal S8x128x256 .f32)
    (h : Cert.Pre_finite.fn (F := Ideal) x0 x1 x2 x3 = fun _ => 1#1) :
    (∀ i, fin (x0 i)) ∧ (∀ i, fin (x1 i)) ∧ (∀ i, fin (x3 i)) := by
  have e := congrFun h (Shape.Idx.first Facts.h_S_)
  obtain ⟨e01, e3⟩ := IntOp.andi_eq_one.1 e
  obtain ⟨e0, e1⟩ := IntOp.andi_eq_one.1 e01
  haveI : Subsingleton S_.Idx := ⟨fun a b => funext fun i => i.elim0⟩
  exact ⟨fun i => fin_of_test (Host.reduce_andi_all _ _ _ _ _ e0 i), fun i => fin_of_test (Host.reduce_andi_all _ _ _ _ _ e1 i),
    fun i => fin_of_test (Host.reduce_andi_all _ _ _ _ _ e3 i)⟩

end Cert.BandFinite

end
-- ==== Proof.InFBlock.lean ====
/-
  What one point of the in-projection kernel computes: the normalized rows it keeps, and the rows times its block of
  the weights.
-/
module

public import proofs.«01_k».proof.Proof.Gen.InFIdeal.Value
public import Idealize.ShloMosaic.Lib.Pipeline.ValueKit.Geometry
public import Idealize.ShloMosaic.Lib.Pointwise
public import Idealize.ShloMosaic.Lib.VecWindow

@[expose] public section

set_option maxRecDepth 16384

noncomputable section

namespace Cert.InFBlock

open Cert.InFIdeal Cert.InFIdeal.Gen Idealize.ShloMosaic Idealize.ShloMosaic.TcCoe

/-- A whole buffer read back is what was put there. -/
theorem whole {s : Shape} {e : EltTy} {a : Memref sig .tc .vmem s e} (h : a.IsWhole) {off : Fin s.rank → ℕ} (inb : ∀ b, off b + s.size b ≤ s.size b)
    (x : Vec Ideal s e) : View.readAt (Elt Ideal) a.view (Rect.unit off s.size inb).toLoadRect (h.unread x) = x := by
  rw [View.readAt_full]
  exact h.read_unread x

/-- A row block's first point leaves the normalized rows in the scratch. -/
theorem soutA (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x1408 .bf16) (h4 : a4.IsWhole) (a5 : Memref sig .tc .vmem S1024x1408 .f32) (h5 : a5.IsWhole)
    (a6 : Memref sig .tc .vmem S1024x1024 .bf16) (h6 : a6.IsWhole) (hc0 : cond0_0 i)
    (x0 : Vec Ideal S1024x1024 .f32) (x1 : Vec Ideal S1x1024 .f32) (x2 : Vec Ideal S1024x1408 .bf16) :
    sout0_A_0 c i a2 h2 a3 h3 a4 h4 a5 h5 a6 h6 hc0 x0 x1 x2 = k0_pay1 x0 x1 := by
  unfold sout0_A_0 kernelRun0_A
  dsimp only
  unfold kernelRun0_A.sl.HS0_1
  refine (View.read_writes_full _ _ _ _ _).trans ?_
  exact congrArg₂ k0_pay1 (whole h2 _ x0) (whole h3 _ x1)

/-- It multiplies those rows by its block of the weights. -/
theorem outA (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x1408 .bf16) (h4 : a4.IsWhole) (a5 : Memref sig .tc .vmem S1024x1408 .f32) (h5 : a5.IsWhole)
    (a6 : Memref sig .tc .vmem S1024x1024 .bf16) (h6 : a6.IsWhole) (hc0 : cond0_0 i)
    (x0 : Vec Ideal S1024x1024 .f32) (x1 : Vec Ideal S1x1024 .f32) (x2 : Vec Ideal S1024x1408 .bf16) :
    out0_A_3 c i a2 h2 a3 h3 a4 h4 a5 h5 a6 h6 hc0 x0 x1 x2 = k0_pay2 (k0_pay1 x0 x1) x2 := by
  unfold out0_A_3 kernelRun0_A
  dsimp only
  refine (View.read_writes_full _ _ _ _ _).trans ?_
  refine congrArg₂ k0_pay2 ?_ (whole h4 _ x2)
  unfold kernelRun0_A.sl.v3 kernelRun0_A.sl.HS0_1
  refine (View.readCov_full _ _ _ _ _).trans ?_
  exact congrArg₂ k0_pay1 (whole h2 _ x0) (whole h3 _ x1)

/-- A later point multiplies the rows left in the scratch by its block of the weights. -/
theorem outB (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x1408 .bf16) (h4 : a4.IsWhole) (a5 : Memref sig .tc .vmem S1024x1408 .f32) (h5 : a5.IsWhole)
    (a6 : Memref sig .tc .vmem S1024x1024 .bf16) (h6 : a6.IsWhole) (hc0 : ¬cond0_0 i)
    (x0 : Vec Ideal S1024x1024 .f32) (x1 : Vec Ideal S1x1024 .f32) (x2 : Vec Ideal S1024x1408 .bf16) (xs : Vec Ideal S1024x1024 .bf16) :
    out0_B_3 c i a2 h2 a3 h3 a4 h4 a5 h5 a6 h6 hc0 x0 x1 x2 xs = k0_pay2 xs x2 := by
  unfold out0_B_3 kernelRun0_B
  dsimp only
  refine (View.read_writes_full _ _ _ _ _).trans ?_
  exact congrArg₂ k0_pay2 (whole h6 _ xs) (whole h4 _ x2)

/-- The scale of a row: the inverse root of its mean square and a small constant. -/
def inv (f : Fin 1024 → EReal) : EReal :=
  Ideal.rsqrt (Ideal.div (∑ d, f d * f d) (Ideal.ofBits .f32 0x44800000#32) + Ideal.ofBits .f32 0x358637BD#32)

/-- The normalized rows, entry by entry. -/
theorem pay1_apply (x0 : Vec Ideal S1024x1024 .f32) (x1 : Vec Ideal S1x1024 .f32) (R d : Fin 1024) :
    k0_pay1 x0 x1 (ix2 R d) = x0 (ix2 R d) * inv (fun d => x0 (ix2 R d)) * x1 (ix2 0 d) := by
  unfold k0_pay1 inv
  pointwise

/-- The product, entry by entry. -/
theorem pay2_apply (v : Vec Ideal S1024x1024 .bf16) (w : Vec Ideal S1024x1408 .bf16) (R : Fin 1024) (l : Fin 1408) :
    k0_pay2 v w (ix2 R l) = ∑ d : Fin 1024, v (ix2 R d) * w (ix2 d l) := by
  unfold k0_pay2
  pointwise

end Cert.InFBlock

end
-- ==== Proof.Cat.lean ====
/-
  Pieces laid side by side, read column by column; heads put in another order; and lines of host operations read one
  after another.
-/
module

public import proofs.«01_k».proof.Proof.Tile
public import Idealize.ShloMosaic.Lib.Pointwise
public import Idealize.ShloMosaic.Lib.Pipeline.Value
public import Idealize.ShloMosaic.Lib.StableHlo.Run

@[expose] public section

noncomputable section

namespace Cert.Cat

open Idealize.ShloMosaic

/-- Column `L` of arrays laid side by side lies in the array whose span holds it. -/
theorem piece {α : Type} {A n N : ℕ} {xs : List ((s : Shape) × (s.Idx → α))}
    {h : Shape.Concatenates (xs.map (·.1)) ⟨2, ![A, N]⟩ 1} (k : ℕ) (hk : k < xs.length) (x : (⟨2, ![A, n]⟩ : Shape).Idx → α)
    (hxk : xs[k] = ⟨⟨2, ![A, n]⟩, x⟩) (pre : ℕ)
    (hpre : (((xs.take k).map (·.1)).map fun s => if h : s.rank = 2 then s.size ((1 : Fin 2).cast h.symm) else 0).sum = pre)
    (d : Fin A) (L : Fin N) (l : Fin n) (hl : pre + l.val = L.val) :
    concatenate ⟨2, ![A, N]⟩ 1 xs h (ix2 d L) = x (ix2 d l) := by
  refine concatenate_apply_piece (t := ⟨2, ![A, N]⟩) 1 xs h (ix2 d L) k hk ⟨2, ![A, n]⟩ x hxk rfl pre hpre (ix2 d l) (fun b hb => ?_) hl
  fin_cases b
  · rfl
  · exact absurd rfl hb

/-- The same with the widths listed. -/
theorem pieceOf {α : Type} {A n N : ℕ} {xs : List ((s : Shape) × (s.Idx → α))}
    {h : Shape.Concatenates (xs.map (·.1)) ⟨2, ![A, N]⟩ 1} (ws : List ℕ) (hw : xs.map (·.1) = ws.map fun n => ⟨2, ![A, n]⟩)
    (k : ℕ) (hk : k < ws.length) (x : (⟨2, ![A, n]⟩ : Shape).Idx → α)
    (hxk : xs[k]? = some ⟨⟨2, ![A, n]⟩, x⟩) (pre : ℕ) (hpre : (ws.take k).sum = pre)
    (d : Fin A) (L : Fin N) (l : Fin n) (hl : pre + l.val = L.val) :
    concatenate ⟨2, ![A, N]⟩ 1 xs h (ix2 d L) = x (ix2 d l) := by
  obtain ⟨hk', hxk'⟩ := List.getElem?_eq_some_iff.1 hxk
  refine piece k hk' x hxk' pre ?_ d L l hl
  rw [List.map_take, hw, ← List.map_take, List.map_map, ← hpre]
  refine congrArg List.sum ((List.map_congr_left fun n _ => ?_).trans (List.map_id _))
  rfl

/-- The kernel's order of the eight heads. -/
def perm (h : Fin 8) : Fin 8 := ⟨4 * (h.val % 2) + h.val / 2, by omega⟩

/-- Two lines of host operations, one after the other. -/
theorem after_app {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons o l ih => exact ih _

/-- Taking whole slabs along the middle of three coordinates. -/
abbrev midDims (A H E : ℕ) (wf : GatherDims.WF ⟨3, ![A, H, E]⟩ ⟨2, ![H, 1]⟩ ⟨3, ![A, H, E]⟩ [0, 2] [1] [] [1] [] 1 ![A, 1, E]) :
    GatherDims ⟨3, ![A, H, E]⟩ ⟨2, ![H, 1]⟩ ⟨3, ![A, H, E]⟩ where
  offsetDims := [0, 2]
  collapsedSliceDims := [1]
  operandBatchingDims := []
  startIndicesBatchingDims := []
  startIndexMap := [1]
  indexVectorDim := 1
  sliceSizes := ![A, 1, E]
  wf := wf

/-- The coordinates kept are all but the middle one. -/
theorem mem_kept (A H E : ℕ) (wf) (a : Fin 3) : a ∈ (midDims A H E wf).sKept ↔ a ≠ 1 := by
  rw [GatherDims.mem_sKept]
  show a ∉ [(1 : Fin 3)] ∧ a ∉ ([] : List (Fin 3)) ↔ a ≠ 1
  simp

/-- Slab `h` is the one named by word `h`. -/
theorem gather_mid {α : Type} {A H E : ℕ} (wf : GatherDims.WF ⟨3, ![A, H, E]⟩ ⟨2, ![H, 1]⟩ ⟨3, ![A, H, E]⟩ [0, 2] [1] [] [1] [] 1 ![A, 1, E])
    (x : (⟨3, ![A, H, E]⟩ : Shape).Idx → α) (idx : IVec ⟨2, ![H, 1]⟩ 32) (d : Fin A) (h p : Fin H) (e : Fin E)
    (hp : (idx (ix2 h 0)).toInt.toNat = p.val) : Host.gather (midDims A H E wf) x idx (ix3 d h e) = x (ix3 d p e) := by
  have st : ∀ a : Fin 3, a ≠ 1 → (midDims A H E wf).start (ix3 d h e) idx a = 0 := fun a ha => dif_neg fun hm => ha (List.mem_singleton.1 hm)
  have o0 : (midDims A H E wf).offCoord (ix3 d h e) (0 : Fin 3) = d.val := dif_pos ((mem_kept A H E wf 0).2 (by decide))
  have o1 : (midDims A H E wf).offCoord (ix3 d h e) (1 : Fin 3) = 0 :=
    GatherDims.offCoord_eq_zero _ _ _ fun hm => (mem_kept A H E wf 1).1 hm rfl
  have o2 : (midDims A H E wf).offCoord (ix3 d h e) (2 : Fin 3) = e.val := dif_pos ((mem_kept A H E wf 2).2 (by decide))
  have e1 : ∀ q, (midDims A H E wf).siIdx (ix3 d h e) q = ix2 h 0 := by
    intro q
    funext b
    fin_cases b
    · rfl
    · exact Fin.ext (by have := q.isLt; show q.val = 0; change q.val < 1 at this; omega)
  have s1 : (midDims A H E wf).start (ix3 d h e) idx (1 : Fin 3) = p.val := by
    refine (dif_pos (List.mem_singleton.2 rfl)).trans ?_
    rw [e1, hp]
    show min p.val (H - 1) = p.val
    omega
  have hb : ∀ a, (midDims A H E wf).batchCoord (ix3 d h e) a = 0 := fun _ => GatherDims.batchCoord_eq_zero _ _ _ List.not_mem_nil
  unfold Host.gather
  congr 1
  funext a
  apply Fin.ext
  fin_cases a
  · show (midDims A H E wf).start (ix3 d h e) idx (0 : Fin 3) + (midDims A H E wf).batchCoord (ix3 d h e) (0 : Fin 3)
      + (midDims A H E wf).offCoord (ix3 d h e) (0 : Fin 3) = d.val
    rw [hb, o0, st 0 (by decide)]; omega
  · show (midDims A H E wf).start (ix3 d h e) idx (1 : Fin 3) + (midDims A H E wf).batchCoord (ix3 d h e) (1 : Fin 3)
      + (midDims A H E wf).offCoord (ix3 d h e) (1 : Fin 3) = p.val
    rw [hb, o1, s1]; omega
  · show (midDims A H E wf).start (ix3 d h e) idx (2 : Fin 3) + (midDims A H E wf).batchCoord (ix3 d h e) (2 : Fin 3)
      + (midDims A H E wf).offCoord (ix3 d h e) (2 : Fin 3) = e.val
    rw [hb, o2, st 2 (by decide)]; omega

end Cert.Cat

end
-- ==== Proof.InFCat.lean ====
/-
  Fifteen pieces laid side by side, read column by column.
-/
module

public import proofs.«01_k».proof.Proof.InFBlock
public import proofs.«01_k».proof.Proof.Cat

@[expose] public section

set_option maxRecDepth 16384

noncomputable section

namespace Cert.InFCat

open Cert.InFIdeal Cert.InFIdeal.Gen Idealize.ShloMosaic Cert.Cat

/-- The pieces laid side by side and rounded. -/
def laid (x0 : Vec Ideal S1024x1024 .f32) (x1 : Vec Ideal S1024x512 .f32) (x2 : Vec Ideal S1024x512 .f32) (x3 : Vec Ideal S1024x512 .f32) (x4 : Vec Ideal S1024x512 .f32) (x5 : Vec Ideal S1024x512 .f32) (x6 : Vec Ideal S1024x1536 .f32) (x7 : Vec Ideal S1024x512 .f32) (x8 : Vec Ideal S1024x512 .f32) (x9 : Vec Ideal S1024x256 .f32) (x10 : Vec Ideal S1024x128 .f32) (x11 : Vec Ideal S1024x128 .f32) (x12 : Vec Ideal S1024x128 .f32) (x13 : Vec Ideal S1024x128 .f32) (x14 : Vec Ideal S1024x128 .f32) : Vec Ideal S1024x7040 .bf16 :=
  truncf (F := Ideal) (s := S1024x7040) .bf16 (concatenate S1024x7040 1 [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]
    concatenates_S1024x1024_S1024x512_S1024x512_S1024x512_S1024x512_S1024x512_S1024x1536_S1024x512_S1024x512_S1024x256_S1024x128_S1024x128_S1024x128_S1024x128_S1024x128_S1024x7040_d1) bitsLt_bf16_f32

variable (x0 : Vec Ideal S1024x1024 .f32) (x1 : Vec Ideal S1024x512 .f32) (x2 : Vec Ideal S1024x512 .f32) (x3 : Vec Ideal S1024x512 .f32) (x4 : Vec Ideal S1024x512 .f32) (x5 : Vec Ideal S1024x512 .f32) (x6 : Vec Ideal S1024x1536 .f32) (x7 : Vec Ideal S1024x512 .f32) (x8 : Vec Ideal S1024x512 .f32) (x9 : Vec Ideal S1024x256 .f32) (x10 : Vec Ideal S1024x128 .f32) (x11 : Vec Ideal S1024x128 .f32) (x12 : Vec Ideal S1024x128 .f32) (x13 : Vec Ideal S1024x128 .f32) (x14 : Vec Ideal S1024x128 .f32)

/-- Piece 0. -/
theorem at0 (d : Fin 1024) (l : Fin 1024) : laid x0 x1 x2 x3 x4 x5 x6 x7 x8 x9 x10 x11 x12 x13 x14 (ix2 d ⟨l.val, by omega⟩) = x0 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 0 (by decide) x0 rfl 0 (by decide) d _ l (Nat.zero_add _)

/-- Piece 1. -/
theorem at1 (d : Fin 1024) (l : Fin 512) : laid x0 x1 x2 x3 x4 x5 x6 x7 x8 x9 x10 x11 x12 x13 x14 (ix2 d ⟨1024 + l.val, by omega⟩) = x1 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 1 (by decide) x1 rfl 1024 (by decide) d _ l rfl

/-- Piece 2. -/
theorem at2 (d : Fin 1024) (l : Fin 512) : laid x0 x1 x2 x3 x4 x5 x6 x7 x8 x9 x10 x11 x12 x13 x14 (ix2 d ⟨1536 + l.val, by omega⟩) = x2 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 2 (by decide) x2 rfl 1536 (by decide) d _ l rfl

/-- Piece 3. -/
theorem at3 (d : Fin 1024) (l : Fin 512) : laid x0 x1 x2 x3 x4 x5 x6 x7 x8 x9 x10 x11 x12 x13 x14 (ix2 d ⟨2048 + l.val, by omega⟩) = x3 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 3 (by decide) x3 rfl 2048 (by decide) d _ l rfl

/-- Piece 4. -/
theorem at4 (d : Fin 1024) (l : Fin 512) : laid x0 x1 x2 x3 x4 x5 x6 x7 x8 x9 x10 x11 x12 x13 x14 (ix2 d ⟨2560 + l.val, by omega⟩) = x4 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 4 (by decide) x4 rfl 2560 (by decide) d _ l rfl

/-- Piece 5. -/
theorem at5 (d : Fin 1024) (l : Fin 512) : laid x0 x1 x2 x3 x4 x5 x6 x7 x8 x9 x10 x11 x12 x13 x14 (ix2 d ⟨3072 + l.val, by omega⟩) = x5 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 5 (by decide) x5 rfl 3072 (by decide) d _ l rfl

/-- Piece 6. -/
theorem at6 (d : Fin 1024) (l : Fin 1536) : laid x0 x1 x2 x3 x4 x5 x6 x7 x8 x9 x10 x11 x12 x13 x14 (ix2 d ⟨3584 + l.val, by omega⟩) = x6 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 6 (by decide) x6 rfl 3584 (by decide) d _ l rfl

/-- Piece 7. -/
theorem at7 (d : Fin 1024) (l : Fin 512) : laid x0 x1 x2 x3 x4 x5 x6 x7 x8 x9 x10 x11 x12 x13 x14 (ix2 d ⟨5120 + l.val, by omega⟩) = x7 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 7 (by decide) x7 rfl 5120 (by decide) d _ l rfl

/-- Piece 8. -/
theorem at8 (d : Fin 1024) (l : Fin 512) : laid x0 x1 x2 x3 x4 x5 x6 x7 x8 x9 x10 x11 x12 x13 x14 (ix2 d ⟨5632 + l.val, by omega⟩) = x8 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 8 (by decide) x8 rfl 5632 (by decide) d _ l rfl

/-- Piece 9. -/
theorem at9 (d : Fin 1024) (l : Fin 256) : laid x0 x1 x2 x3 x4 x5 x6 x7 x8 x9 x10 x11 x12 x13 x14 (ix2 d ⟨6144 + l.val, by omega⟩) = x9 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 9 (by decide) x9 rfl 6144 (by decide) d _ l rfl

/-- Piece 10. -/
theorem at10 (d : Fin 1024) (l : Fin 128) : laid x0 x1 x2 x3 x4 x5 x6 x7 x8 x9 x10 x11 x12 x13 x14 (ix2 d ⟨6400 + l.val, by omega⟩) = x10 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 10 (by decide) x10 rfl 6400 (by decide) d _ l rfl

/-- Piece 11. -/
theorem at11 (d : Fin 1024) (l : Fin 128) : laid x0 x1 x2 x3 x4 x5 x6 x7 x8 x9 x10 x11 x12 x13 x14 (ix2 d ⟨6528 + l.val, by omega⟩) = x11 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 11 (by decide) x11 rfl 6528 (by decide) d _ l rfl

/-- Piece 12. -/
theorem at12 (d : Fin 1024) (l : Fin 128) : laid x0 x1 x2 x3 x4 x5 x6 x7 x8 x9 x10 x11 x12 x13 x14 (ix2 d ⟨6656 + l.val, by omega⟩) = x12 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 12 (by decide) x12 rfl 6656 (by decide) d _ l rfl

/-- Piece 13. -/
theorem at13 (d : Fin 1024) (l : Fin 128) : laid x0 x1 x2 x3 x4 x5 x6 x7 x8 x9 x10 x11 x12 x13 x14 (ix2 d ⟨6784 + l.val, by omega⟩) = x13 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 13 (by decide) x13 rfl 6784 (by decide) d _ l rfl

/-- Piece 14. -/
theorem at14 (d : Fin 1024) (l : Fin 128) : laid x0 x1 x2 x3 x4 x5 x6 x7 x8 x9 x10 x11 x12 x13 x14 (ix2 d ⟨6912 + l.val, by omega⟩) = x14 (ix2 d l) :=
  pieceOf (xs := [⟨S1024x1024, x0⟩, ⟨S1024x512, x1⟩, ⟨S1024x512, x2⟩, ⟨S1024x512, x3⟩, ⟨S1024x512, x4⟩, ⟨S1024x512, x5⟩, ⟨S1024x1536, x6⟩, ⟨S1024x512, x7⟩, ⟨S1024x512, x8⟩, ⟨S1024x256, x9⟩, ⟨S1024x128, x10⟩, ⟨S1024x128, x11⟩, ⟨S1024x128, x12⟩, ⟨S1024x128, x13⟩, ⟨S1024x128, x14⟩]) (h := concatenates_S1024x1024_S1024x512_S1024x512_S1024x512_S1024x512_S1024x512_S1024x1536_S1024x512_S1024x512_S1024x256_S1024x128_S1024x128_S1024x128_S1024x128_S1024x128_S1024x7040_d1) [1024, 512, 512, 512, 512, 512, 1536, 512, 512, 256, 128, 128, 128, 128, 128] rfl 14 (by decide) x14 rfl 6912 (by decide) d _ l rfl

end Cert.InFCat

end
-- ==== Proof.InFWts.lean ====
/-
  The in-projection's weights as its kernel takes them, column by column: slices of the given weights laid side by side,
  some of them scaled, two with their heads in another order, two filled up with zeros.
-/
module

public import proofs.«01_k».proof.Proof.InFBlock
public import proofs.«01_k».proof.Proof.InFCat
public import Idealize.ShloMosaic.Lib.StableHlo.RunRead

@[expose] public section

set_option maxRecDepth 16384

noncomputable section

namespace Cert.InFWts

open Cert.InFIdeal Cert.InFIdeal.Gen Idealize.ShloMosaic Idealize.ShloMosaic.TcCoe Cert.Cat

/-- The order of the heads, as words. -/
def order : IVec S8 32 := fun i => lit0 (S8.rowMajor i)

/-- The start positions a table of words names: a negative word counts from the end. -/
def start (i : IVec S8 32) : IVec S8x1 32 :=
  broadcastInDim S8x1 ![0] bcast_S8_S8x1_0 (select (cmpi .slt i (broadcastInDim S8 ![] bcast_S_S8 (constantI S_ 32 0#32)))
    (addi i (broadcastInDim S8 ![] bcast_S_S8 (constantI S_ 32 8#32))) i)

/-- Whether a start position is one of the eight. -/
def inside (i : IVec S8 32) : IVec S8 1 :=
  Host.reduce IntOp.andi
    (andi (cmpi .sge (start i) (broadcastInDim S8x1 ![] bcast_S_S8x1 (constantI S_ 32 0#32)))
      (cmpi .sle (start i) (broadcastInDim S8x1 ![0, 1] bcast_S1x1_S8x1_0_1 (broadcastInDim S1x1 ![1] bcast_S1_S1x1_1 (constantI S1 32 7#32)))))
    (constantI S_ 1 1#1) reducesTo_S8x1_S8_d1 h_S_

/-- The eight heads of an array, taken in the order of a table of words. -/
def takeOf (x : FVec Ideal S1024x8x64 .f32) (i : IVec S8 32) : FVec Ideal S1024x8x64 .f32 :=
  select (broadcastInDim S1024x8x64 ![1] bcast_S8_S1024x8x64_1 (inside i))
    (Host.gather gather_S1024x8x64_S8x1_S1024x8x64_02_1_n_n_1_1_1024164 x (start i))
    (broadcastInDim S1024x8x64 ![] bcast_S_S1024x8x64 (constant S_ .f32 0x7FC00000#32))

/-- The order of the heads lies within bounds. -/
theorem inside_order : ∀ i, inside order i = 1#1 := by decide +kernel

/-- The order of the heads is the permutation. -/
theorem start_order : ∀ h : Fin 8, (start order (ix2 h 0)).toInt.toNat = (perm h).val := by decide +kernel

/-- Head `h` of the result is head `perm h` of the array. -/
theorem takeOf_apply (x : FVec Ideal S1024x8x64 .f32) (d : Fin 1024) (h : Fin 8) (e : Fin 64) :
    takeOf x order (ix3 d h e) = x (ix3 d (perm h) e) := by
  unfold takeOf
  pointwise
  rw [inside_order]
  exact gather_mid gather_S1024x8x64_S8x1_S1024x8x64_02_1_n_n_1_1_1024164_wf x (start order) d h (perm h) e (start_order h)

/-- The first call that reorders heads. -/
theorem call0 (σ : Valuation τ sig (Elt Ideal)) : (StableHlo.after hostOps0_1 σ (Proc.devRef .tc main_v7) : FVec Ideal S1024x8x64 .f32)
    = takeOf (σ (Proc.devRef .tc main_v6)) (σ (Proc.devRef .tc main_c)) := by
  unfold_abbrev_sides
  after_reads_simp
  rfl

/-- The second. -/
theorem call1 (σ : Valuation τ sig (Elt Ideal)) : (StableHlo.after hostOps0_3 σ (Proc.devRef .tc main_v14) : FVec Ideal S1024x8x64 .f32)
    = takeOf (σ (Proc.devRef .tc main_v13)) (σ (Proc.devRef .tc main_c_0)) := by
  unfold_abbrev_sides
  after_reads_simp
  rfl

/-- What the buffers hold before the weights are laid side by side. -/
def st (σ : Valuation τ sig (Elt Ideal)) : Valuation τ sig (Elt Ideal) :=
  StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0 σ)))))))

/-- The given weights, entry by entry. -/
def w (σ : Valuation τ sig (Elt Ideal)) (d : Fin 1024) (k : Fin 8224) : EReal := (σ (Proc.devRef .tc main_arg2) : Vec Ideal S1024x8224 .f32) (ix2 d k)

/-- One eighth, the scale of the queries. -/
def e8 : EReal := Ideal.ofBits .f32 0x3E000000#32

/-- One of the weights' slices scaled, its columns split into heads. -/
def scaled (x : Vec Ideal S1024x8224 .f32) : Vec Ideal S1024x8x64 .f32 :=
  shapeCast (α := Elt Ideal .f32) S1024x8x64 (mulf (F := Ideal) (s := S1024x512) (φ := .f32) (extractStridedSlice S1024x512 ![0, 3360] x slices_S1024x8224_S1024x512_0_3360)
    (broadcastInDim S1024x512 ![] bcast_S_S1024x512 (constant S_ .f32 0x3E000000#32))) shapeCasts_S1024x512_S1024x8x64

/-- Twenty-four of the weights' columns, filled up with zeros. -/
def filled24 (x : Vec Ideal S1024x8224 .f32) : Vec Ideal S1024x128 .f32 :=
  pad S1024x128 ![0, 0] ![0, 104] ![0, 0] (extractStridedSlice S1024x24 ![0, 1280] x slices_S1024x8224_S1024x24_0_1280)
    (sitofp (F := Ideal) .f32 (constantI S_ 32 0#32)) pads_S1024x24_S1024x128_000_01040 h_S_

/-- Eight of the weights' columns, filled up with zeros. -/
def filled8 (x : Vec Ideal S1024x8224 .f32) : Vec Ideal S1024x128 .f32 :=
  pad S1024x128 ![0, 0] ![0, 120] ![0, 0] (extractStridedSlice S1024x8 ![0, 2840] x slices_S1024x8224_S1024x8_0_2840)
    (sitofp (F := Ideal) .f32 (constantI S_ 32 0#32)) pads_S1024x8_S1024x128_000_01200 h_S_

/-- The integer zero as a number. -/
theorem zero_of : FloatOps.sitofp (F := Ideal) FTy.f32 (0#32) = (0 : EReal) := by
  show (((0#32 : BitVec 32).toInt : ℝ) : EReal) = 0
  simp

variable (σ : Valuation τ sig (Elt Ideal))

/-- Piece 2 of the packed weights, column by column. -/
theorem r_v2 (d : Fin 1024) (l : Fin 1024) : (st σ (Proc.devRef .tc main_v2) : Vec Ideal S1024x1024 .f32) (ix2 d l) = w σ d ⟨1816 + l.val, by omega⟩ := by
  unfold st w
  unfold_abbrev_sides
  after_reads_simp
  pointwise

/-- Piece 3 of the packed weights, column by column. -/
theorem r_v3 (d : Fin 1024) (l : Fin 512) : (st σ (Proc.devRef .tc main_v3) : Vec Ideal S1024x512 .f32) (ix2 d l) = w σ d ⟨1304 + l.val, by omega⟩ := by
  unfold st w
  unfold_abbrev_sides
  after_reads_simp
  pointwise

/-- Piece 4 of the packed weights, column by column. -/
theorem r_v4 (d : Fin 1024) (l : Fin 512) : (st σ (Proc.devRef .tc main_v4) : Vec Ideal S1024x512 .f32) (ix2 d l) = w σ d ⟨2848 + l.val, by omega⟩ := by
  unfold st w
  unfold_abbrev_sides
  after_reads_simp
  pointwise

/-- Piece 8: its heads taken in another order. -/
theorem t_v8 (σ : Valuation τ sig (Elt Ideal)) : (StableHlo.after hostOps0_7 (StableHlo.after hostOps0_6 (StableHlo.after hostOps0_5 (StableHlo.after hostOps0_4
      (StableHlo.after hostOps0_3 (StableHlo.after hostOps0_2 σ))))) (Proc.devRef .tc main_v8) : Vec Ideal S1024x512 .f32)
    = shapeCast S1024x512 (σ (Proc.devRef .tc main_v7) : Vec Ideal S1024x8x64 .f32) shapeCasts_S1024x8x64_S1024x512 := by
  unfold_abbrev_sides
  after_reads_simp
  try rfl

/-- Piece 8 cut in heads. -/
theorem u_v8 (σ : Valuation τ sig (Elt Ideal)) : (StableHlo.after hostOps0 σ (Proc.devRef .tc main_v6) : Vec Ideal S1024x8x64 .f32)
    = shapeCast S1024x8x64 (extractStridedSlice S1024x512 ![0, 4128] (σ (Proc.devRef .tc main_arg2) : Vec Ideal S1024x8224 .f32) slices_S1024x8224_S1024x512_0_4128) shapeCasts_S1024x512_S1024x8x64 := by
  unfold_abbrev_sides
  after_reads_simp
  try rfl

/-- The order piece 8 is taken in. -/
theorem o_v8 (σ : Valuation τ sig (Elt Ideal)) : (StableHlo.after hostOps0 σ (Proc.devRef .tc main_c) : IVec S8 32) = order := by
  unfold_abbrev_sides
  after_reads_simp
  try rfl

/-- Piece 8 of the packed weights, column by column. -/
theorem r_v8 (d : Fin 1024) (l : Fin 512) : (st σ (Proc.devRef .tc main_v8) : Vec Ideal S1024x512 .f32) (ix2 d l)
    = w σ d ⟨4128 + (64 * (perm ⟨l.val / 64, by omega⟩).val + l.val % 64), by omega⟩ := by
  unfold st
  rw [t_v8, call0, u_v8, o_v8]
  have hl : l.val = 64 * (l.val / 64) + l.val % 64 := by omega
  have e : ∀ (x : Vec Ideal S1024x8x64 .f32), shapeCast S1024x512 x shapeCasts_S1024x8x64_S1024x512 (ix2 d l)
      = x (ix3 d ⟨l.val / 64, by omega⟩ ⟨l.val % 64, by omega⟩) := by
    intro x
    pointwise
  rw [e, takeOf_apply]
  unfold w
  pointwise
  refine congrArg _ (congrArg (ix2 d) (Fin.ext ?_))
  dsimp only
  omega

/-- Piece 9 of the packed weights, column by column. -/
theorem r_v9 (d : Fin 1024) (l : Fin 512) : (st σ (Proc.devRef .tc main_v9) : Vec Ideal S1024x512 .f32) (ix2 d l) = w σ d ⟨7200 + l.val, by omega⟩ := by
  unfold st w
  unfold_abbrev_sides
  after_reads_simp
  pointwise

/-- Piece 15: its heads taken in another order. -/
theorem t_v15 (σ : Valuation τ sig (Elt Ideal)) : (StableHlo.after hostOps0_7 (StableHlo.after hostOps0_6 (StableHlo.after hostOps0_5 (StableHlo.after hostOps0_4 σ)))
      (Proc.devRef .tc main_v15) : Vec Ideal S1024x512 .f32)
    = shapeCast S1024x512 (σ (Proc.devRef .tc main_v14) : Vec Ideal S1024x8x64 .f32) shapeCasts_S1024x8x64_S1024x512 := by
  unfold_abbrev_sides
  after_reads_simp
  try rfl

/-- Piece 15 cut in heads. -/
theorem u_v15 (σ : Valuation τ sig (Elt Ideal)) : (StableHlo.after hostOps0_2 (StableHlo.after hostOps0_1 (StableHlo.after hostOps0 σ)) (Proc.devRef .tc main_v13) : Vec Ideal S1024x8x64 .f32)
    = scaled (σ (Proc.devRef .tc main_arg2)) := by
  unfold_abbrev_sides
  after_reads_simp
  try rfl

/-- The order piece 15 is taken in. -/
theorem o_v15 (σ : Valuation τ sig (Elt Ideal)) : (StableHlo.after hostOps0_2 (StableHlo.after hostOps0_1 (StableHlo.after hostOps0 σ)) (Proc.devRef .tc main_c_0) : IVec S8 32) = order := by
  have e : (StableHlo.after hostOps0_2 (StableHlo.after hostOps0_1 (StableHlo.after hostOps0 σ)) (Proc.devRef .tc main_c_0) : IVec S8 32) = fun i => lit1 (S8.rowMajor i) := by
    unfold_abbrev_sides
    after_reads_simp
    try rfl
  rw [e]
  rfl

/-- Piece 15 of the packed weights, column by column. -/
theorem r_v15 (d : Fin 1024) (l : Fin 512) : (st σ (Proc.devRef .tc main_v15) : Vec Ideal S1024x512 .f32) (ix2 d l)
    = w σ d ⟨3360 + (64 * (perm ⟨l.val / 64, by omega⟩).val + l.val % 64), by omega⟩ * e8 := by
  unfold st
  rw [t_v15, call1, u_v15, o_v15]
  have e : ∀ (x : Vec Ideal S1024x8x64 .f32), shapeCast S1024x512 x shapeCasts_S1024x8x64_S1024x512 (ix2 d l)
      = x (ix3 d ⟨l.val / 64, by omega⟩ ⟨l.val % 64, by omega⟩) := by
    intro x
    pointwise
  rw [e, takeOf_apply]
  unfold w e8 scaled
  pointwise
  refine congrArg (· * _) (congrArg _ (congrArg (ix2 d) (Fin.ext ?_)))
  dsimp only
  omega

/-- Piece 18 of the packed weights, column by column. -/
theorem r_v18 (d : Fin 1024) (l : Fin 1536) : (st σ (Proc.devRef .tc main_v18) : Vec Ideal S1024x1536 .f32) (ix2 d l) = w σ d ⟨4640 + l.val, by omega⟩ * e8 := by
  unfold st w e8
  unfold_abbrev_sides
  after_reads_simp
  pointwise
  rfl

/-- Piece 19 of the packed weights, column by column. -/
theorem r_v19 (d : Fin 1024) (l : Fin 512) : (st σ (Proc.devRef .tc main_v19) : Vec Ideal S1024x512 .f32) (ix2 d l) = w σ d ⟨6176 + l.val, by omega⟩ := by
  unfold st w
  unfold_abbrev_sides
  after_reads_simp
  pointwise

/-- Piece 20 of the packed weights, column by column. -/
theorem r_v20 (d : Fin 1024) (l : Fin 512) : (st σ (Proc.devRef .tc main_v20) : Vec Ideal S1024x512 .f32) (ix2 d l) = w σ d ⟨6688 + l.val, by omega⟩ := by
  unfold st w
  unfold_abbrev_sides
  after_reads_simp
  pointwise

/-- Piece 21 of the packed weights, column by column. -/
theorem r_v21 (d : Fin 1024) (l : Fin 256) : (st σ (Proc.devRef .tc main_v21) : Vec Ideal S1024x256 .f32) (ix2 d l) = w σ d ⟨7968 + l.val, by omega⟩ := by
  unfold st w
  unfold_abbrev_sides
  after_reads_simp
  pointwise

/-- Piece 22 of the packed weights, column by column. -/
theorem r_v22 (d : Fin 1024) (l : Fin 128) : (st σ (Proc.devRef .tc main_v22) : Vec Ideal S1024x128 .f32) (ix2 d l) = w σ d ⟨512 + l.val, by omega⟩ := by
  unfold st w
  unfold_abbrev_sides
  after_reads_simp
  pointwise

/-- Piece 23 of the packed weights, column by column. -/
theorem r_v23 (d : Fin 1024) (l : Fin 128) : (st σ (Proc.devRef .tc main_v23) : Vec Ideal S1024x128 .f32) (ix2 d l) = w σ d ⟨640 + l.val, by omega⟩ := by
  unfold st w
  unfold_abbrev_sides
  after_reads_simp
  pointwise

/-- Piece 24 of the packed weights, column by column. -/
theorem r_v24 (d : Fin 1024) (l : Fin 128) : (st σ (Proc.devRef .tc main_v24) : Vec Ideal S1024x128 .f32) (ix2 d l) = w σ d ⟨3872 + l.val, by omega⟩ := by
  unfold st w
  unfold_abbrev_sides
  after_reads_simp
  pointwise

/-- Piece 26 of the packed weights, column by column. -/
theorem r_v26 (d : Fin 1024) (l : Fin 128) : (st σ (Proc.devRef .tc main_v26) : Vec Ideal S1024x128 .f32) (ix2 d l)
    = if h : l.val < 24 then w σ d ⟨1280 + l.val, by omega⟩ else 0 := by
  have e : (st σ (Proc.devRef .tc main_v26) : Vec Ideal S1024x128 .f32) = filled24 (σ (Proc.devRef .tc main_arg2)) := by
    unfold st
    unfold_abbrev_sides
    after_reads_simp
    rfl
  rw [e]
  unfold filled24 w
  pointwise
  rw [zero_of]

/-- Piece 28 of the packed weights, column by column. -/
theorem r_v28 (d : Fin 1024) (l : Fin 128) : (st σ (Proc.devRef .tc main_v28) : Vec Ideal S1024x128 .f32) (ix2 d l)
    = if h : l.val < 8 then w σ d ⟨2840 + l.val, by omega⟩ else 0 := by
  have e : (st σ (Proc.devRef .tc main_v28) : Vec Ideal S1024x128 .f32) = filled8 (σ (Proc.devRef .tc main_arg2)) := by
    unfold st
    unfold_abbrev_sides
    after_reads_simp
    rfl
  rw [e]
  unfold filled8 w
  pointwise
  rw [zero_of]

/-- That is what the last two operations do. -/
theorem last (σ : Valuation τ sig (Elt Ideal)) : (StableHlo.after hostOps0_8 σ (Proc.devRef .tc main_v30) : Vec Ideal S1024x7040 .bf16)
    = InFCat.laid (σ (Proc.devRef .tc main_v2)) (σ (Proc.devRef .tc main_v3)) (σ (Proc.devRef .tc main_v4)) (σ (Proc.devRef .tc main_v8)) (σ (Proc.devRef .tc main_v9)) (σ (Proc.devRef .tc main_v15)) (σ (Proc.devRef .tc main_v18)) (σ (Proc.devRef .tc main_v19)) (σ (Proc.devRef .tc main_v20)) (σ (Proc.devRef .tc main_v21)) (σ (Proc.devRef .tc main_v22)) (σ (Proc.devRef .tc main_v23)) (σ (Proc.devRef .tc main_v24)) (σ (Proc.devRef .tc main_v26)) (σ (Proc.devRef .tc main_v28)) := by
  unfold_abbrev_sides
  after_reads_simp
  rfl

variable (m : (ℓ : Loc nD τ sig) → Buf (Elt Ideal) ℓ) (c : Dev nD)

/-- The buffers at the start. -/
abbrev σ0 : Valuation τ sig (Elt Ideal) := fun b => m (c, b)

/-- The weights the kernel takes, entry by entry. -/
def Wt (d : Fin 1024) (L : Fin 7040) : EReal := (V m c main_v30 : Vec Ideal S1024x7040 .bf16) (ix2 d L)

/-- The packed weights are the pieces side by side. -/
theorem Wt_eq : (V m c main_v30 : Vec Ideal S1024x7040 .bf16) = (StableHlo.after hostOps0_8 (st (σ0 m c)) (Proc.devRef .tc main_v30) : Vec Ideal S1024x7040 .bf16) := by
  unfold V st
  rw [List.flatten_cons, List.flatten_cons, List.flatten_cons, List.flatten_cons, List.flatten_cons, List.flatten_cons, List.flatten_cons,
    List.flatten_cons, List.flatten_cons, List.flatten_nil, List.append_nil]
  simp only [after_app]

/-- Columns 0 to 1023. -/
theorem W0 (d : Fin 1024) (l : Fin 1024) : Wt m c d ⟨l.val, by omega⟩
    = w (σ0 m c) d ⟨1816 + l.val, by omega⟩ := by
  unfold Wt
  rw [Wt_eq, last]
  exact (InFCat.at0 _ _ _ _ _ _ _ _ _ _ _ _ _ _ _ d l).trans (r_v2 (σ0 m c) d l)

/-- Columns 1024 to 1535. -/
theorem W1 (d : Fin 1024) (l : Fin 512) : Wt m c d ⟨1024 + l.val, by omega⟩
    = w (σ0 m c) d ⟨1304 + l.val, by omega⟩ := by
  unfold Wt
  rw [Wt_eq, last]
  exact (InFCat.at1 _ _ _ _ _ _ _ _ _ _ _ _ _ _ _ d l).trans (r_v3 (σ0 m c) d l)

/-- Columns 1536 to 2047. -/
theorem W2 (d : Fin 1024) (l : Fin 512) : Wt m c d ⟨1536 + l.val, by omega⟩
    = w (σ0 m c) d ⟨2848 + l.val, by omega⟩ := by
  unfold Wt
  rw [Wt_eq, last]
  exact (InFCat.at2 _ _ _ _ _ _ _ _ _ _ _ _ _ _ _ d l).trans (r_v4 (σ0 m c) d l)

/-- Columns 2048 to 2559. -/
theorem W3 (d : Fin 1024) (l : Fin 512) : Wt m c d ⟨2048 + l.val, by omega⟩
    = w (σ0 m c) d ⟨4128 + (64 * (perm ⟨l.val / 64, by omega⟩).val + l.val % 64), by omega⟩ := by
  unfold Wt
  rw [Wt_eq, last]
  exact (InFCat.at3 _ _ _ _ _ _ _ _ _ _ _ _ _ _ _ d l).trans (r_v8 (σ0 m c) d l)

/-- Columns 2560 to 3071. -/
theorem W4 (d : Fin 1024) (l : Fin 512) : Wt m c d ⟨2560 + l.val, by omega⟩
    = w (σ0 m c) d ⟨7200 + l.val, by omega⟩ := by
  unfold Wt
  rw [Wt_eq, last]
  exact (InFCat.at4 _ _ _ _ _ _ _ _ _ _ _ _ _ _ _ d l).trans (r_v9 (σ0 m c) d l)

/-- Columns 3072 to 3583. -/
theorem W5 (d : Fin 1024) (l : Fin 512) : Wt m c d ⟨3072 + l.val, by omega⟩
    = w (σ0 m c) d ⟨3360 + (64 * (perm ⟨l.val / 64, by omega⟩).val + l.val % 64), by omega⟩ * e8 := by
  unfold Wt
  rw [Wt_eq, last]
  exact (InFCat.at5 _ _ _ _ _ _ _ _ _ _ _ _ _ _ _ d l).trans (r_v15 (σ0 m c) d l)

/-- Columns 3584 to 5119. -/
theorem W6 (d : Fin 1024) (l : Fin 1536) : Wt m c d ⟨3584 + l.val, by omega⟩
    = w (σ0 m c) d ⟨4640 + l.val, by omega⟩ * e8 := by
  unfold Wt
  rw [Wt_eq, last]
  exact (InFCat.at6 _ _ _ _ _ _ _ _ _ _ _ _ _ _ _ d l).trans (r_v18 (σ0 m c) d l)

/-- Columns 5120 to 5631. -/
theorem W7 (d : Fin 1024) (l : Fin 512) : Wt m c d ⟨5120 + l.val, by omega⟩
    = w (σ0 m c) d ⟨6176 + l.val, by omega⟩ := by
  unfold Wt
  rw [Wt_eq, last]
  exact (InFCat.at7 _ _ _ _ _ _ _ _ _ _ _ _ _ _ _ d l).trans (r_v19 (σ0 m c) d l)

/-- Columns 5632 to 6143. -/
theorem W8 (d : Fin 1024) (l : Fin 512) : Wt m c d ⟨5632 + l.val, by omega⟩
    = w (σ0 m c) d ⟨6688 + l.val, by omega⟩ := by
  unfold Wt
  rw [Wt_eq, last]
  exact (InFCat.at8 _ _ _ _ _ _ _ _ _ _ _ _ _ _ _ d l).trans (r_v20 (σ0 m c) d l)

/-- Columns 6144 to 6399. -/
theorem W9 (d : Fin 1024) (l : Fin 256) : Wt m c d ⟨6144 + l.val, by omega⟩
    = w (σ0 m c) d ⟨7968 + l.val, by omega⟩ := by
  unfold Wt
  rw [Wt_eq, last]
  exact (InFCat.at9 _ _ _ _ _ _ _ _ _ _ _ _ _ _ _ d l).trans (r_v21 (σ0 m c) d l)

/-- Columns 6400 to 6527. -/
theorem W10 (d : Fin 1024) (l : Fin 128) : Wt m c d ⟨6400 + l.val, by omega⟩
    = w (σ0 m c) d ⟨512 + l.val, by omega⟩ := by
  unfold Wt
  rw [Wt_eq, last]
  exact (InFCat.at10 _ _ _ _ _ _ _ _ _ _ _ _ _ _ _ d l).trans (r_v22 (σ0 m c) d l)

/-- Columns 6528 to 6655. -/
theorem W11 (d : Fin 1024) (l : Fin 128) : Wt m c d ⟨6528 + l.val, by omega⟩
    = w (σ0 m c) d ⟨640 + l.val, by omega⟩ := by
  unfold Wt
  rw [Wt_eq, last]
  exact (InFCat.at11 _ _ _ _ _ _ _ _ _ _ _ _ _ _ _ d l).trans (r_v23 (σ0 m c) d l)

/-- Columns 6656 to 6783. -/
theorem W12 (d : Fin 1024) (l : Fin 128) : Wt m c d ⟨6656 + l.val, by omega⟩
    = w (σ0 m c) d ⟨3872 + l.val, by omega⟩ := by
  unfold Wt
  rw [Wt_eq, last]
  exact (InFCat.at12 _ _ _ _ _ _ _ _ _ _ _ _ _ _ _ d l).trans (r_v24 (σ0 m c) d l)

/-- Columns 6784 to 6911. -/
theorem W13 (d : Fin 1024) (l : Fin 128) : Wt m c d ⟨6784 + l.val, by omega⟩
    = if h : l.val < 24 then w (σ0 m c) d ⟨1280 + l.val, by omega⟩ else 0 := by
  unfold Wt
  rw [Wt_eq, last]
  exact (InFCat.at13 _ _ _ _ _ _ _ _ _ _ _ _ _ _ _ d l).trans (r_v26 (σ0 m c) d l)

/-- Columns 6912 to 7039. -/
theorem W14 (d : Fin 1024) (l : Fin 128) : Wt m c d ⟨6912 + l.val, by omega⟩
    = if h : l.val < 8 then w (σ0 m c) d ⟨2840 + l.val, by omega⟩ else 0 := by
  unfold Wt
  rw [Wt_eq, last]
  exact (InFCat.at14 _ _ _ _ _ _ _ _ _ _ _ _ _ _ _ d l).trans (r_v28 (σ0 m c) d l)

end Cert.InFWts

end
-- ==== Proof.InFArray.lean ====
/-
  The array the in-projection kernel leaves, index by index.
-/
module

public import proofs.«01_k».proof.Proof.InFWts

@[expose] public section

set_option maxRecDepth 16384

noncomputable section

namespace Cert.InFArray

open Cert.InFIdeal Cert.InFIdeal.Gen Idealize.ShloMosaic Idealize.ShloMosaic.TcCoe Cert.InFWts Cert.InFBlock

variable (m : (ℓ : Loc nD τ sig) → Buf (Elt Ideal) ℓ) (c : Dev nD)

/-- The inputs, entry by entry. -/
def x (a : Fin 16384) (d : Fin 1024) : EReal := (m ((c : Thread nD τ).loc main_arg0) : Vec Ideal S1x16384x1024 .f32) (ix3 0 a d)

/-- The norm's weights. -/
def nm (d : Fin 1024) : EReal := (m ((c : Thread nD τ).loc main_arg1) : Vec Ideal S1024 .f32) (ix1 d)

/-- The normalized rows. -/
def hh (a : Fin 16384) (d : Fin 1024) : EReal := x m c a d * inv (x m c a) * nm m c d

/-- The inputs as the kernel takes them. -/
theorem V0 (a : Fin 16384) (d : Fin 1024) : (V m c main_v0 : Vec Ideal S16384x1024 .f32) (ix2 a d) = x m c a d := by
  unfold V x
  rw [List.flatten_cons, List.flatten_cons, List.flatten_cons, List.flatten_cons, List.flatten_cons, List.flatten_cons, List.flatten_cons,
    List.flatten_cons, List.flatten_cons, List.flatten_nil, List.append_nil]
  simp only [Cat.after_app]
  unfold_abbrev_sides
  after_reads_simp
  pointwise

/-- The norm's weights as the kernel takes them. -/
theorem V1 (d : Fin 1024) : (V m c main_v1 : Vec Ideal S1x1024 .f32) (ix2 0 d) = nm m c d := by
  unfold V nm
  rw [List.flatten_cons, List.flatten_cons, List.flatten_cons, List.flatten_cons, List.flatten_cons, List.flatten_cons, List.flatten_cons,
    List.flatten_cons, List.flatten_cons, List.flatten_nil, List.append_nil]
  simp only [Cat.after_app]
  unfold_abbrev_sides
  after_reads_simp
  pointwise

/-- A grid point's row block and column block. -/
def rb (t : Fin cfg0.N) : Fin 16 := grid0.coords t 0
/-- A step's block of columns. -/
def cb (t : Fin cfg0.N) : Fin 5 := grid0.coords t 1

/-- Where each window's block lies. -/
theorem where_ : ∀ t : Fin cfg0.N,
    (win0_0.index t 0 = (rb t).val ∧ win0_0.index t 1 = 0) ∧ (win0_1.index t 0 = 0 ∧ win0_1.index t 1 = 0)
    ∧ (win0_2.index t 0 = 0 ∧ win0_2.index t 1 = (cb t).val)
    ∧ (win0_3.index t 0 = (rb t).val ∧ win0_3.index t 1 = (cb t).val) := by
  decide +kernel

/-- The points of one row block follow one another. -/
theorem rb_val : ∀ t : Fin cfg0.N, (rb t).val = t.val / 5 := by decide +kernel

/-- Row `R` and column `l` of a block, in the array. -/
def row (t : Fin cfg0.N) (R : Fin 1024) : Fin 16384 := ⟨1024 * (rb t).val + R.val, by omega⟩
/-- A lane of a step, among the columns. -/
def cl (t : Fin cfg0.N) (l : Fin 1408) : Fin 7040 := ⟨1408 * (cb t).val + l.val, by omega⟩

/-- The step's rows. -/
theorem read0 (t : Fin cfg0.N) (R : Fin 1024) (d : Fin 1024) : iblk m c 0 t (ix2 R d) = x m c (row t R) d := by
  have e : (win0_0.blk t).view.emb (ix2 R d) = ix2 (row t R) d := by
    refine Shape.idx_ext₂ ?_ ?_
    · blk_simp [(where_ t).1.1]; show _ = 1024 * _ + _; omega
    · blk_simp [(where_ t).1.2]
  rw [← V0]
  unfold iblk
  show (V m c main_v0 : Vec Ideal S16384x1024 .f32) ((win0_0.blk t).view.emb (ix2 R d)) = _
  rw [e]

/-- The norm's weights. -/
theorem read1 (t : Fin cfg0.N) (d : Fin 1024) : iblk m c 1 t (ix2 0 d) = nm m c d := by
  have e : (win0_1.blk t).view.emb (ix2 0 d) = ix2 0 d := by
    refine Shape.idx_ext₂ ?_ ?_
    · blk_simp [(where_ t).2.1.1]
    · blk_simp [(where_ t).2.1.2]
  rw [← V1]
  unfold iblk
  show (V m c main_v1 : Vec Ideal S1x1024 .f32) ((win0_1.blk t).view.emb (ix2 0 d)) = _
  rw [e]

/-- The step's weights. -/
theorem read2 (t : Fin cfg0.N) (d : Fin 1024) (l : Fin 1408) : iblk m c 2 t (ix2 d l) = Wt m c d (cl t l) := by
  have e : (win0_2.blk t).view.emb (ix2 d l) = ix2 d (cl t l) := by
    refine Shape.idx_ext₂ ?_ ?_
    · blk_simp [(where_ t).2.2.1.1]
    · blk_simp [(where_ t).2.2.1.2]; show _ = 1408 * _ + _; omega
  unfold iblk Wt
  show (V m c main_v30 : Vec Ideal S1024x7040 .bf16) ((win0_2.blk t).view.emb (ix2 d l)) = _
  rw [e]

/-- The normalized rows a point finds or makes. -/
theorem rows (t : Fin cfg0.N) (R d : Fin 1024) : k0_pay1 (iblk m c 0 t) (iblk m c 1 t) (ix2 R d) = hh m c (row t R) d := by
  rw [pay1_apply, read0, read1]
  unfold hh
  exact congrArg (fun f => _ * inv f * _) (funext fun d => read0 m c t R d)

/-- A row block's first point: what it leaves in the scratch and in its block. -/
theorem firstS (t : Fin cfg0.N) (h0 : t.val % 5 = 0) : (outsAt0 m c t.val t.isLt).2 = k0_pay1 (iblk m c 0 t) (iblk m c 1 t) := by
  rw [outsAt0_A m c t h0]
  dsimp only
  rw [soutA]

/-- The result block of a first step. -/
theorem firstO (t : Fin cfg0.N) (h0 : t.val % 5 = 0) :
    (outsAt0 m c t.val t.isLt).1 = k0_pay2 (k0_pay1 (iblk m c 0 t) (iblk m c 1 t)) (iblk m c 2 t) := by
  rw [outsAt0_A m c t h0]
  dsimp only
  rw [outA]

/-- A later point likewise, over what the point before left. -/
theorem laterS (t : Fin cfg0.N) (h0 : ¬t.val % 5 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- The result block of a later step. -/
theorem laterO (t : Fin cfg0.N) (h0 : ¬t.val % 5 = 0) :
    (outsAt0 m c t.val t.isLt).1 = k0_pay2 (outsAt0 m c (t.val - 1) (Nat.lt_of_le_of_lt (Nat.sub_le _ _) t.isLt)).2 (iblk m c 2 t) := by
  rw [outsAt0_B m c t h0]
  dsimp only
  rw [outB]

/-- Two points of one row block have the same rows. -/
theorem same (t : Fin cfg0.N) (h0 : ¬t.val % 5 = 0) (R : Fin 1024) :
    row ⟨t.val - 1, Nat.lt_of_le_of_lt (Nat.sub_le _ _) t.isLt⟩ R = row t R := by
  have e1 := rb_val ⟨t.val - 1, Nat.lt_of_le_of_lt (Nat.sub_le _ _) t.isLt⟩
  have e2 := rb_val t
  refine Fin.ext ?_
  show 1024 * (rb ⟨t.val - 1, _⟩).val + R.val = 1024 * (rb t).val + R.val
  rw [e1, e2]
  dsimp only
  omega

/-- After every point the scratch holds its row block's normalized rows. -/
theorem kept (n : ℕ) : ∀ (t : Fin cfg0.N), t.val = n → ∀ R d : Fin 1024, (outsAt0 m c t.val t.isLt).2 (ix2 R d) = hh m c (row t R) d := by
  induction n with
  | zero =>
    intro t ht R d
    rw [firstS m c t (by omega)]
    exact rows m c t R d
  | succ n ih =>
    intro t ht R d
    by_cases h0 : t.val % 5 = 0
    · rw [firstS m c t h0]
      exact rows m c t R d
    · rw [laterS m c t h0, ← same t h0 R]
      exact ih ⟨t.val - 1, Nat.lt_of_le_of_lt (Nat.sub_le _ _) t.isLt⟩ (by dsimp only; omega) R d

/-- What a point writes: its rows times its columns of the weights. -/
theorem block (t : Fin cfg0.N) (R : Fin 1024) (l : Fin 1408) :
    (outsAt0 m c t.val t.isLt).1 (ix2 R l) = ∑ d, hh m c (row t R) d * Wt m c d (cl t l) := by
  by_cases h0 : t.val % 5 = 0
  · rw [firstO m c t h0, pay2_apply]
    exact Finset.sum_congr rfl fun d _ => congrArg₂ (· * ·) (rows m c t R d) (read2 m c t d l)
  · rw [laterO m c t h0, pay2_apply]
    refine Finset.sum_congr rfl fun d _ => congrArg₂ (· * ·) ?_ (read2 m c t d l)
    rw [← same t h0 R]
    exact kept m c _ ⟨t.val - 1, Nat.lt_of_le_of_lt (Nat.sub_le _ _) t.isLt⟩ rfl R d

/-- The array the kernel leaves. -/
def arr : Vec Ideal S16384x7040 .f32 := fun y => ∑ d, hh m c (y 0) d * Wt m c d (y 1)

/-- Where an entry of the result block lies. -/
theorem emb3 (t : Fin cfg0.N) (y : S1024x1408.Idx) : (win0_3.blk t).view.emb y = ix2 (row t (y 0)) (cl t (y 1)) := by
  refine Shape.idx_ext₂ ?_ ?_
  · blk_simp [(where_ t).2.2.2.1]; show _ = 1024 * _ + _; omega
  · blk_simp [(where_ t).2.2.2.2]; show _ = 1408 * _ + _; omega

/-- THE PROJECTIONS. -/
theorem arr3 : (dats m 0 c).arrAt 3 cfg0.N = arr m c := by
  refine (dats m 0 c).arrAt_eq_of_covers 3 _ (by decide +kernel) fun t hf y => ?_
  blk_simp
  rw [after0_3]
  refine Eq.trans ?_ (congrArg (arr m c) (emb3 t y)).symm
  obtain ⟨R, l, rfl⟩ : ∃ (R : Fin 1024) (l : Fin 1408), y = ix2 R l := ⟨y 0, y 1, eq_ix2 y⟩
  exact block m c t R l

end Cert.InFArray

end
-- ==== Proof.InFRef.lean ====
/-
  What the in-projection's reference computes, index by index.
-/
module

public import proofs.«01_k».proof.Proof.InFBlock
public import proofs.«01_k».proof.Proof.Cat
public import proofs.«01_k».proof.Proof.Gen.InFRefIdeal.Read
public import Idealize.ShloMosaic.Lib.Pointwise

@[expose] public section

set_option maxRecDepth 16384

noncomputable section

namespace Cert.InFRef

open Cert.InFRefIdeal Cert.InFRefIdeal.Gen Cert.InFRefIdeal.Read Idealize.ShloMosaic Cert.Cat Cert.InFBlock

variable (x0 : Vec Ideal S1x16384x1024 .f32) (x1 : Vec Ideal S1024 .f32) (x2 : Vec Ideal S1024x8224 .f32)

/-- The normalized rows. -/
def rows (a : Fin 16384) (d : Fin 1024) : EReal := x0 (ix3 0 a d) * inv (fun d => x0 (ix3 0 a d)) * x1 (ix1 d)

/-- The projections, column by column of the given weights. -/
def proj (a : Fin 16384) (k : Fin 8224) : EReal := ∑ d, rows x0 x1 a d * x2 (ix2 d k)

/-- One eighth, the scale of the queries. -/
def e8 : EReal := Ideal.ofBits .f32 0x3E000000#32

/-- The mean square of a row. -/
theorem sq_apply (a : Fin 16384) : val_main_v1 (F := Ideal) x0 (ix2 0 a) = ∑ d, x0 (ix3 0 a d) * x0 (ix3 0 a d) := by
  unfold val_main_v1 val_main_v0 val_main_cst
  pointwise

/-- The normalized rows, entry by entry. -/
theorem rows_apply (a : Fin 16384) (d : Fin 1024) : val_main_v12 (F := Ideal) x0 x1 (ix3 0 a d) = rows x0 x1 a d := by
  have e8' : idx_main_v8 (ix3 (0 : Fin 1) a d) = ix3 (0 : Fin 1) a (0 : Fin 1) := funext fun b => by fin_cases b <;> rfl
  have e2' : idx_main_v2 (ix3 (0 : Fin 1) a (0 : Fin 1)) = ix2 (0 : Fin 1) a := funext fun b => by fin_cases b <;> rfl
  have e11' : idx_main_v10 (idx_main_v11 (ix3 (0 : Fin 1) a d)) = ix1 d := funext fun b => by fin_cases b <;> rfl
  rw [val_main_v12_apply, val_main_v9_apply, val_main_v8_apply, val_main_v7_apply, val_main_v6_apply, val_main_v4_apply, val_main_v2_apply,
    e8', e2', sq_apply, val_main_v11_apply, val_main_v10_apply, e11']
  rfl

/-- The projections, entry by entry. -/
theorem proj_apply (a : Fin 16384) (k : Fin 8224) : val_main_v14 (F := Ideal) x0 x1 x2 (ix2 a k) = proj x0 x1 x2 a k := by
  have ei : idx_main_v14 (ix2 a k) = ix3 (0 : Fin 1) a k := funext fun b => by
    fin_cases b
    · rfl
    · exact Fin.ext (by show _ = a.val; dsimp; omega)
    · exact Fin.ext (by show _ = k.val; dsimp; omega)
  rw [val_main_v14_apply, ei, val_main_v13_apply]
  refine Finset.sum_congr rfl fun d _ => congrArg₂ (· * ·) ?_ ?_
  · have el : lidx_main_v13 (ix3 (0 : Fin 1) a k) d = ix3 (0 : Fin 1) a d := funext fun b => by fin_cases b <;> rfl
    rw [el, rows_apply]
  · exact congrArg x2 (funext fun b => by fin_cases b <;> rfl)

/-- A zero-filled place holds nothing. -/
theorem zero_of : FloatOps.sitofp (F := Ideal) FTy.f32 (0#32) = (0 : EReal) := by
  show (((0#32 : BitVec 32).toInt : ℝ) : EReal) = 0
  simp

/-- Piece 19. -/
theorem p19 (a : Fin 16384) (l : Fin 1024) : val_main_v19 (F := Ideal) x0 x1 x2 (ix2 a l) = proj x0 x1 x2 a ⟨1816 + l.val, by omega⟩ := by
  have e19 : idx_main_v19 (ix2 a l) = ix2 a (⟨1816 + l.val, by omega⟩ : Fin 8224) := by
    refine Shape.idx_ext₂ rfl ?_
    show _ = 1816 + l.val
    dsimp
    try omega
  rw [val_main_v19_apply, e19, proj_apply]

/-- Piece 18. -/
theorem p18 (a : Fin 16384) (l : Fin 512) : val_main_v18 (F := Ideal) x0 x1 x2 (ix2 a l) = proj x0 x1 x2 a ⟨1304 + l.val, by omega⟩ := by
  have e18 : idx_main_v18 (ix2 a l) = ix2 a (⟨1304 + l.val, by omega⟩ : Fin 8224) := by
    refine Shape.idx_ext₂ rfl ?_
    show _ = 1304 + l.val
    dsimp
    try omega
  rw [val_main_v18_apply, e18, proj_apply]

/-- Piece 21. -/
theorem p21 (a : Fin 16384) (l : Fin 512) : val_main_v21 (F := Ideal) x0 x1 x2 (ix2 a l) = proj x0 x1 x2 a ⟨2848 + l.val, by omega⟩ := by
  have e21 : idx_main_v21 (ix2 a l) = ix2 a (⟨2848 + l.val, by omega⟩ : Fin 8224) := by
    refine Shape.idx_ext₂ rfl ?_
    show _ = 2848 + l.val
    dsimp
    try omega
  rw [val_main_v21_apply, e21, proj_apply]

/-- Piece 32. -/
theorem p32 (a : Fin 16384) (l : Fin 512) : val_main_v32 (F := Ideal) x0 x1 x2 (ix2 a l) = proj x0 x1 x2 a ⟨4128 + (64 * (perm ⟨l.val / 64, by omega⟩).val + l.val % 64), by omega⟩ := by
  have hp : (perm ⟨l.val / 64, by omega⟩).val = 4 * (l.val / 64 % 2) + l.val / 64 / 2 := rfl
  have e1 : idx_main_v32 (ix2 a l) = ix4 a (⟨l.val / 128, by omega⟩ : Fin 4) (⟨l.val / 64 % 2, by omega⟩ : Fin 2) (⟨l.val % 64, by omega⟩ : Fin 64) := by
    funext b
    refine Fin.ext ?_
    fin_cases b
    · show _ = a.val; dsimp; omega
    · show _ = l.val / 128; dsimp; omega
    · show _ = l.val / 64 % 2; dsimp; omega
    · show _ = l.val % 64; dsimp; omega
  have e2 : ∀ (i : Fin 4) (j : Fin 2) (e : Fin 64), idx_main_v31 (ix4 a i j e) = ix4 a j i e := fun i j e => by
    funext b
    fin_cases b <;> rfl
  have e3 : ∀ (i : Fin 4) (j : Fin 2) (e : Fin 64), idx_main_v24 (idx_main_v30 (ix4 a j i e)) = ix2 a (⟨4128 + (256 * j.val + 64 * i.val + e.val), by omega⟩ : Fin 8224) := fun i j e => by
    refine Shape.idx_ext₂ ?_ ?_
    · show _ = a.val; dsimp; omega
    · show _ = 4128 + (256 * j.val + 64 * i.val + e.val); dsimp; omega
  rw [val_main_v32_apply, val_main_v31_apply, val_main_v30_apply, val_main_v24_apply, e1, e2, e3, proj_apply]
  refine congrArg (proj x0 x1 x2 a) (Fin.ext ?_)
  show 4128 + (256 * (l.val / 64 % 2) + 64 * (l.val / 128) + l.val % 64) = 4128 + (64 * (perm ⟨l.val / 64, by omega⟩).val + l.val % 64)
  rw [hp]
  omega

/-- Piece 27. -/
theorem p27 (a : Fin 16384) (l : Fin 512) : val_main_v27 (F := Ideal) x0 x1 x2 (ix2 a l) = proj x0 x1 x2 a ⟨7200 + l.val, by omega⟩ := by
  have e27 : idx_main_v27 (ix2 a l) = ix2 a (⟨7200 + l.val, by omega⟩ : Fin 8224) := by
    refine Shape.idx_ext₂ rfl ?_
    show _ = 7200 + l.val
    dsimp
    try omega
  rw [val_main_v27_apply, e27, proj_apply]

/-- Piece 37. -/
theorem p37 (a : Fin 16384) (l : Fin 512) : val_main_v37 (F := Ideal) x0 x1 x2 (ix2 a l) = proj x0 x1 x2 a ⟨3360 + (64 * (perm ⟨l.val / 64, by omega⟩).val + l.val % 64), by omega⟩ * e8 := by
  have hp : (perm ⟨l.val / 64, by omega⟩).val = 4 * (l.val / 64 % 2) + l.val / 64 / 2 := rfl
  have e1 : idx_main_v35 (ix2 a l) = ix4 a (⟨l.val / 128, by omega⟩ : Fin 4) (⟨l.val / 64 % 2, by omega⟩ : Fin 2) (⟨l.val % 64, by omega⟩ : Fin 64) := by
    funext b
    refine Fin.ext ?_
    fin_cases b
    · show _ = a.val; dsimp; omega
    · show _ = l.val / 128; dsimp; omega
    · show _ = l.val / 64 % 2; dsimp; omega
    · show _ = l.val % 64; dsimp; omega
  have e2 : ∀ (i : Fin 4) (j : Fin 2) (e : Fin 64), idx_main_v34 (ix4 a i j e) = ix4 a j i e := fun i j e => by
    funext b
    fin_cases b <;> rfl
  have e3 : ∀ (i : Fin 4) (j : Fin 2) (e : Fin 64), idx_main_v22 (idx_main_v33 (ix4 a j i e)) = ix2 a (⟨3360 + (256 * j.val + 64 * i.val + e.val), by omega⟩ : Fin 8224) := fun i j e => by
    refine Shape.idx_ext₂ ?_ ?_
    · show _ = a.val; dsimp; omega
    · show _ = 3360 + (256 * j.val + 64 * i.val + e.val); dsimp; omega
  rw [val_main_v37_apply, val_main_v35_apply, val_main_v34_apply, val_main_v33_apply, val_main_v22_apply, e1, e2, e3, proj_apply]
  refine congrArg (proj x0 x1 x2 a · * e8) (Fin.ext ?_)
  show 3360 + (256 * (l.val / 64 % 2) + 64 * (l.val / 128) + l.val % 64) = 3360 + (64 * (perm ⟨l.val / 64, by omega⟩).val + l.val % 64)
  rw [hp]
  omega

/-- Piece 39. -/
theorem p39 (a : Fin 16384) (l : Fin 1536) : val_main_v39 (F := Ideal) x0 x1 x2 (ix2 a l) = proj x0 x1 x2 a ⟨4640 + l.val, by omega⟩ * e8 := by
  have e25 : idx_main_v25 (ix2 a l) = ix2 a (⟨4640 + l.val, by omega⟩ : Fin 8224) := by
    refine Shape.idx_ext₂ rfl ?_
    show _ = 4640 + l.val
    dsimp
    try omega
  rw [val_main_v39_apply, val_main_v25_apply, e25, proj_apply]
  rfl

/-- Piece 26. -/
theorem p26 (a : Fin 16384) (l : Fin 1024) : val_main_v26 (F := Ideal) x0 x1 x2 (ix2 a l) = proj x0 x1 x2 a ⟨6176 + l.val, by omega⟩ := by
  have e26 : idx_main_v26 (ix2 a l) = ix2 a (⟨6176 + l.val, by omega⟩ : Fin 8224) := by
    refine Shape.idx_ext₂ rfl ?_
    show _ = 6176 + l.val
    dsimp
    try omega
  rw [val_main_v26_apply, e26, proj_apply]

/-- Piece 29. -/
theorem p29 (a : Fin 16384) (l : Fin 256) : val_main_v29 (F := Ideal) x0 x1 x2 (ix2 a l) = proj x0 x1 x2 a ⟨7968 + l.val, by omega⟩ := by
  have e29 : idx_main_v29 (ix2 a l) = ix2 a (⟨7968 + l.val, by omega⟩ : Fin 8224) := by
    refine Shape.idx_ext₂ rfl ?_
    show _ = 7968 + l.val
    dsimp
    try omega
  rw [val_main_v29_apply, e29, proj_apply]

/-- Piece 40. -/
theorem p40 (a : Fin 16384) (l : Fin 256) : val_main_v40 (F := Ideal) x0 x1 x2 (ix2 a l) = proj x0 x1 x2 a ⟨512 + l.val, by omega⟩ := by
  have e : idx_main_v16 (idx_main_v40 (ix2 a l)) = ix2 a (⟨512 + l.val, by omega⟩ : Fin 8224) := by
    refine Shape.idx_ext₂ rfl ?_
    show _ = 512 + l.val
    dsimp
    try omega
  rw [val_main_v40_apply, val_main_v16_apply, e, proj_apply]

/-- Piece 41. -/
theorem p41 (a : Fin 16384) (l : Fin 128) : val_main_v41 (F := Ideal) x0 x1 x2 (ix2 a l) = proj x0 x1 x2 a ⟨3872 + l.val, by omega⟩ := by
  have e : idx_main_v23 (idx_main_v41 (ix2 a l)) = ix2 a (⟨3872 + l.val, by omega⟩ : Fin 8224) := by
    refine Shape.idx_ext₂ rfl ?_
    show _ = 3872 + l.val
    dsimp
    try omega
  rw [val_main_v41_apply, val_main_v23_apply, e, proj_apply]

/-- Piece 42. -/
theorem p42 (a : Fin 16384) (l : Fin 128) : val_main_v42 (F := Ideal) x0 x1 x2 (ix2 a l) = if h : l.val < 24 then proj x0 x1 x2 a ⟨1280 + l.val, by omega⟩ else 0 := by
  unfold val_main_v42 val_main_call0_v0 val_main_c
  pointwise
  rw [zero_of]
  split
  · rename_i h
    have e : idx_main_v17 (ix2 a ⟨l.val, h⟩) = ix2 a (⟨1280 + l.val, by omega⟩ : Fin 8224) := by
      refine Shape.idx_ext₂ rfl ?_
      show _ = 1280 + l.val
      dsimp
      try omega
    rw [val_main_v17_apply, e, proj_apply]
  · rfl

/-- Piece 43. -/
theorem p43 (a : Fin 16384) (l : Fin 128) : val_main_v43 (F := Ideal) x0 x1 x2 (ix2 a l) = if h : l.val < 8 then proj x0 x1 x2 a ⟨2840 + l.val, by omega⟩ else 0 := by
  unfold val_main_v43 val_main_call1_v0 val_main_c_4
  pointwise
  rw [zero_of]
  split
  · rename_i h
    have e : idx_main_v20 (ix2 a ⟨l.val, h⟩) = ix2 a (⟨2840 + l.val, by omega⟩ : Fin 8224) := by
      refine Shape.idx_ext₂ rfl ?_
      show _ = 2840 + l.val
      dsimp
      try omega
    rw [val_main_v20_apply, e, proj_apply]
  · rfl

/-- Columns 0 to 1023 of the result. -/
theorem at0 (a : Fin 16384) (l : Fin 1024) : val_main_v44 (F := Ideal) x0 x1 x2 (ix2 a ⟨l.val, by omega⟩) = proj x0 x1 x2 a ⟨1816 + l.val, by omega⟩ :=
  (pieceOf (xs := [⟨S16384x1024, val_main_v19 (F := Ideal) x0 x1 x2⟩, ⟨S16384x512, val_main_v18 (F := Ideal) x0 x1 x2⟩, ⟨S16384x512, val_main_v21 (F := Ideal) x0 x1 x2⟩, ⟨S16384x512, val_main_v32 (F := Ideal) x0 x1 x2⟩, ⟨S16384x512, val_main_v27 (F := Ideal) x0 x1 x2⟩, ⟨S16384x512, val_main_v37 (F := Ideal) x0 x1 x2⟩, ⟨S16384x1536, val_main_v39 (F := Ideal) x0 x1 x2⟩, ⟨S16384x1024, val_main_v26 (F := Ideal) x0 x1 x2⟩, ⟨S16384x256, val_main_v29 (F := Ideal) x0 x1 x2⟩, ⟨S16384x256, val_main_v40 (F := Ideal) x0 x1 x2⟩, ⟨S16384x128, val_main_v41 (F := Ideal) x0 x1 x2⟩, ⟨S16384x128, val_main_v42 (F := Ideal) x0 x1 x2⟩, ⟨S16384x128, val_main_v43 (F := Ideal) x0 x1 x2⟩])
    (h := concatenates_S16384x1024_S16384x512_S16384x512_S16384x512_S16384x512_S16384x512_S16384x1536_S16384x1024_S16384x256_S16384x256_S16384x128_S16384x128_S16384x128_S16384x7040_d1)
    [1024, 512, 512, 512, 512, 512, 1536, 1024, 256, 256, 128, 128, 128] rfl 0 (by decide) (val_main_v19 (F := Ideal) x0 x1 x2) rfl 0 (by decide) a _ l (Nat.zero_add _)).trans (p19 x0 x1 x2 a l)

/-- Columns 1024 to 1535 of the result. -/
theorem at1 (a : Fin 16384) (l : Fin 512) : val_main_v44 (F := Ideal) x0 x1 x2 (ix2 a ⟨1024 + l.val, by omega⟩) = proj x0 x1 x2 a ⟨1304 + l.val, by omega⟩ :=
  (pieceOf (xs := [⟨S16384x1024, val_main_v19 (F := Ideal) x0 x1 x2⟩, ⟨S16384x512, val_main_v18 (F := Ideal) x0 x1 x2⟩, ⟨S16384x512, val_main_v21 (F := Ideal) x0 x1 x2⟩, ⟨S16384x512, val_main_v32 (F := Ideal) x0 x1 x2⟩, ⟨S16384x512, val_main_v27 (F := Ideal) x0 x1 x2⟩, ⟨S16384x512, val_main_v37 (F := Ideal) x0 x1 x2⟩, ⟨S16384x1536, val_main_v39 (F := Ideal) x0 x1 x2⟩, ⟨S16384x1024, val_main_v26 (F := Ideal) x0 x1 x2⟩, ⟨S16384x256, val_main_v29 (F := Ideal) x0 x1 x2⟩, ⟨S16384x256, val_main_v40 (F := Ideal) x0 x1 x2⟩, ⟨S16384x128, val_main_v41 (F := Ideal) x0 x1 x2⟩, ⟨S16384x128, val_main_v42 (F := Ideal) x0 x1 x2⟩, ⟨S16384x128, val_main_v43 (F := Ideal) x0 x1 x2⟩])
    (h := concatenates_S16384x1024_S16384x512_S16384x512_S16384x512_S16384x512_S16384x512_S16384x1536_S16384x1024_S16384x256_S16384x256_S16384x128_S16384x128_S16384x128_S16384x7040_d1)
    [1024, 512, 512, 512, 512, 512, 1536, 1024, 256, 256, 128, 128, 128] rfl 1 (by decide) (val_main_v18 (F := Ideal) x0 x1 x2) rfl 1024 (by decide) a _ l rfl).trans (p18 x0 x1 x2 a l)

/-- Columns 1536 to 2047 of the result. -/
theorem at2 (a : Fin 16384) (l : Fin 512) : val_main_v44 (F := Ideal) x0 x1 x2 (ix2 a ⟨1536 + l.val, by omega⟩) = proj x0 x1 x2 a ⟨2848 + l.val, by omega⟩ :=
  (pieceOf (xs := [⟨S16384x1024, val_main_v19 (F := Ideal) x0 x1 x2⟩, ⟨S16384x512, val_main_v18 (F := Ideal) x0 x1 x2⟩, ⟨S16384x512, val_main_v21 (F := Ideal) x0 x1 x2⟩, ⟨S16384x512, val_main_v32 (F := Ideal) x0 x1 x2⟩, ⟨S16384x512, val_main_v27 (F := Ideal) x0 x1 x2⟩, ⟨S16384x512, val_main_v37 (F := Ideal) x0 x1 x2⟩, ⟨S16384x1536, val_main_v39 (F := Ideal) x0 x1 x2⟩, ⟨S16384x1024, val_main_v26 (F := Ideal) x0 x1 x2⟩, ⟨S16384x256, val_main_v29 (F := Ideal) x0 x1 x2⟩, ⟨S16384x256, val_main_v40 (F := Ideal) x0 x1 x2⟩, ⟨S16384x128, val_main_v41 (F := Ideal) x0 x1 x2⟩, ⟨S16384x128, val_main_v42 (F := Ideal) x0 x1 x2⟩, ⟨S16384x128, val_main_v43 (F := Ideal) x0 x1 x2⟩])
    (h := concatenates_S16384x1024_S16384x512_S16384x512_S16384x512_S16384x512_S16384x512_S16384x1536_S16384x1024_S16384x256_S16384x256_S16384x128_S16384x128_S16384x128_S16384x7040_d1)
    [1024, 512, 512, 512, 512, 512, 1536, 1024, 256, 256, 128, 128, 128] rfl 2 (by decide) (val_main_v21 (F := Ideal) x0 x1 x2) rfl 1536 (by decide) a _ l rfl).trans (p21 x0 x1 x2 a l)

/-- Columns 2048 to 2559 of the result. -/
theorem at3 (a : Fin 16384) (l : Fin 512) : val_main_v44 (F := Ideal) x0 x1 x2 (ix2 a ⟨2048 + l.val, by omega⟩) = proj x0 x1 x2 a ⟨4128 + (64 * (perm ⟨l.val / 64, by omega⟩).val + l.val % 64), by omega⟩ :=
  (pieceOf (xs := [⟨S16384x1024, val_main_v19 (F := Ideal) x0 x1 x2⟩, ⟨S16384x512, val_main_v18 (F := Ideal) x0 x1 x2⟩, ⟨S16384x512, val_main_v21 (F := Ideal) x0 x1 x2⟩, ⟨S16384x512, val_main_v32 (F := Ideal) x0 x1 x2⟩, ⟨S16384x512, val_main_v27 (F := Ideal) x0 x1 x2⟩, ⟨S16384x512, val_main_v37 (F := Ideal) x0 x1 x2⟩, ⟨S16384x1536, val_main_v39 (F := Ideal) x0 x1 x2⟩, ⟨S16384x1024, val_main_v26 (F := Ideal) x0 x1 x2⟩, ⟨S16384x256, val_main_v29 (F := Ideal) x0 x1 x2⟩, ⟨S16384x256, val_main_v40 (F := Ideal) x0 x1 x2⟩, ⟨S16384x128, val_main_v41 (F := Ideal) x0 x1 x2⟩, ⟨S16384x128, val_main_v42 (F := Ideal) x0 x1 x2⟩, ⟨S16384x128, val_main_v43 (F := Ideal) x0 x1 x2⟩])
    (h := concatenates_S16384x1024_S16384x512_S16384x512_S16384x512_S16384x512_S16384x512_S16384x1536_S16384x1024_S16384x256_S16384x256_S16384x128_S16384x128_S16384x128_S16384x7040_d1)
    [1024, 512, 512, 512, 512, 512, 1536, 1024, 256, 256, 128, 128, 128] rfl 3 (by decide) (val_main_v32 (F := Ideal) x0 x1 x2) rfl 2048 (by decide) a _ l rfl).trans (p32 x0 x1 x2 a l)

/-- Columns 2560 to 3071 of the result. -/
theorem at4 (a : Fin 16384) (l : Fin 512) : val_main_v44 (F := Ideal) x0 x1 x2 (ix2 a ⟨2560 + l.val, by omega⟩) = proj x0 x1 x2 a ⟨7200 + l.val, by omega⟩ :=
  (pieceOf (xs := [⟨S16384x1024, val_main_v19 (F := Ideal) x0 x1 x2⟩, ⟨S16384x512, val_main_v18 (F := Ideal) x0 x1 x2⟩, ⟨S16384x512, val_main_v21 (F := Ideal) x0 x1 x2⟩, ⟨S16384x512, val_main_v32 (F := Ideal) x0 x1 x2⟩, ⟨S16384x512, val_main_v27 (F := Ideal) x0 x1 x2⟩, ⟨S16384x512, val_main_v37 (F := Ideal) x0 x1 x2⟩, ⟨S16384x1536, val_main_v39 (F := Ideal) x0 x1 x2⟩, ⟨S16384x1024, val_main_v26 (F := Ideal) x0 x1 x2⟩, ⟨S16384x256, val_main_v29 (F := Ideal) x0 x1 x2⟩, ⟨S16384x256, val_main_v40 (F := Ideal) x0 x1 x2⟩, ⟨S16384x128, val_main_v41 (F := Ideal) x0 x1 x2⟩, ⟨S16384x128, val_main_v42 (F := Ideal) x0 x1 x2⟩, ⟨S16384x128, val_main_v43 (F := Ideal) x0 x1 x2⟩])
    (h := concatenates_S16384x1024_S16384x512_S16384x512_S16384x512_S16384x512_S16384x512_S16384x1536_S16384x1024_S16384x256_S16384x256_S16384x128_S16384x128_S16384x128_S16384x7040_d1)
    [1024, 512, 512, 512, 512, 512, 1536, 1024, 256, 256, 128, 128, 128] rfl 4 (by decide) (val_main_v27 (F := Ideal) x0 x1 x2) rfl 2560 (by decide) a _ l rfl).trans (p27 x0 x1 x2 a l)

/-- Columns 3072 to 3583 of the result. -/
theorem at5 (a : Fin 16384) (l : Fin 512) : val_main_v44 (F := Ideal) x0 x1 x2 (ix2 a ⟨3072 + l.val, by omega⟩) = proj x0 x1 x2 a ⟨3360 + (64 * (perm ⟨l.val / 64, by omega⟩).val + l.val % 64), by omega⟩ * e8 :=
  (pieceOf (xs := [⟨S16384x1024, val_main_v19 (F := Ideal) x0 x1 x2⟩, ⟨S16384x512, val_main_v18 (F := Ideal) x0 x1 x2⟩, ⟨S16384x512, val_main_v21 (F := Ideal) x0 x1 x2⟩, ⟨S16384x512, val_main_v32 (F := Ideal) x0 x1 x2⟩, ⟨S16384x512, val_main_v27 (F := Ideal) x0 x1 x2⟩, ⟨S16384x512, val_main_v37 (F := Ideal) x0 x1 x2⟩, ⟨S16384x1536, val_main_v39 (F := Ideal) x0 x1 x2⟩, ⟨S16384x1024, val_main_v26 (F := Ideal) x0 x1 x2⟩, ⟨S16384x256, val_main_v29 (F := Ideal) x0 x1 x2⟩, ⟨S16384x256, val_main_v40 (F := Ideal) x0 x1 x2⟩, ⟨S16384x128, val_main_v41 (F := Ideal) x0 x1 x2⟩, ⟨S16384x128, val_main_v42 (F := Ideal) x0 x1 x2⟩, ⟨S16384x128, val_main_v43 (F := Ideal) x0 x1 x2⟩])
    (h := concatenates_S16384x1024_S16384x512_S16384x512_S16384x512_S16384x512_S16384x512_S16384x1536_S16384x1024_S16384x256_S16384x256_S16384x128_S16384x128_S16384x128_S16384x7040_d1)
    [1024, 512, 512, 512, 512, 512, 1536, 1024, 256, 256, 128, 128, 128] rfl 5 (by decide) (val_main_v37 (F := Ideal) x0 x1 x2) rfl 3072 (by decide) a _ l rfl).trans (p37 x0 x1 x2 a l)

/-- Columns 3584 to 5119 of the result. -/
theorem at6 (a : Fin 16384) (l : Fin 1536) : val_main_v44 (F := Ideal) x0 x1 x2 (ix2 a ⟨3584 + l.val, by omega⟩) = proj x0 x1 x2 a ⟨4640 + l.val, by omega⟩ * e8 :=
  (pieceOf (xs := [⟨S16384x1024, val_main_v19 (F := Ideal) x0 x1 x2⟩, ⟨S16384x512, val_main_v18 (F := Ideal) x0 x1 x2⟩, ⟨S16384x512, val_main_v21 (F := Ideal) x0 x1 x2⟩, ⟨S16384x512, val_main_v32 (F := Ideal) x0 x1 x2⟩, ⟨S16384x512, val_main_v27 (F := Ideal) x0 x1 x2⟩, ⟨S16384x512, val_main_v37 (F := Ideal) x0 x1 x2⟩, ⟨S16384x1536, val_main_v39 (F := Ideal) x0 x1 x2⟩, ⟨S16384x1024, val_main_v26 (F := Ideal) x0 x1 x2⟩, ⟨S16384x256, val_main_v29 (F := Ideal) x0 x1 x2⟩, ⟨S16384x256, val_main_v40 (F := Ideal) x0 x1 x2⟩, ⟨S16384x128, val_main_v41 (F := Ideal) x0 x1 x2⟩, ⟨S16384x128, val_main_v42 (F := Ideal) x0 x1 x2⟩, ⟨S16384x128, val_main_v43 (F := Ideal) x0 x1 x2⟩])
    (h := concatenates_S16384x1024_S16384x512_S16384x512_S16384x512_S16384x512_S16384x512_S16384x1536_S16384x1024_S16384x256_S16384x256_S16384x128_S16384x128_S16384x128_S16384x7040_d1)
    [1024, 512, 512, 512, 512, 512, 1536, 1024, 256, 256, 128, 128, 128] rfl 6 (by decide) (val_main_v39 (F := Ideal) x0 x1 x2) rfl 3584 (by decide) a _ l rfl).trans (p39 x0 x1 x2 a l)

/-- Columns 5120 to 6143 of the result. -/
theorem at7 (a : Fin 16384) (l : Fin 1024) : val_main_v44 (F := Ideal) x0 x1 x2 (ix2 a ⟨5120 + l.val, by omega⟩) = proj x0 x1 x2 a ⟨6176 + l.val, by omega⟩ :=
  (pieceOf (xs := [⟨S16384x1024, val_main_v19 (F := Ideal) x0 x1 x2⟩, ⟨S16384x512, val_main_v18 (F := Ideal) x0 x1 x2⟩, ⟨S16384x512, val_main_v21 (F := Ideal) x0 x1 x2⟩, ⟨S16384x512, val_main_v32 (F := Ideal) x0 x1 x2⟩, ⟨S16384x512, val_main_v27 (F := Ideal) x0 x1 x2⟩, ⟨S16384x512, val_main_v37 (F := Ideal) x0 x1 x2⟩, ⟨S16384x1536, val_main_v39 (F := Ideal) x0 x1 x2⟩, ⟨S16384x1024, val_main_v26 (F := Ideal) x0 x1 x2⟩, ⟨S16384x256, val_main_v29 (F := Ideal) x0 x1 x2⟩, ⟨S16384x256, val_main_v40 (F := Ideal) x0 x1 x2⟩, ⟨S16384x128, val_main_v41 (F := Ideal) x0 x1 x2⟩, ⟨S16384x128, val_main_v42 (F := Ideal) x0 x1 x2⟩, ⟨S16384x128, val_main_v43 (F := Ideal) x0 x1 x2⟩])
    (h := concatenates_S16384x1024_S16384x512_S16384x512_S16384x512_S16384x512_S16384x512_S16384x1536_S16384x1024_S16384x256_S16384x256_S16384x128_S16384x128_S16384x128_S16384x7040_d1)
    [1024, 512, 512, 512, 512, 512, 1536, 1024, 256, 256, 128, 128, 128] rfl 7 (by decide) (val_main_v26 (F := Ideal) x0 x1 x2) rfl 5120 (by decide) a _ l rfl).trans (p26 x0 x1 x2 a l)

/-- Columns 6144 to 6399 of the result. -/
theorem at8 (a : Fin 16384) (l : Fin 256) : val_main_v44 (F := Ideal) x0 x1 x2 (ix2 a ⟨6144 + l.val, by omega⟩) = proj x0 x1 x2 a ⟨7968 + l.val, by omega⟩ :=
  (pieceOf (xs := [⟨S16384x1024, val_main_v19 (F := Ideal) x0 x1 x2⟩, ⟨S16384x512, val_main_v18 (F := Ideal) x0 x1 x2⟩, ⟨S16384x512, val_main_v21 (F := Ideal) x0 x1 x2⟩, ⟨S16384x512, val_main_v32 (F := Ideal) x0 x1 x2⟩, ⟨S16384x512, val_main_v27 (F := Ideal) x0 x1 x2⟩, ⟨S16384x512, val_main_v37 (F := Ideal) x0 x1 x2⟩, ⟨S16384x1536, val_main_v39 (F := Ideal) x0 x1 x2⟩, ⟨S16384x1024, val_main_v26 (F := Ideal) x0 x1 x2⟩, ⟨S16384x256, val_main_v29 (F := Ideal) x0 x1 x2⟩, ⟨S16384x256, val_main_v40 (F := Ideal) x0 x1 x2⟩, ⟨S16384x128, val_main_v41 (F := Ideal) x0 x1 x2⟩, ⟨S16384x128, val_main_v42 (F := Ideal) x0 x1 x2⟩, ⟨S16384x128, val_main_v43 (F := Ideal) x0 x1 x2⟩])
    (h := concatenates_S16384x1024_S16384x512_S16384x512_S16384x512_S16384x512_S16384x512_S16384x1536_S16384x1024_S16384x256_S16384x256_S16384x128_S16384x128_S16384x128_S16384x7040_d1)
    [1024, 512, 512, 512, 512, 512, 1536, 1024, 256, 256, 128, 128, 128] rfl 8 (by decide) (val_main_v29 (F := Ideal) x0 x1 x2) rfl 6144 (by decide) a _ l rfl).trans (p29 x0 x1 x2 a l)

/-- Columns 6400 to 6655 of the result. -/
theorem at9 (a : Fin 16384) (l : Fin 256) : val_main_v44 (F := Ideal) x0 x1 x2 (ix2 a ⟨6400 + l.val, by omega⟩) = proj x0 x1 x2 a ⟨512 + l.val, by omega⟩ :=
  (pieceOf (xs := [⟨S16384x1024, val_main_v19 (F := Ideal) x0 x1 x2⟩, ⟨S16384x512, val_main_v18 (F := Ideal) x0 x1 x2⟩, ⟨S16384x512, val_main_v21 (F := Ideal) x0 x1 x2⟩, ⟨S16384x512, val_main_v32 (F := Ideal) x0 x1 x2⟩, ⟨S16384x512, val_main_v27 (F := Ideal) x0 x1 x2⟩, ⟨S16384x512, val_main_v37 (F := Ideal) x0 x1 x2⟩, ⟨S16384x1536, val_main_v39 (F := Ideal) x0 x1 x2⟩, ⟨S16384x1024, val_main_v26 (F := Ideal) x0 x1 x2⟩, ⟨S16384x256, val_main_v29 (F := Ideal) x0 x1 x2⟩, ⟨S16384x256, val_main_v40 (F := Ideal) x0 x1 x2⟩, ⟨S16384x128, val_main_v41 (F := Ideal) x0 x1 x2⟩, ⟨S16384x128, val_main_v42 (F := Ideal) x0 x1 x2⟩, ⟨S16384x128, val_main_v43 (F := Ideal) x0 x1 x2⟩])
    (h := concatenates_S16384x1024_S16384x512_S16384x512_S16384x512_S16384x512_S16384x512_S16384x1536_S16384x1024_S16384x256_S16384x256_S16384x128_S16384x128_S16384x128_S16384x7040_d1)
    [1024, 512, 512, 512, 512, 512, 1536, 1024, 256, 256, 128, 128, 128] rfl 9 (by decide) (val_main_v40 (F := Ideal) x0 x1 x2) rfl 6400 (by decide) a _ l rfl).trans (p40 x0 x1 x2 a l)

/-- Columns 6656 to 6783 of the result. -/
theorem at10 (a : Fin 16384) (l : Fin 128) : val_main_v44 (F := Ideal) x0 x1 x2 (ix2 a ⟨6656 + l.val, by omega⟩) = proj x0 x1 x2 a ⟨3872 + l.val, by omega⟩ :=
  (pieceOf (xs := [⟨S16384x1024, val_main_v19 (F := Ideal) x0 x1 x2⟩, ⟨S16384x512, val_main_v18 (F := Ideal) x0 x1 x2⟩, ⟨S16384x512, val_main_v21 (F := Ideal) x0 x1 x2⟩, ⟨S16384x512, val_main_v32 (F := Ideal) x0 x1 x2⟩, ⟨S16384x512, val_main_v27 (F := Ideal) x0 x1 x2⟩, ⟨S16384x512, val_main_v37 (F := Ideal) x0 x1 x2⟩, ⟨S16384x1536, val_main_v39 (F := Ideal) x0 x1 x2⟩, ⟨S16384x1024, val_main_v26 (F := Ideal) x0 x1 x2⟩, ⟨S16384x256, val_main_v29 (F := Ideal) x0 x1 x2⟩, ⟨S16384x256, val_main_v40 (F := Ideal) x0 x1 x2⟩, ⟨S16384x128, val_main_v41 (F := Ideal) x0 x1 x2⟩, ⟨S16384x128, val_main_v42 (F := Ideal) x0 x1 x2⟩, ⟨S16384x128, val_main_v43 (F := Ideal) x0 x1 x2⟩])
    (h := concatenates_S16384x1024_S16384x512_S16384x512_S16384x512_S16384x512_S16384x512_S16384x1536_S16384x1024_S16384x256_S16384x256_S16384x128_S16384x128_S16384x128_S16384x7040_d1)
    [1024, 512, 512, 512, 512, 512, 1536, 1024, 256, 256, 128, 128, 128] rfl 10 (by decide) (val_main_v41 (F := Ideal) x0 x1 x2) rfl 6656 (by decide) a _ l rfl).trans (p41 x0 x1 x2 a l)

/-- Columns 6784 to 6911 of the result. -/
theorem at11 (a : Fin 16384) (l : Fin 128) : val_main_v44 (F := Ideal) x0 x1 x2 (ix2 a ⟨6784 + l.val, by omega⟩) = if h : l.val < 24 then proj x0 x1 x2 a ⟨1280 + l.val, by omega⟩ else 0 :=
  (pieceOf (xs := [⟨S16384x1024, val_main_v19 (F := Ideal) x0 x1 x2⟩, ⟨S16384x512, val_main_v18 (F := Ideal) x0 x1 x2⟩, ⟨S16384x512, val_main_v21 (F := Ideal) x0 x1 x2⟩, ⟨S16384x512, val_main_v32 (F := Ideal) x0 x1 x2⟩, ⟨S16384x512, val_main_v27 (F := Ideal) x0 x1 x2⟩, ⟨S16384x512, val_main_v37 (F := Ideal) x0 x1 x2⟩, ⟨S16384x1536, val_main_v39 (F := Ideal) x0 x1 x2⟩, ⟨S16384x1024, val_main_v26 (F := Ideal) x0 x1 x2⟩, ⟨S16384x256, val_main_v29 (F := Ideal) x0 x1 x2⟩, ⟨S16384x256, val_main_v40 (F := Ideal) x0 x1 x2⟩, ⟨S16384x128, val_main_v41 (F := Ideal) x0 x1 x2⟩, ⟨S16384x128, val_main_v42 (F := Ideal) x0 x1 x2⟩, ⟨S16384x128, val_main_v43 (F := Ideal) x0 x1 x2⟩])
    (h := concatenates_S16384x1024_S16384x512_S16384x512_S16384x512_S16384x512_S16384x512_S16384x1536_S16384x1024_S16384x256_S16384x256_S16384x128_S16384x128_S16384x128_S16384x7040_d1)
    [1024, 512, 512, 512, 512, 512, 1536, 1024, 256, 256, 128, 128, 128] rfl 11 (by decide) (val_main_v42 (F := Ideal) x0 x1 x2) rfl 6784 (by decide) a _ l rfl).trans (p42 x0 x1 x2 a l)

/-- Columns 6912 to 7039 of the result. -/
theorem at12 (a : Fin 16384) (l : Fin 128) : val_main_v44 (F := Ideal) x0 x1 x2 (ix2 a ⟨6912 + l.val, by omega⟩) = if h : l.val < 8 then proj x0 x1 x2 a ⟨2840 + l.val, by omega⟩ else 0 :=
  (pieceOf (xs := [⟨S16384x1024, val_main_v19 (F := Ideal) x0 x1 x2⟩, ⟨S16384x512, val_main_v18 (F := Ideal) x0 x1 x2⟩, ⟨S16384x512, val_main_v21 (F := Ideal) x0 x1 x2⟩, ⟨S16384x512, val_main_v32 (F := Ideal) x0 x1 x2⟩, ⟨S16384x512, val_main_v27 (F := Ideal) x0 x1 x2⟩, ⟨S16384x512, val_main_v37 (F := Ideal) x0 x1 x2⟩, ⟨S16384x1536, val_main_v39 (F := Ideal) x0 x1 x2⟩, ⟨S16384x1024, val_main_v26 (F := Ideal) x0 x1 x2⟩, ⟨S16384x256, val_main_v29 (F := Ideal) x0 x1 x2⟩, ⟨S16384x256, val_main_v40 (F := Ideal) x0 x1 x2⟩, ⟨S16384x128, val_main_v41 (F := Ideal) x0 x1 x2⟩, ⟨S16384x128, val_main_v42 (F := Ideal) x0 x1 x2⟩, ⟨S16384x128, val_main_v43 (F := Ideal) x0 x1 x2⟩])
    (h := concatenates_S16384x1024_S16384x512_S16384x512_S16384x512_S16384x512_S16384x512_S16384x1536_S16384x1024_S16384x256_S16384x256_S16384x128_S16384x128_S16384x128_S16384x7040_d1)
    [1024, 512, 512, 512, 512, 512, 1536, 1024, 256, 256, 128, 128, 128] rfl 12 (by decide) (val_main_v43 (F := Ideal) x0 x1 x2) rfl 6912 (by decide) a _ l rfl).trans (p43 x0 x1 x2 a l)

end Cert.InFRef

end
-- ==== Proof.InFEq.lean ====
/-
  The in-projection kernel's array is its reference's.
-/
module

public import proofs.«01_k».proof.Proof.InFArray
public import proofs.«01_k».proof.Proof.InFRef
public import proofs.«01_k».proof.Proof.BandRef

@[expose] public section

set_option maxRecDepth 16384

noncomputable section

namespace Cert.InFEq

open Cert.InFIdeal Cert.InFIdeal.Gen Idealize.ShloMosaic Idealize.ShloMosaic.TcCoe Cert.InFArray Cert.InFWts

variable (m : (ℓ : Loc nD τ sig) → Buf (Elt Ideal) ℓ) (c : Dev nD)

/-- The reference's projections of the kernel's arguments. -/
abbrev pr (a : Fin 16384) (k : Fin 8224) : EReal :=
  InFRef.proj (m ((c : Thread nD τ).loc main_arg0)) (m ((c : Thread nD τ).loc main_arg1)) (m ((c : Thread nD τ).loc main_arg2)) a k

/-- The reference's result of the kernel's arguments. -/
abbrev ref : Vec Ideal S16384x7040 .f32 :=
  InFRefIdeal.Read.val_main_v44 (F := Ideal) (m ((c : Thread nD τ).loc main_arg0)) (m ((c : Thread nD τ).loc main_arg1)) (m ((c : Thread nD τ).loc main_arg2))

/-- A column of the weights given. -/
theorem plain (a : Fin 16384) (L : Fin 7040) (k : Fin 8224) (h : ∀ d, Wt m c d L = w (σ0 m c) d k) :
    ∑ d, hh m c a d * Wt m c d L = pr m c a k :=
  Finset.sum_congr rfl fun d _ => by rw [h]; rfl

/-- A column scaled by one eighth: the scale goes through the sum. -/
theorem scaled (a : Fin 16384) (L : Fin 7040) (k : Fin 8224) (h : ∀ d, Wt m c d L = w (σ0 m c) d k * e8) :
    ∑ d, hh m c a d * Wt m c d L = pr m c a k * InFRef.e8 := by
  have e : InFRef.e8 = ((1 / 8 : ℝ) : EReal) := BandRef.eighth
  have e' : e8 = ((1 / 8 : ℝ) : EReal) := BandRef.eighth
  rw [e]
  unfold pr InFRef.proj
  rw [Soft.sum_mul_real _ _ _ (by norm_num)]
  refine Finset.sum_congr rfl fun d _ => ?_
  rw [h, e', ← mul_assoc]
  rfl

/-- A column of zeros. -/
theorem none (a : Fin 16384) (L : Fin 7040) (h : ∀ d, Wt m c d L = 0) : ∑ d, hh m c a d * Wt m c d L = 0 :=
  Finset.sum_eq_zero fun d _ => by rw [h, mul_zero]

/-- Columns 0 to 1023. -/
theorem c0 (a : Fin 16384) (l : Fin 1024) : arr m c (ix2 a ⟨l.val, by omega⟩) = ref m c (ix2 a ⟨l.val, by omega⟩) := by
  have hr := InFRef.at0 (m ((c : Thread nD τ).loc main_arg0)) (m ((c : Thread nD τ).loc main_arg1)) (m ((c : Thread nD τ).loc main_arg2)) a l
  refine (plain m c a _ _ fun d => W0 m c d l).trans (Eq.trans ?_ (hr.symm.trans ?_))
  · rfl
  · rfl

/-- Columns 1024 to 1535. -/
theorem c1 (a : Fin 16384) (l : Fin 512) : arr m c (ix2 a ⟨1024 + l.val, by omega⟩) = ref m c (ix2 a ⟨1024 + l.val, by omega⟩) := by
  have hr := InFRef.at1 (m ((c : Thread nD τ).loc main_arg0)) (m ((c : Thread nD τ).loc main_arg1)) (m ((c : Thread nD τ).loc main_arg2)) a l
  refine (plain m c a _ _ fun d => W1 m c d l).trans (Eq.trans ?_ (hr.symm.trans ?_))
  · rfl
  · rfl

/-- Columns 1536 to 2047. -/
theorem c2 (a : Fin 16384) (l : Fin 512) : arr m c (ix2 a ⟨1536 + l.val, by omega⟩) = ref m c (ix2 a ⟨1536 + l.val, by omega⟩) := by
  have hr := InFRef.at2 (m ((c : Thread nD τ).loc main_arg0)) (m ((c : Thread nD τ).loc main_arg1)) (m ((c : Thread nD τ).loc main_arg2)) a l
  refine (plain m c a _ _ fun d => W2 m c d l).trans (Eq.trans ?_ (hr.symm.trans ?_))
  · rfl
  · rfl

/-- Columns 2048 to 2559. -/
theorem c3 (a : Fin 16384) (l : Fin 512) : arr m c (ix2 a ⟨2048 + l.val, by omega⟩) = ref m c (ix2 a ⟨2048 + l.val, by omega⟩) := by
  have hr := InFRef.at3 (m ((c : Thread nD τ).loc main_arg0)) (m ((c : Thread nD τ).loc main_arg1)) (m ((c : Thread nD τ).loc main_arg2)) a l
  refine (plain m c a _ _ fun d => W3 m c d l).trans (Eq.trans ?_ (hr.symm.trans ?_))
  · rfl
  · rfl

/-- Columns 2560 to 3071. -/
theorem c4 (a : Fin 16384) (l : Fin 512) : arr m c (ix2 a ⟨2560 + l.val, by omega⟩) = ref m c (ix2 a ⟨2560 + l.val, by omega⟩) := by
  have hr := InFRef.at4 (m ((c : Thread nD τ).loc main_arg0)) (m ((c : Thread nD τ).loc main_arg1)) (m ((c : Thread nD τ).loc main_arg2)) a l
  refine (plain m c a _ _ fun d => W4 m c d l).trans (Eq.trans ?_ (hr.symm.trans ?_))
  · rfl
  · rfl

/-- Columns 3072 to 3583. -/
theorem c5 (a : Fin 16384) (l : Fin 512) : arr m c (ix2 a ⟨3072 + l.val, by omega⟩) = ref m c (ix2 a ⟨3072 + l.val, by omega⟩) := by
  have hr := InFRef.at5 (m ((c : Thread nD τ).loc main_arg0)) (m ((c : Thread nD τ).loc main_arg1)) (m ((c : Thread nD τ).loc main_arg2)) a l
  refine (scaled m c a _ _ fun d => W5 m c d l).trans (Eq.trans ?_ (hr.symm.trans ?_))
  · rfl
  · rfl

/-- Columns 3584 to 5119. -/
theorem c6 (a : Fin 16384) (l : Fin 1536) : arr m c (ix2 a ⟨3584 + l.val, by omega⟩) = ref m c (ix2 a ⟨3584 + l.val, by omega⟩) := by
  have hr := InFRef.at6 (m ((c : Thread nD τ).loc main_arg0)) (m ((c : Thread nD τ).loc main_arg1)) (m ((c : Thread nD τ).loc main_arg2)) a l
  refine (scaled m c a _ _ fun d => W6 m c d l).trans (Eq.trans ?_ (hr.symm.trans ?_))
  · rfl
  · rfl

/-- Columns 5120 to 5631. -/
theorem c7 (a : Fin 16384) (l : Fin 512) : arr m c (ix2 a ⟨5120 + l.val, by omega⟩) = ref m c (ix2 a ⟨5120 + l.val, by omega⟩) := by
  have hr := InFRef.at7 (m ((c : Thread nD τ).loc main_arg0)) (m ((c : Thread nD τ).loc main_arg1)) (m ((c : Thread nD τ).loc main_arg2)) a ⟨l.val, by omega⟩
  refine (plain m c a _ _ fun d => W7 m c d l).trans (Eq.trans ?_ (hr.symm.trans ?_))
  · rfl
  · rfl

/-- Columns 5632 to 6143. -/
theorem c8 (a : Fin 16384) (l : Fin 512) : arr m c (ix2 a ⟨5632 + l.val, by omega⟩) = ref m c (ix2 a ⟨5632 + l.val, by omega⟩) := by
  have hr := InFRef.at7 (m ((c : Thread nD τ).loc main_arg0)) (m ((c : Thread nD τ).loc main_arg1)) (m ((c : Thread nD τ).loc main_arg2)) a ⟨512 + l.val, by omega⟩
  refine (plain m c a _ _ fun d => W8 m c d l).trans (Eq.trans ?_ (hr.symm.trans ?_))
  · refine congrArg (pr m c a) (Fin.ext ?_)
    dsimp only
    omega
  · refine congrArg (fun L => ref m c (ix2 a L)) (Fin.ext ?_)
    dsimp only
    omega

/-- Columns 6144 to 6399. -/
theorem c9 (a : Fin 16384) (l : Fin 256) : arr m c (ix2 a ⟨6144 + l.val, by omega⟩) = ref m c (ix2 a ⟨6144 + l.val, by omega⟩) := by
  have hr := InFRef.at8 (m ((c : Thread nD τ).loc main_arg0)) (m ((c : Thread nD τ).loc main_arg1)) (m ((c : Thread nD τ).loc main_arg2)) a l
  refine (plain m c a _ _ fun d => W9 m c d l).trans (Eq.trans ?_ (hr.symm.trans ?_))
  · rfl
  · rfl

/-- Columns 6400 to 6527. -/
theorem c10 (a : Fin 16384) (l : Fin 128) : arr m c (ix2 a ⟨6400 + l.val, by omega⟩) = ref m c (ix2 a ⟨6400 + l.val, by omega⟩) := by
  have hr := InFRef.at9 (m ((c : Thread nD τ).loc main_arg0)) (m ((c : Thread nD τ).loc main_arg1)) (m ((c : Thread nD τ).loc main_arg2)) a ⟨l.val, by omega⟩
  refine (plain m c a _ _ fun d => W10 m c d l).trans (Eq.trans ?_ (hr.symm.trans ?_))
  · rfl
  · rfl

/-- Columns 6528 to 6655. -/
theorem c11 (a : Fin 16384) (l : Fin 128) : arr m c (ix2 a ⟨6528 + l.val, by omega⟩) = ref m c (ix2 a ⟨6528 + l.val, by omega⟩) := by
  have hr := InFRef.at9 (m ((c : Thread nD τ).loc main_arg0)) (m ((c : Thread nD τ).loc main_arg1)) (m ((c : Thread nD τ).loc main_arg2)) a ⟨128 + l.val, by omega⟩
  refine (plain m c a _ _ fun d => W11 m c d l).trans (Eq.trans ?_ (hr.symm.trans ?_))
  · refine congrArg (pr m c a) (Fin.ext ?_)
    dsimp only
    omega
  · refine congrArg (fun L => ref m c (ix2 a L)) (Fin.ext ?_)
    dsimp only
    omega

/-- Columns 6656 to 6783. -/
theorem c12 (a : Fin 16384) (l : Fin 128) : arr m c (ix2 a ⟨6656 + l.val, by omega⟩) = ref m c (ix2 a ⟨6656 + l.val, by omega⟩) := by
  have hr := InFRef.at10 (m ((c : Thread nD τ).loc main_arg0)) (m ((c : Thread nD τ).loc main_arg1)) (m ((c : Thread nD τ).loc main_arg2)) a l
  refine (plain m c a _ _ fun d => W12 m c d l).trans (Eq.trans ?_ (hr.symm.trans ?_))
  · rfl
  · rfl

/-- Columns 6784 to 6911. -/
theorem c13 (a : Fin 16384) (l : Fin 128) : arr m c (ix2 a ⟨6784 + l.val, by omega⟩) = ref m c (ix2 a ⟨6784 + l.val, by omega⟩) := by
  have hr := InFRef.at11 (m ((c : Thread nD τ).loc main_arg0)) (m ((c : Thread nD τ).loc main_arg1)) (m ((c : Thread nD τ).loc main_arg2)) a l
  refine Eq.trans ?_ hr.symm
  by_cases h : l.val < 24
  · rw [dif_pos h]
    exact plain m c a _ _ fun d => (W13 m c d l).trans (dif_pos h)
  · rw [dif_neg h]
    exact none m c a _ fun d => (W13 m c d l).trans (dif_neg h)

/-- Columns 6912 to 7039. -/
theorem c14 (a : Fin 16384) (l : Fin 128) : arr m c (ix2 a ⟨6912 + l.val, by omega⟩) = ref m c (ix2 a ⟨6912 + l.val, by omega⟩) := by
  have hr := InFRef.at12 (m ((c : Thread nD τ).loc main_arg0)) (m ((c : Thread nD τ).loc main_arg1)) (m ((c : Thread nD τ).loc main_arg2)) a l
  refine Eq.trans ?_ hr.symm
  by_cases h : l.val < 8
  · rw [dif_pos h]
    exact plain m c a _ _ fun d => (W14 m c d l).trans (dif_pos h)
  · rw [dif_neg h]
    exact none m c a _ fun d => (W14 m c d l).trans (dif_neg h)

/-- Every column. -/
theorem cols (a : Fin 16384) (L : Fin 7040) : arr m c (ix2 a L) = ref m c (ix2 a L) := by
  by_cases h0 : L.val < 1024
  · have e : L = ⟨(⟨L.val, by omega⟩ : Fin 1024).val, by dsimp only; omega⟩ := rfl
    rw [e]
    exact c0 m c a _
  by_cases h1 : L.val < 1536
  · have e : L = ⟨1024 + (⟨L.val - 1024, by omega⟩ : Fin 512).val, by dsimp only; omega⟩ := Fin.ext (by dsimp only; omega)
    rw [e]
    exact c1 m c a _
  by_cases h2 : L.val < 2048
  · have e : L = ⟨1536 + (⟨L.val - 1536, by omega⟩ : Fin 512).val, by dsimp only; omega⟩ := Fin.ext (by dsimp only; omega)
    rw [e]
    exact c2 m c a _
  by_cases h3 : L.val < 2560
  · have e : L = ⟨2048 + (⟨L.val - 2048, by omega⟩ : Fin 512).val, by dsimp only; omega⟩ := Fin.ext (by dsimp only; omega)
    rw [e]
    exact c3 m c a _
  by_cases h4 : L.val < 3072
  · have e : L = ⟨2560 + (⟨L.val - 2560, by omega⟩ : Fin 512).val, by dsimp only; omega⟩ := Fin.ext (by dsimp only; omega)
    rw [e]
    exact c4 m c a _
  by_cases h5 : L.val < 3584
  · have e : L = ⟨3072 + (⟨L.val - 3072, by omega⟩ : Fin 512).val, by dsimp only; omega⟩ := Fin.ext (by dsimp only; omega)
    rw [e]
    exact c5 m c a _
  by_cases h6 : L.val < 5120
  · have e : L = ⟨3584 + (⟨L.val - 3584, by omega⟩ : Fin 1536).val, by dsimp only; omega⟩ := Fin.ext (by dsimp only; omega)
    rw [e]
    exact c6 m c a _
  by_cases h7 : L.val < 5632
  · have e : L = ⟨5120 + (⟨L.val - 5120, by omega⟩ : Fin 512).val, by dsimp only; omega⟩ := Fin.ext (by dsimp only; omega)
    rw [e]
    exact c7 m c a _
  by_cases h8 : L.val < 6144
  · have e : L = ⟨5632 + (⟨L.val - 5632, by omega⟩ : Fin 512).val, by dsimp only; omega⟩ := Fin.ext (by dsimp only; omega)
    rw [e]
    exact c8 m c a _
  by_cases h9 : L.val < 6400
  · have e : L = ⟨6144 + (⟨L.val - 6144, by omega⟩ : Fin 256).val, by dsimp only; omega⟩ := Fin.ext (by dsimp only; omega)
    rw [e]
    exact c9 m c a _
  by_cases h10 : L.val < 6528
  · have e : L = ⟨6400 + (⟨L.val - 6400, by omega⟩ : Fin 128).val, by dsimp only; omega⟩ := Fin.ext (by dsimp only; omega)
    rw [e]
    exact c10 m c a _
  by_cases h11 : L.val < 6656
  · have e : L = ⟨6528 + (⟨L.val - 6528, by omega⟩ : Fin 128).val, by dsimp only; omega⟩ := Fin.ext (by dsimp only; omega)
    rw [e]
    exact c11 m c a _
  by_cases h12 : L.val < 6784
  · have e : L = ⟨6656 + (⟨L.val - 6656, by omega⟩ : Fin 128).val, by dsimp only; omega⟩ := Fin.ext (by dsimp only; omega)
    rw [e]
    exact c12 m c a _
  by_cases h13 : L.val < 6912
  · have e : L = ⟨6784 + (⟨L.val - 6784, by omega⟩ : Fin 128).val, by dsimp only; omega⟩ := Fin.ext (by dsimp only; omega)
    rw [e]
    exact c13 m c a _
  have e : L = ⟨6912 + (⟨L.val - 6912, by omega⟩ : Fin 128).val, by dsimp only; omega⟩ := Fin.ext (by dsimp only; omega)
  rw [e]
  exact c14 m c a _

/-- THE KERNEL'S ARRAY IS THE REFERENCE'S. -/
theorem arr_eq : arr m c = ref m c := by
  funext y
  rw [eq_ix2 y]
  exact cols m c (y 0) (y 1)

end Cert.InFEq

end
-- ==== Proof.InBBlock.lean ====
/-
  What one point of the in-projection's second call computes: its normalized rows times the weights.
-/
module

public import proofs.«01_k».proof.Proof.InFBlock
public import proofs.«01_k».proof.Proof.Gen.InBIdeal.Value
public import Idealize.ShloMosaic.Lib.Pipeline.ValueKit.Geometry
public import Idealize.ShloMosaic.Lib.Pointwise
public import Idealize.ShloMosaic.Lib.VecWindow

@[expose] public section

set_option maxRecDepth 16384

noncomputable section

namespace Cert.InBBlock

open Cert.InBIdeal Cert.InBIdeal.Gen Idealize.ShloMosaic Idealize.ShloMosaic.TcCoe

/-- A whole buffer read back is what was put there. -/
theorem whole {s : Shape} {e : EltTy} {a : Memref sig .tc .vmem s e} (h : a.IsWhole) {off : Fin s.rank → ℕ} (inb : ∀ b, off b + s.size b ≤ s.size b)
    (x : Vec Ideal s e) : View.readAt (Elt Ideal) a.view (Rect.unit off s.size inb).toLoadRect (h.unread x) = x := by
  rw [View.readAt_full]
  exact h.read_unread x

/-- A point multiplies its normalized rows by the weights. -/
theorem outA (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x1408 .bf16) (h4 : a4.IsWhole) (a5 : Memref sig .tc .vmem S1024x1408 .bf16) (h5 : a5.IsWhole)
    (a6 : Memref sig .tc .vmem S1024x1024 .bf16) (h6 : a6.IsWhole) (hc0 : cond0_0 i)
    (x0 : Vec Ideal S1024x1024 .f32) (x1 : Vec Ideal S1x1024 .f32) (x2 : Vec Ideal S1024x1408 .bf16) :
    out0_A_3 c i a2 h2 a3 h3 a4 h4 a5 h5 a6 h6 hc0 x0 x1 x2 = k0_pay2 (k0_pay1 x0 x1) x2 := by
  unfold out0_A_3 kernelRun0_A
  dsimp only
  refine (View.read_writes_full _ _ _ _ _).trans ?_
  refine congrArg₂ k0_pay2 ?_ (whole h4 _ x2)
  unfold kernelRun0_A.sl.v3 kernelRun0_A.sl.HS0_1
  refine (View.readCov_full _ _ _ _ _).trans ?_
  exact congrArg₂ k0_pay1 (whole h2 _ x0) (whole h3 _ x1)

/-- The normalized rows, entry by entry. -/
theorem pay1_apply (x0 : Vec Ideal S1024x1024 .f32) (x1 : Vec Ideal S1x1024 .f32) (R d : Fin 1024) :
    k0_pay1 x0 x1 (ix2 R d) = x0 (ix2 R d) * InFBlock.inv (fun d => x0 (ix2 R d)) * x1 (ix2 0 d) := by
  unfold k0_pay1 InFBlock.inv
  pointwise

/-- The product, entry by entry. -/
theorem pay2_apply (v : Vec Ideal S1024x1024 .bf16) (w : Vec Ideal S1024x1408 .bf16) (R : Fin 1024) (l : Fin 1408) :
    k0_pay2 v w (ix2 R l) = ∑ d : Fin 1024, v (ix2 R d) * w (ix2 d l) := by
  unfold k0_pay2
  pointwise

end Cert.InBBlock

end
-- ==== Proof.InBWts.lean ====
/-
  The weights of the in-projection's second call, column by column: slices of the given weights laid side by side, the
  queries' scaled.
-/
module

public import proofs.«01_k».proof.Proof.InBBlock
public import proofs.«01_k».proof.Proof.Cat
public import Idealize.ShloMosaic.Lib.StableHlo.RunRead

@[expose] public section

set_option maxRecDepth 16384

noncomputable section

namespace Cert.InBWts

open Cert.InBIdeal Cert.InBIdeal.Gen Idealize.ShloMosaic Idealize.ShloMosaic.TcCoe Cert.Cat

/-- The pieces laid side by side and rounded. -/
def laid (x0 : Vec Ideal S1024x512 .f32) (x1 : Vec Ideal S1024x256 .f32) (x2 : Vec Ideal S1024x128 .f32) (x3 : Vec Ideal S1024x128 .f32) (x4 : Vec Ideal S1024x128 .f32) (x5 : Vec Ideal S1024x128 .f32) (x6 : Vec Ideal S1024x128 .f32) : Vec Ideal S1024x1408 .bf16 :=
  truncf (F := Ideal) (s := S1024x1408) .bf16 (concatenate S1024x1408 1 [⟨S1024x512, x0⟩, ⟨S1024x256, x1⟩, ⟨S1024x128, x2⟩, ⟨S1024x128, x3⟩, ⟨S1024x128, x4⟩, ⟨S1024x128, x5⟩, ⟨S1024x128, x6⟩]
    concatenates_S1024x512_S1024x256_S1024x128_S1024x128_S1024x128_S1024x128_S1024x128_S1024x1408_d1) bitsLt_bf16_f32

/-- One eighth, the scale of the queries. -/
def e8 : EReal := Ideal.ofBits .f32 0x3E000000#32

/-- A slice of the weights, scaled. -/
def scaled4 (x : Vec Ideal S1024x8224 .f32) : Vec Ideal S1024x512 .f32 :=
  mulf (F := Ideal) (s := S1024x512) (φ := .f32) (extractStridedSlice S1024x512 ![0, 0] x slices_S1024x8224_S1024x512_0_0)
    (broadcastInDim S1024x512 ![] bcast_S_S1024x512 (constant S_ .f32 0x3E000000#32))

/-- The memory queries' columns scaled. -/
def scaled7 (x : Vec Ideal S1024x8224 .f32) : Vec Ideal S1024x256 .f32 :=
  mulf (F := Ideal) (s := S1024x256) (φ := .f32) (extractStridedSlice S1024x256 ![0, 7712] x slices_S1024x8224_S1024x256_0_7712)
    (broadcastInDim S1024x256 ![] bcast_S_S1024x256 (constant S_ .f32 0x3E000000#32))

/-- A slice of 128 of the weights' columns. -/
def cut (off : ℕ) (h : Shape.Slices S1024x8224 ![0, off] S1024x128) (x : Vec Ideal S1024x8224 .f32) : Vec Ideal S1024x128 .f32 := extractStridedSlice S1024x128 ![0, off] x h

variable (m : (ℓ : Loc nD τ sig) → Buf (Elt Ideal) ℓ) (c : Dev nD)

/-- The given weights. -/
abbrev win : Vec Ideal S1024x8224 .f32 := m (c, (Proc.devRef .tc main_arg2))

/-- The given weights, entry by entry. -/
def w (d : Fin 1024) (k : Fin 8224) : EReal := win m c (ix2 d k)

/-- The weights the kernel takes, entry by entry. -/
def Wt (d : Fin 1024) (L : Fin 1408) : EReal := (V m c main_v14 : Vec Ideal S1024x1408 .bf16) (ix2 d L)

/-- The packed weights are the pieces side by side. -/
theorem Wt_eq : (V m c main_v14 : Vec Ideal S1024x1408 .bf16) = laid (scaled4 (win m c)) (scaled7 (win m c))
    (cut 768 slices_S1024x8224_S1024x128_0_768 (win m c)) (cut 896 slices_S1024x8224_S1024x128_0_896 (win m c)) (cut 1024 slices_S1024x8224_S1024x128_0_1024 (win m c)) (cut 1152 slices_S1024x8224_S1024x128_0_1152 (win m c)) (cut 4000 slices_S1024x8224_S1024x128_0_4000 (win m c)) := by
  unfold V
  unfold_abbrev_sides
  after_reads_simp
  rfl

section

variable (x0 : Vec Ideal S1024x512 .f32) (x1 : Vec Ideal S1024x256 .f32) (x2 : Vec Ideal S1024x128 .f32) (x3 : Vec Ideal S1024x128 .f32) (x4 : Vec Ideal S1024x128 .f32) (x5 : Vec Ideal S1024x128 .f32) (x6 : Vec Ideal S1024x128 .f32)

/-- Piece 0. -/
theorem at0 (d : Fin 1024) (l : Fin 512) : laid x0 x1 x2 x3 x4 x5 x6 (ix2 d ⟨l.val, by omega⟩) = x0 (ix2 d l) :=
  pieceOf (xs := [⟨S1024x512, x0⟩, ⟨S1024x256, x1⟩, ⟨S1024x128, x2⟩, ⟨S1024x128, x3⟩, ⟨S1024x128, x4⟩, ⟨S1024x128, x5⟩, ⟨S1024x128, x6⟩]) (h := concatenates_S1024x512_S1024x256_S1024x128_S1024x128_S1024x128_S1024x128_S1024x128_S1024x1408_d1) [512, 256, 128, 128, 128, 128, 128] rfl 0 (by decide) x0 rfl 0 (by decide) d _ l (Nat.zero_add _)

/-- Piece 1. -/
theorem at1 (d : Fin 1024) (l : Fin 256) : laid x0 x1 x2 x3 x4 x5 x6 (ix2 d ⟨512 + l.val, by omega⟩) = x1 (ix2 d l) :=
  pieceOf (xs := [⟨S1024x512, x0⟩, ⟨S1024x256, x1⟩, ⟨S1024x128, x2⟩, ⟨S1024x128, x3⟩, ⟨S1024x128, x4⟩, ⟨S1024x128, x5⟩, ⟨S1024x128, x6⟩]) (h := concatenates_S1024x512_S1024x256_S1024x128_S1024x128_S1024x128_S1024x128_S1024x128_S1024x1408_d1) [512, 256, 128, 128, 128, 128, 128] rfl 1 (by decide) x1 rfl 512 (by decide) d _ l rfl

/-- Piece 2. -/
theorem at2 (d : Fin 1024) (l : Fin 128) : laid x0 x1 x2 x3 x4 x5 x6 (ix2 d ⟨768 + l.val, by omega⟩) = x2 (ix2 d l) :=
  pieceOf (xs := [⟨S1024x512, x0⟩, ⟨S1024x256, x1⟩, ⟨S1024x128, x2⟩, ⟨S1024x128, x3⟩, ⟨S1024x128, x4⟩, ⟨S1024x128, x5⟩, ⟨S1024x128, x6⟩]) (h := concatenates_S1024x512_S1024x256_S1024x128_S1024x128_S1024x128_S1024x128_S1024x128_S1024x1408_d1) [512, 256, 128, 128, 128, 128, 128] rfl 2 (by decide) x2 rfl 768 (by decide) d _ l rfl

/-- Piece 3. -/
theorem at3 (d : Fin 1024) (l : Fin 128) : laid x0 x1 x2 x3 x4 x5 x6 (ix2 d ⟨896 + l.val, by omega⟩) = x3 (ix2 d l) :=
  pieceOf (xs := [⟨S1024x512, x0⟩, ⟨S1024x256, x1⟩, ⟨S1024x128, x2⟩, ⟨S1024x128, x3⟩, ⟨S1024x128, x4⟩, ⟨S1024x128, x5⟩, ⟨S1024x128, x6⟩]) (h := concatenates_S1024x512_S1024x256_S1024x128_S1024x128_S1024x128_S1024x128_S1024x128_S1024x1408_d1) [512, 256, 128, 128, 128, 128, 128] rfl 3 (by decide) x3 rfl 896 (by decide) d _ l rfl

/-- Piece 4. -/
theorem at4 (d : Fin 1024) (l : Fin 128) : laid x0 x1 x2 x3 x4 x5 x6 (ix2 d ⟨1024 + l.val, by omega⟩) = x4 (ix2 d l) :=
  pieceOf (xs := [⟨S1024x512, x0⟩, ⟨S1024x256, x1⟩, ⟨S1024x128, x2⟩, ⟨S1024x128, x3⟩, ⟨S1024x128, x4⟩, ⟨S1024x128, x5⟩, ⟨S1024x128, x6⟩]) (h := concatenates_S1024x512_S1024x256_S1024x128_S1024x128_S1024x128_S1024x128_S1024x128_S1024x1408_d1) [512, 256, 128, 128, 128, 128, 128] rfl 4 (by decide) x4 rfl 1024 (by decide) d _ l rfl

/-- Piece 5. -/
theorem at5 (d : Fin 1024) (l : Fin 128) : laid x0 x1 x2 x3 x4 x5 x6 (ix2 d ⟨1152 + l.val, by omega⟩) = x5 (ix2 d l) :=
  pieceOf (xs := [⟨S1024x512, x0⟩, ⟨S1024x256, x1⟩, ⟨S1024x128, x2⟩, ⟨S1024x128, x3⟩, ⟨S1024x128, x4⟩, ⟨S1024x128, x5⟩, ⟨S1024x128, x6⟩]) (h := concatenates_S1024x512_S1024x256_S1024x128_S1024x128_S1024x128_S1024x128_S1024x128_S1024x1408_d1) [512, 256, 128, 128, 128, 128, 128] rfl 5 (by decide) x5 rfl 1152 (by decide) d _ l rfl

/-- Piece 6. -/
theorem at6 (d : Fin 1024) (l : Fin 128) : laid x0 x1 x2 x3 x4 x5 x6 (ix2 d ⟨1280 + l.val, by omega⟩) = x6 (ix2 d l) :=
  pieceOf (xs := [⟨S1024x512, x0⟩, ⟨S1024x256, x1⟩, ⟨S1024x128, x2⟩, ⟨S1024x128, x3⟩, ⟨S1024x128, x4⟩, ⟨S1024x128, x5⟩, ⟨S1024x128, x6⟩]) (h := concatenates_S1024x512_S1024x256_S1024x128_S1024x128_S1024x128_S1024x128_S1024x128_S1024x1408_d1) [512, 256, 128, 128, 128, 128, 128] rfl 6 (by decide) x6 rfl 1280 (by decide) d _ l rfl

end

/-- Columns 0 to 511. -/
theorem W0 (d : Fin 1024) (l : Fin 512) : Wt m c d ⟨l.val, by omega⟩ = w m c d ⟨0 + l.val, by omega⟩ * e8 := by
  unfold Wt w
  rw [Wt_eq]
  refine (at0 _ _ _ _ _ _ _ d l).trans ?_
  unfold e8 scaled4
  pointwise

/-- Columns 512 to 767. -/
theorem W1 (d : Fin 1024) (l : Fin 256) : Wt m c d ⟨512 + l.val, by omega⟩ = w m c d ⟨7712 + l.val, by omega⟩ * e8 := by
  unfold Wt w
  rw [Wt_eq]
  refine (at1 _ _ _ _ _ _ _ d l).trans ?_
  unfold e8 scaled7
  pointwise

/-- Columns 768 to 895. -/
theorem W2 (d : Fin 1024) (l : Fin 128) : Wt m c d ⟨768 + l.val, by omega⟩ = w m c d ⟨768 + l.val, by omega⟩ := by
  unfold Wt w
  rw [Wt_eq]
  refine (at2 _ _ _ _ _ _ _ d l).trans ?_
  unfold cut
  pointwise

/-- Columns 896 to 1023. -/
theorem W3 (d : Fin 1024) (l : Fin 128) : Wt m c d ⟨896 + l.val, by omega⟩ = w m c d ⟨896 + l.val, by omega⟩ := by
  unfold Wt w
  rw [Wt_eq]
  refine (at3 _ _ _ _ _ _ _ d l).trans ?_
  unfold cut
  pointwise

/-- Columns 1024 to 1151. -/
theorem W4 (d : Fin 1024) (l : Fin 128) : Wt m c d ⟨1024 + l.val, by omega⟩ = w m c d ⟨1024 + l.val, by omega⟩ := by
  unfold Wt w
  rw [Wt_eq]
  refine (at4 _ _ _ _ _ _ _ d l).trans ?_
  unfold cut
  pointwise

/-- Columns 1152 to 1279. -/
theorem W5 (d : Fin 1024) (l : Fin 128) : Wt m c d ⟨1152 + l.val, by omega⟩ = w m c d ⟨1152 + l.val, by omega⟩ := by
  unfold Wt w
  rw [Wt_eq]
  refine (at5 _ _ _ _ _ _ _ d l).trans ?_
  unfold cut
  pointwise

/-- Columns 1280 to 1407. -/
theorem W6 (d : Fin 1024) (l : Fin 128) : Wt m c d ⟨1280 + l.val, by omega⟩ = w m c d ⟨4000 + l.val, by omega⟩ := by
  unfold Wt w
  rw [Wt_eq]
  refine (at6 _ _ _ _ _ _ _ d l).trans ?_
  unfold cut
  pointwise

end Cert.InBWts

end
-- ==== Proof.InBArray.lean ====
/-
  The array the in-projection's second call leaves, index by index.
-/
module

public import proofs.«01_k».proof.Proof.InBWts

@[expose] public section

set_option maxRecDepth 16384

noncomputable section

namespace Cert.InBArray

open Cert.InBIdeal Cert.InBIdeal.Gen Idealize.ShloMosaic Idealize.ShloMosaic.TcCoe Cert.InBWts Cert.InBBlock

variable (m : (ℓ : Loc nD τ sig) → Buf (Elt Ideal) ℓ) (c : Dev nD)

/-- The inputs, entry by entry. -/
def x (a : Fin 16384) (d : Fin 1024) : EReal := (m ((c : Thread nD τ).loc main_arg0) : Vec Ideal S1x16384x1024 .f32) (ix3 0 a d)

/-- The norm's weights. -/
def nm (d : Fin 1024) : EReal := (m ((c : Thread nD τ).loc main_arg1) : Vec Ideal S1024 .f32) (ix1 d)

/-- The normalized rows. -/
def hh (a : Fin 16384) (d : Fin 1024) : EReal := x m c a d * InFBlock.inv (x m c a) * nm m c d

/-- The inputs as the kernel takes them. -/
theorem V0 (a : Fin 16384) (d : Fin 1024) : (V m c main_v0 : Vec Ideal S16384x1024 .f32) (ix2 a d) = x m c a d := by
  unfold V x
  unfold_abbrev_sides
  after_reads_simp
  pointwise

/-- The norm's weights as the kernel takes them. -/
theorem V1 (d : Fin 1024) : (V m c main_v1 : Vec Ideal S1x1024 .f32) (ix2 0 d) = nm m c d := by
  unfold V nm
  unfold_abbrev_sides
  after_reads_simp
  pointwise

/-- A grid point's row block and column block. -/
def rb (t : Fin cfg0.N) : Fin 16 := grid0.coords t 0
/-- A step's block of columns. -/
def cb (t : Fin cfg0.N) : Fin 1 := grid0.coords t 1

/-- Where each window's block lies. -/
theorem where_ : ∀ t : Fin cfg0.N,
    (win0_0.index t 0 = (rb t).val ∧ win0_0.index t 1 = 0) ∧ (win0_1.index t 0 = 0 ∧ win0_1.index t 1 = 0)
    ∧ (win0_2.index t 0 = 0 ∧ win0_2.index t 1 = (cb t).val)
    ∧ (win0_3.index t 0 = (rb t).val ∧ win0_3.index t 1 = (cb t).val) := by
  decide +kernel

/-- Row `R` and column `l` of a block, in the array. -/
def row (t : Fin cfg0.N) (R : Fin 1024) : Fin 16384 := ⟨1024 * (rb t).val + R.val, by omega⟩
/-- A lane of a step, among the columns. -/
def cl (t : Fin cfg0.N) (l : Fin 1408) : Fin 1408 := ⟨1408 * (cb t).val + l.val, by omega⟩

/-- The step's rows. -/
theorem read0 (t : Fin cfg0.N) (R : Fin 1024) (d : Fin 1024) : iblk m c 0 t (ix2 R d) = x m c (row t R) d := by
  have e : (win0_0.blk t).view.emb (ix2 R d) = ix2 (row t R) d := by
    refine Shape.idx_ext₂ ?_ ?_
    · blk_simp [(where_ t).1.1]; show _ = 1024 * _ + _; omega
    · blk_simp [(where_ t).1.2]
  rw [← V0]
  unfold iblk
  show (V m c main_v0 : Vec Ideal S16384x1024 .f32) ((win0_0.blk t).view.emb (ix2 R d)) = _
  rw [e]

/-- The norm's weights. -/
theorem read1 (t : Fin cfg0.N) (d : Fin 1024) : iblk m c 1 t (ix2 0 d) = nm m c d := by
  have e : (win0_1.blk t).view.emb (ix2 0 d) = ix2 0 d := by
    refine Shape.idx_ext₂ ?_ ?_
    · blk_simp [(where_ t).2.1.1]
    · blk_simp [(where_ t).2.1.2]
  rw [← V1]
  unfold iblk
  show (V m c main_v1 : Vec Ideal S1x1024 .f32) ((win0_1.blk t).view.emb (ix2 0 d)) = _
  rw [e]

/-- The step's weights. -/
theorem read2 (t : Fin cfg0.N) (d : Fin 1024) (l : Fin 1408) : iblk m c 2 t (ix2 d l) = Wt m c d (cl t l) := by
  have e : (win0_2.blk t).view.emb (ix2 d l) = ix2 d (cl t l) := by
    refine Shape.idx_ext₂ ?_ ?_
    · blk_simp [(where_ t).2.2.1.1]
    · blk_simp [(where_ t).2.2.1.2]; show _ = 1408 * _ + _; omega
  unfold iblk Wt
  show (V m c main_v14 : Vec Ideal S1024x1408 .bf16) ((win0_2.blk t).view.emb (ix2 d l)) = _
  rw [e]

/-- The normalized rows a point finds or makes. -/
theorem rows (t : Fin cfg0.N) (R d : Fin 1024) : k0_pay1 (iblk m c 0 t) (iblk m c 1 t) (ix2 R d) = hh m c (row t R) d := by
  rw [pay1_apply, read0, read1]
  unfold hh
  exact congrArg (fun f => _ * InFBlock.inv f * _) (funext fun d => read0 m c t R d)

/-- What a point writes: its rows times the weights. -/
theorem block (t : Fin cfg0.N) (R : Fin 1024) (l : Fin 1408) :
    outsAt0 m c t (ix2 R l) = ∑ d, hh m c (row t R) d * Wt m c d (cl t l) := by
  unfold outsAt0
  rw [outA, pay2_apply]
  exact Finset.sum_congr rfl fun d _ => congrArg₂ (· * ·) (rows m c t R d) (read2 m c t d l)

/-- The array the kernel leaves. -/
def arr : Vec Ideal S16384x1408 .bf16 := fun y => ∑ d, hh m c (y 0) d * Wt m c d (y 1)

/-- Where an entry of the result block lies. -/
theorem emb3 (t : Fin cfg0.N) (y : S1024x1408.Idx) : (win0_3.blk t).view.emb y = ix2 (row t (y 0)) (cl t (y 1)) := by
  refine Shape.idx_ext₂ ?_ ?_
  · blk_simp [(where_ t).2.2.2.1]; show _ = 1024 * _ + _; omega
  · blk_simp [(where_ t).2.2.2.2]; show _ = 1408 * _ + _; omega

/-- THE PROJECTIONS. -/
theorem arr3 : (dats m 0 c).arrAt 3 cfg0.N = arr m c := by
  refine (dats m 0 c).arrAt_eq_of_covers 3 _ (by decide +kernel) fun t hf y => ?_
  blk_simp
  rw [after0_3]
  refine Eq.trans ?_ (congrArg (arr m c) (emb3 t y)).symm
  obtain ⟨R, l, rfl⟩ : ∃ (R : Fin 1024) (l : Fin 1408), y = ix2 R l := ⟨y 0, y 1, eq_ix2 y⟩
  exact block m c t R l

end Cert.InBArray

end
-- ==== Proof.InBRef.lean ====
/-
  What the reference of the in-projection's second call computes, index by index.
-/
module

public import proofs.«01_k».proof.Proof.InFBlock
public import proofs.«01_k».proof.Proof.Cat
public import proofs.«01_k».proof.Proof.Gen.InBRefIdeal.Read
public import Idealize.ShloMosaic.Lib.Pointwise

@[expose] public section

set_option maxRecDepth 16384

noncomputable section

namespace Cert.InBRef

open Cert.InBRefIdeal Cert.InBRefIdeal.Gen Cert.InBRefIdeal.Read Idealize.ShloMosaic Cert.Cat Cert.InFBlock

variable (x0 : Vec Ideal S1x16384x1024 .f32) (x1 : Vec Ideal S1024 .f32) (x2 : Vec Ideal S1024x8224 .f32)

/-- The normalized rows. -/
def rows (a : Fin 16384) (d : Fin 1024) : EReal := x0 (ix3 0 a d) * inv (fun d => x0 (ix3 0 a d)) * x1 (ix1 d)

/-- The projections, column by column of the given weights. -/
def proj (a : Fin 16384) (k : Fin 8224) : EReal := ∑ d, rows x0 x1 a d * x2 (ix2 d k)

/-- One eighth, the scale of the queries. -/
def e8 : EReal := Ideal.ofBits .f32 0x3E000000#32

/-- The mean square of a row. -/
theorem sq_apply (a : Fin 16384) : val_main_v1 (F := Ideal) x0 (ix2 0 a) = ∑ d, x0 (ix3 0 a d) * x0 (ix3 0 a d) := by
  unfold val_main_v1 val_main_v0 val_main_cst
  pointwise

/-- The normalized rows, entry by entry. -/
theorem rows_apply (a : Fin 16384) (d : Fin 1024) : val_main_v12 (F := Ideal) x0 x1 (ix3 0 a d) = rows x0 x1 a d := by
  have e8' : idx_main_v8 (ix3 (0 : Fin 1) a d) = ix3 (0 : Fin 1) a (0 : Fin 1) := funext fun b => by fin_cases b <;> rfl
  have e2' : idx_main_v2 (ix3 (0 : Fin 1) a (0 : Fin 1)) = ix2 (0 : Fin 1) a := funext fun b => by fin_cases b <;> rfl
  have e11' : idx_main_v10 (idx_main_v11 (ix3 (0 : Fin 1) a d)) = ix1 d := funext fun b => by fin_cases b <;> rfl
  rw [val_main_v12_apply, val_main_v9_apply, val_main_v8_apply, val_main_v7_apply, val_main_v6_apply, val_main_v4_apply, val_main_v2_apply,
    e8', e2', sq_apply, val_main_v11_apply, val_main_v10_apply, e11']
  rfl

/-- The projections, entry by entry. -/
theorem proj_apply (a : Fin 16384) (k : Fin 8224) : val_main_v14 (F := Ideal) x0 x1 x2 (ix2 a k) = proj x0 x1 x2 a k := by
  have ei : idx_main_v14 (ix2 a k) = ix3 (0 : Fin 1) a k := funext fun b => by
    fin_cases b
    · rfl
    · exact Fin.ext (by show _ = a.val; dsimp; omega)
    · exact Fin.ext (by show _ = k.val; dsimp; omega)
  rw [val_main_v14_apply, ei, val_main_v13_apply]
  refine Finset.sum_congr rfl fun d _ => congrArg₂ (· * ·) ?_ ?_
  · have el : lidx_main_v13 (ix3 (0 : Fin 1) a k) d = ix3 (0 : Fin 1) a d := funext fun b => by fin_cases b <;> rfl
    rw [el, rows_apply]
  · exact congrArg x2 (funext fun b => by fin_cases b <;> rfl)

/-- Piece 31. -/
theorem p31 (a : Fin 16384) (l : Fin 512) : val_main_v31 (F := Ideal) x0 x1 x2 (ix2 a l) = proj x0 x1 x2 a ⟨0 + l.val, by omega⟩ * e8 := by
  have e : idx_main_v15 (ix2 a l) = ix2 a (⟨0 + l.val, by omega⟩ : Fin 8224) := by
    refine Shape.idx_ext₂ rfl ?_
    show _ = 0 + l.val
    dsimp
    try omega
  rw [val_main_v31_apply, val_main_v15_apply, e, proj_apply]
  rfl

/-- Piece 33. -/
theorem p33 (a : Fin 16384) (l : Fin 256) : val_main_v33 (F := Ideal) x0 x1 x2 (ix2 a l) = proj x0 x1 x2 a ⟨7712 + l.val, by omega⟩ * e8 := by
  have e : idx_main_v28 (ix2 a l) = ix2 a (⟨7712 + l.val, by omega⟩ : Fin 8224) := by
    refine Shape.idx_ext₂ rfl ?_
    show _ = 7712 + l.val
    dsimp
    try omega
  rw [val_main_v33_apply, val_main_v28_apply, e, proj_apply]
  rfl

/-- Piece 34. -/
theorem p34 (a : Fin 16384) (l : Fin 512) : val_main_v34 (F := Ideal) x0 x1 x2 (ix2 a l) = proj x0 x1 x2 a ⟨768 + l.val, by omega⟩ := by
  have e : idx_main_v16 (idx_main_v34 (ix2 a l)) = ix2 a (⟨768 + l.val, by omega⟩ : Fin 8224) := by
    refine Shape.idx_ext₂ rfl ?_
    show _ = 768 + l.val
    dsimp
    try omega
  rw [val_main_v34_apply, val_main_v16_apply, e, proj_apply]

/-- Piece 35. -/
theorem p35 (a : Fin 16384) (l : Fin 128) : val_main_v35 (F := Ideal) x0 x1 x2 (ix2 a l) = proj x0 x1 x2 a ⟨4000 + l.val, by omega⟩ := by
  have e : idx_main_v23 (idx_main_v35 (ix2 a l)) = ix2 a (⟨4000 + l.val, by omega⟩ : Fin 8224) := by
    refine Shape.idx_ext₂ rfl ?_
    show _ = 4000 + l.val
    dsimp
    try omega
  rw [val_main_v35_apply, val_main_v23_apply, e, proj_apply]

/-- Columns 0 to 511 of the result. -/
theorem at0 (a : Fin 16384) (l : Fin 512) : val_main_v37 (F := Ideal) x0 x1 x2 (ix2 a ⟨l.val, by omega⟩) = proj x0 x1 x2 a ⟨0 + l.val, by omega⟩ * e8 :=
  (pieceOf (xs := [⟨S16384x512, val_main_v31 (F := Ideal) x0 x1 x2⟩, ⟨S16384x256, val_main_v33 (F := Ideal) x0 x1 x2⟩, ⟨S16384x512, val_main_v34 (F := Ideal) x0 x1 x2⟩, ⟨S16384x128, val_main_v35 (F := Ideal) x0 x1 x2⟩])
    (h := concatenates_S16384x512_S16384x256_S16384x512_S16384x128_S16384x1408_d1)
    [512, 256, 512, 128] rfl 0 (by decide) (val_main_v31 (F := Ideal) x0 x1 x2) rfl 0 (by decide) a _ l (Nat.zero_add _)).trans (p31 x0 x1 x2 a l)

/-- Columns 512 to 767 of the result. -/
theorem at1 (a : Fin 16384) (l : Fin 256) : val_main_v37 (F := Ideal) x0 x1 x2 (ix2 a ⟨512 + l.val, by omega⟩) = proj x0 x1 x2 a ⟨7712 + l.val, by omega⟩ * e8 :=
  (pieceOf (xs := [⟨S16384x512, val_main_v31 (F := Ideal) x0 x1 x2⟩, ⟨S16384x256, val_main_v33 (F := Ideal) x0 x1 x2⟩, ⟨S16384x512, val_main_v34 (F := Ideal) x0 x1 x2⟩, ⟨S16384x128, val_main_v35 (F := Ideal) x0 x1 x2⟩])
    (h := concatenates_S16384x512_S16384x256_S16384x512_S16384x128_S16384x1408_d1)
    [512, 256, 512, 128] rfl 1 (by decide) (val_main_v33 (F := Ideal) x0 x1 x2) rfl 512 (by decide) a _ l rfl).trans (p33 x0 x1 x2 a l)

/-- Columns 768 to 1279 of the result. -/
theorem at2 (a : Fin 16384) (l : Fin 512) : val_main_v37 (F := Ideal) x0 x1 x2 (ix2 a ⟨768 + l.val, by omega⟩) = proj x0 x1 x2 a ⟨768 + l.val, by omega⟩ :=
  (pieceOf (xs := [⟨S16384x512, val_main_v31 (F := Ideal) x0 x1 x2⟩, ⟨S16384x256, val_main_v33 (F := Ideal) x0 x1 x2⟩, ⟨S16384x512, val_main_v34 (F := Ideal) x0 x1 x2⟩, ⟨S16384x128, val_main_v35 (F := Ideal) x0 x1 x2⟩])
    (h := concatenates_S16384x512_S16384x256_S16384x512_S16384x128_S16384x1408_d1)
    [512, 256, 512, 128] rfl 2 (by decide) (val_main_v34 (F := Ideal) x0 x1 x2) rfl 768 (by decide) a _ l rfl).trans (p34 x0 x1 x2 a l)

/-- Columns 1280 to 1407 of the result. -/
theorem at3 (a : Fin 16384) (l : Fin 128) : val_main_v37 (F := Ideal) x0 x1 x2 (ix2 a ⟨1280 + l.val, by omega⟩) = proj x0 x1 x2 a ⟨4000 + l.val, by omega⟩ :=
  (pieceOf (xs := [⟨S16384x512, val_main_v31 (F := Ideal) x0 x1 x2⟩, ⟨S16384x256, val_main_v33 (F := Ideal) x0 x1 x2⟩, ⟨S16384x512, val_main_v34 (F := Ideal) x0 x1 x2⟩, ⟨S16384x128, val_main_v35 (F := Ideal) x0 x1 x2⟩])
    (h := concatenates_S16384x512_S16384x256_S16384x512_S16384x128_S16384x1408_d1)
    [512, 256, 512, 128] rfl 3 (by decide) (val_main_v35 (F := Ideal) x0 x1 x2) rfl 1280 (by decide) a _ l rfl).trans (p35 x0 x1 x2 a l)

end Cert.InBRef

end
-- ==== Proof.InBEq.lean ====
/-
  The array of the in-projection's second call is its reference's.
-/
module

public import proofs.«01_k».proof.Proof.InBArray
public import proofs.«01_k».proof.Proof.InBRef
public import proofs.«01_k».proof.Proof.BandRef

@[expose] public section

set_option maxRecDepth 16384

noncomputable section

namespace Cert.InBEq

open Cert.InBIdeal Cert.InBIdeal.Gen Idealize.ShloMosaic Idealize.ShloMosaic.TcCoe Cert.InBArray Cert.InBWts

variable (m : (ℓ : Loc nD τ sig) → Buf (Elt Ideal) ℓ) (c : Dev nD)

/-- The reference's projections of the kernel's arguments. -/
abbrev pr (a : Fin 16384) (k : Fin 8224) : EReal :=
  InBRef.proj (m ((c : Thread nD τ).loc main_arg0)) (m ((c : Thread nD τ).loc main_arg1)) (m ((c : Thread nD τ).loc main_arg2)) a k

/-- The reference's result of the kernel's arguments. -/
abbrev ref : Vec Ideal S16384x1408 .bf16 :=
  InBRefIdeal.Read.val_main_v37 (F := Ideal) (m ((c : Thread nD τ).loc main_arg0)) (m ((c : Thread nD τ).loc main_arg1)) (m ((c : Thread nD τ).loc main_arg2))

/-- A column of the weights given. -/
theorem plain (a : Fin 16384) (L : Fin 1408) (k : Fin 8224) (h : ∀ d, Wt m c d L = w m c d k) :
    ∑ d, hh m c a d * Wt m c d L = pr m c a k :=
  Finset.sum_congr rfl fun d _ => by rw [h]; rfl

/-- A column scaled by one eighth: the scale goes through the sum. -/
theorem scaled (a : Fin 16384) (L : Fin 1408) (k : Fin 8224) (h : ∀ d, Wt m c d L = w m c d k * e8) :
    ∑ d, hh m c a d * Wt m c d L = pr m c a k * InBRef.e8 := by
  have e : InBRef.e8 = ((1 / 8 : ℝ) : EReal) := BandRef.eighth
  have e' : e8 = ((1 / 8 : ℝ) : EReal) := BandRef.eighth
  rw [e]
  unfold pr InBRef.proj
  rw [Soft.sum_mul_real _ _ _ (by norm_num)]
  refine Finset.sum_congr rfl fun d _ => ?_
  rw [h, e', ← mul_assoc]
  rfl

/-- Columns 0 to 511. -/
theorem c0 (a : Fin 16384) (l : Fin 512) : arr m c (ix2 a ⟨l.val, by omega⟩) = ref m c (ix2 a ⟨l.val, by omega⟩) := by
  have hr := InBRef.at0 (m ((c : Thread nD τ).loc main_arg0)) (m ((c : Thread nD τ).loc main_arg1)) (m ((c : Thread nD τ).loc main_arg2)) a l
  refine (scaled m c a _ _ fun d => W0 m c d l).trans (Eq.trans ?_ (hr.symm.trans ?_))
  · rfl
  · rfl

/-- Columns 512 to 767. -/
theorem c1 (a : Fin 16384) (l : Fin 256) : arr m c (ix2 a ⟨512 + l.val, by omega⟩) = ref m c (ix2 a ⟨512 + l.val, by omega⟩) := by
  have hr := InBRef.at1 (m ((c : Thread nD τ).loc main_arg0)) (m ((c : Thread nD τ).loc main_arg1)) (m ((c : Thread nD τ).loc main_arg2)) a l
  refine (scaled m c a _ _ fun d => W1 m c d l).trans (Eq.trans ?_ (hr.symm.trans ?_))
  · rfl
  · rfl

/-- Columns 768 to 895. -/
theorem c2 (a : Fin 16384) (l : Fin 128) : arr m c (ix2 a ⟨768 + l.val, by omega⟩) = ref m c (ix2 a ⟨768 + l.val, by omega⟩) := by
  have hr := InBRef.at2 (m ((c : Thread nD τ).loc main_arg0)) (m ((c : Thread nD τ).loc main_arg1)) (m ((c : Thread nD τ).loc main_arg2)) a ⟨l.val, by omega⟩
  refine (plain m c a _ _ fun d => W2 m c d l).trans (Eq.trans ?_ (hr.symm.trans ?_))
  · rfl
  · rfl

/-- Columns 896 to 1023. -/
theorem c3 (a : Fin 16384) (l : Fin 128) : arr m c (ix2 a ⟨896 + l.val, by omega⟩) = ref m c (ix2 a ⟨896 + l.val, by omega⟩) := by
  have hr := InBRef.at2 (m ((c : Thread nD τ).loc main_arg0)) (m ((c : Thread nD τ).loc main_arg1)) (m ((c : Thread nD τ).loc main_arg2)) a ⟨128 + l.val, by omega⟩
  refine (plain m c a _ _ fun d => W3 m c d l).trans (Eq.trans ?_ (hr.symm.trans ?_))
  · refine congrArg (pr m c a) (Fin.ext ?_)
    dsimp only
    omega
  · refine congrArg (fun L => ref m c (ix2 a L)) (Fin.ext ?_)
    dsimp only
    omega

/-- Columns 1024 to 1151. -/
theorem c4 (a : Fin 16384) (l : Fin 128) : arr m c (ix2 a ⟨1024 + l.val, by omega⟩) = ref m c (ix2 a ⟨1024 + l.val, by omega⟩) := by
  have hr := InBRef.at2 (m ((c : Thread nD τ).loc main_arg0)) (m ((c : Thread nD τ).loc main_arg1)) (m ((c : Thread nD τ).loc main_arg2)) a ⟨256 + l.val, by omega⟩
  refine (plain m c a _ _ fun d => W4 m c d l).trans (Eq.trans ?_ (hr.symm.trans ?_))
  · refine congrArg (pr m c a) (Fin.ext ?_)
    dsimp only
    omega
  · refine congrArg (fun L => ref m c (ix2 a L)) (Fin.ext ?_)
    dsimp only
    omega

/-- Columns 1152 to 1279. -/
theorem c5 (a : Fin 16384) (l : Fin 128) : arr m c (ix2 a ⟨1152 + l.val, by omega⟩) = ref m c (ix2 a ⟨1152 + l.val, by omega⟩) := by
  have hr := InBRef.at2 (m ((c : Thread nD τ).loc main_arg0)) (m ((c : Thread nD τ).loc main_arg1)) (m ((c : Thread nD τ).loc main_arg2)) a ⟨384 + l.val, by omega⟩
  refine (plain m c a _ _ fun d => W5 m c d l).trans (Eq.trans ?_ (hr.symm.trans ?_))
  · refine congrArg (pr m c a) (Fin.ext ?_)
    dsimp only
    omega
  · refine congrArg (fun L => ref m c (ix2 a L)) (Fin.ext ?_)
    dsimp only
    omega

/-- Columns 1280 to 1407. -/
theorem c6 (a : Fin 16384) (l : Fin 128) : arr m c (ix2 a ⟨1280 + l.val, by omega⟩) = ref m c (ix2 a ⟨1280 + l.val, by omega⟩) := by
  have hr := InBRef.at3 (m ((c : Thread nD τ).loc main_arg0)) (m ((c : Thread nD τ).loc main_arg1)) (m ((c : Thread nD τ).loc main_arg2)) a l
  refine (plain m c a _ _ fun d => W6 m c d l).trans (Eq.trans ?_ (hr.symm.trans ?_))
  · rfl
  · rfl

/-- Every column. -/
theorem cols (a : Fin 16384) (L : Fin 1408) : arr m c (ix2 a L) = ref m c (ix2 a L) := by
  by_cases h0 : L.val < 512
  · have e : L = ⟨(⟨L.val, by omega⟩ : Fin 512).val, by dsimp only; omega⟩ := rfl
    rw [e]
    exact c0 m c a _
  by_cases h1 : L.val < 768
  · have e : L = ⟨512 + (⟨L.val - 512, by omega⟩ : Fin 256).val, by dsimp only; omega⟩ := Fin.ext (by dsimp only; omega)
    rw [e]
    exact c1 m c a _
  by_cases h2 : L.val < 896
  · have e : L = ⟨768 + (⟨L.val - 768, by omega⟩ : Fin 128).val, by dsimp only; omega⟩ := Fin.ext (by dsimp only; omega)
    rw [e]
    exact c2 m c a _
  by_cases h3 : L.val < 1024
  · have e : L = ⟨896 + (⟨L.val - 896, by omega⟩ : Fin 128).val, by dsimp only; omega⟩ := Fin.ext (by dsimp only; omega)
    rw [e]
    exact c3 m c a _
  by_cases h4 : L.val < 1152
  · have e : L = ⟨1024 + (⟨L.val - 1024, by omega⟩ : Fin 128).val, by dsimp only; omega⟩ := Fin.ext (by dsimp only; omega)
    rw [e]
    exact c4 m c a _
  by_cases h5 : L.val < 1280
  · have e : L = ⟨1152 + (⟨L.val - 1152, by omega⟩ : Fin 128).val, by dsimp only; omega⟩ := Fin.ext (by dsimp only; omega)
    rw [e]
    exact c5 m c a _
  have e : L = ⟨1280 + (⟨L.val - 1280, by omega⟩ : Fin 128).val, by dsimp only; omega⟩ := Fin.ext (by dsimp only; omega)
  rw [e]
  exact c6 m c a _

/-- THE KERNEL'S ARRAY IS THE REFERENCE'S. -/
theorem arr_eq : arr m c = ref m c := by
  funext y
  rw [eq_ix2 y]
  exact cols m c (y 0) (y 1)

end Cert.InBEq

end
-- ==== Proof.OutBlock.lean ====
/-
  What one point of the out-projection computes: it merges three attentions by their log-sum-exps, gates the mixers'
  outputs, multiplies the row of all of them by the weights in five pieces, normalizes, and adds the layer's input.
-/
module

public import proofs.«01_k».proof.Proof.InFBlock
public import proofs.«01_k».proof.Proof.Gen.OutIdeal.Value
public import Idealize.ShloMosaic.Lib.Pipeline.ValueKit.Geometry
public import Idealize.ShloMosaic.Lib.Pointwise
public import Idealize.ShloMosaic.Lib.VecWindow

@[expose] public section

set_option maxRecDepth 16384

noncomputable section

namespace Cert.OutBlock

open Cert.OutIdeal Cert.OutIdeal.Gen Idealize.ShloMosaic Idealize.ShloMosaic.TcCoe

/-- A whole buffer read back is what was put there. -/
theorem whole {s : Shape} {e : EltTy} {a : Memref sig .tc .vmem s e} (h : a.IsWhole) {off : Fin s.rank → ℕ} (inb : ∀ b, off b + s.size b ≤ s.size b)
    (x : Vec Ideal s e) : View.readAt (Elt Ideal) a.view (Rect.unit off s.size inb).toLoadRect (h.unread x) = x := by
  rw [View.readAt_full]
  exact h.read_unread x

/-- Rows of the weights. -/
def rowsOf (o n : ℕ) (h : o + n ≤ 2304) (x : Vec Ideal S2304x1024 .bf16) : Vec Ideal ⟨2, ![n, 1024]⟩ .bf16 :=
  fun y => x (ix2 ⟨o + (y 0).val, by have := (y 0).isLt; change (y 0).val < n at this; omega⟩ (y 1))

/-- Some rows of a buffer read back are those rows of what was put there. -/
theorem rows_read {a : Memref sig .tc .vmem S2304x1024 .bf16} (ha : a.IsWhole) (o n : ℕ) (h : o + n ≤ 2304)
    (inb : ∀ b, (![o, 0] : Fin 2 → ℕ) b + (![n, 1024] : Fin 2 → ℕ) b ≤ S2304x1024.size b)
    (x : Vec Ideal S2304x1024 .bf16) :
    View.readAt (Elt Ideal) a.view (Rect.unit (s := S2304x1024) ![o, 0] ![n, 1024] inb).toLoadRect (ha.unread x) = rowsOf o n h x := by
  funext y
  refine (congrFun (ha.read_unread x) ((Rect.unit (s := S2304x1024) ![o, 0] ![n, 1024] inb).emb y)).trans ?_
  unfold rowsOf
  refine congrArg x (Shape.idx_ext₂ ?_ ?_)
  · show o + 1 * (y 0).val = o + (y 0).val
    omega
  · show 0 + 1 * (y 1).val = (y 1).val
    omega

/-- What a point writes, from its blocks. -/
def made (x0 : Vec Ideal S512x1024 .f32) (x1 : Vec Ideal S512x512 .f32) (x2 : Vec Ideal S512x512 .f32) (x3 : Vec Ideal S512x512 .f32) (x4 : Vec Ideal S512x512 .f32) (x5 : Vec Ideal S512x512 .f32) (x6 : Vec Ideal S512x512 .f32) (x7 : Vec Ideal S512x512 .f32) (x8 : Vec Ideal S512x512 .f32) (x9 : Vec Ideal S512x512 .f32) (x10 : Vec Ideal S512x512 .f32) (x11 : Vec Ideal S512x512 .f32) (x12 : Vec Ideal S512x512 .f32) (x13 : Vec Ideal S512x256 .f32) (x14 : Vec Ideal S512x256 .f32) (x15 : Vec Ideal S2304x1024 .bf16) (x16 : Vec Ideal S1x1024 .f32) : Vec Ideal S512x1024 .f32 :=
  k0_pay1 (k0_pay4 x13 x14)
    (k0_pay5 (k0_pay3 x1 x2) x3 x4 x5 (rowsOf 0 512 (by decide) x15) (rowsOf 512 512 (by decide) x15) (rowsOf 1024 512 (by decide) x15))
    (k0_pay6 (k0_pay2 x9 x10 x11 x6 x7 x8) x12 (rowsOf 1536 512 (by decide) x15)) (rowsOf 2048 256 (by decide) x15) x16 x0

/-- A point writes that. -/
theorem outA (c : Dev nD) (i : grid0.Coords) (a1 : Memref sig .tc .vmem S512x1024 .f32) (h1 : a1.IsWhole) (a2 : Memref sig .tc .vmem S512x512 .f32) (h2 : a2.IsWhole) (a3 : Memref sig .tc .vmem S512x512 .f32) (h3 : a3.IsWhole) (a4 : Memref sig .tc .vmem S512x512 .f32) (h4 : a4.IsWhole) (a5 : Memref sig .tc .vmem S512x512 .f32) (h5 : a5.IsWhole) (a6 : Memref sig .tc .vmem S512x512 .f32) (h6 : a6.IsWhole) (a7 : Memref sig .tc .vmem S512x512 .f32) (h7 : a7.IsWhole) (a8 : Memref sig .tc .vmem S512x512 .f32) (h8 : a8.IsWhole) (a9 : Memref sig .tc .vmem S512x512 .f32) (h9 : a9.IsWhole) (a10 : Memref sig .tc .vmem S512x512 .f32) (h10 : a10.IsWhole) (a11 : Memref sig .tc .vmem S512x512 .f32) (h11 : a11.IsWhole) (a12 : Memref sig .tc .vmem S512x512 .f32) (h12 : a12.IsWhole) (a13 : Memref sig .tc .vmem S512x512 .f32) (h13 : a13.IsWhole) (a14 : Memref sig .tc .vmem S512x256 .f32) (h14 : a14.IsWhole) (a15 : Memref sig .tc .vmem S512x256 .f32) (h15 : a15.IsWhole) (a16 : Memref sig .tc .vmem S2304x1024 .bf16) (h16 : a16.IsWhole) (a17 : Memref sig .tc .vmem S1x1024 .f32) (h17 : a17.IsWhole) (a18 : Memref sig .tc .vmem S512x1024 .f32) (h18 : a18.IsWhole)
    (x0 : Vec Ideal S512x1024 .f32) (x1 : Vec Ideal S512x512 .f32) (x2 : Vec Ideal S512x512 .f32) (x3 : Vec Ideal S512x512 .f32) (x4 : Vec Ideal S512x512 .f32) (x5 : Vec Ideal S512x512 .f32) (x6 : Vec Ideal S512x512 .f32) (x7 : Vec Ideal S512x512 .f32) (x8 : Vec Ideal S512x512 .f32) (x9 : Vec Ideal S512x512 .f32) (x10 : Vec Ideal S512x512 .f32) (x11 : Vec Ideal S512x512 .f32) (x12 : Vec Ideal S512x512 .f32) (x13 : Vec Ideal S512x256 .f32) (x14 : Vec Ideal S512x256 .f32) (x15 : Vec Ideal S2304x1024 .bf16) (x16 : Vec Ideal S1x1024 .f32) :
    out0_A_17 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13 x14 x15 x16 = made x0 x1 x2 x3 x4 x5 x6 x7 x8 x9 x10 x11 x12 x13 x14 x15 x16 := by
  unfold out0_A_17 kernelRun0_A made
  dsimp only
  refine (View.read_writes_full _ _ _ _ _).trans ?_
  unfold kernelRun0_A.sl.r_3 kernelRun0_A.sl.r_4 kernelRun0_A.sl.r_5
  unfold kernelRun0_A.sl.r kernelRun0_A.sl.r_1 kernelRun0_A.sl.r_2
  rw [whole h1 _ x0, whole h2 _ x1, whole h3 _ x2, whole h4 _ x3, whole h5 _ x4, whole h6 _ x5, whole h7 _ x6, whole h8 _ x7, whole h9 _ x8,
    whole h10 _ x9, whole h11 _ x10, whole h12 _ x11, whole h13 _ x12, whole h14 _ x13, whole h15 _ x14, whole h17 _ x16]
  refine congrFun (congrFun (congr (congr (congrArg (k0_pay1 _) ?_) ?_) ?_) _) _
  · exact congr (congr (congrArg (k0_pay5 _ _ _ _) (rows_read h16 0 512 _ _ x15)) (rows_read h16 512 512 _ _ x15)) (rows_read h16 1024 512 _ _ x15)
  · exact congrArg (k0_pay6 _ _) (rows_read h16 1536 512 _ _ x15)
  · exact rows_read h16 2048 256 _ _ x15

/-- A number times its logistic. -/
def silu (x : EReal) : EReal := x * Ideal.logistic x

/-- Three numbers merged by their weights. -/
def merged (l0 l1 l2 d0 d1 d2 : EReal) : EReal :=
  Ideal.exp (l0 - max (max l0 l1) l2) * Ideal.div (Ideal.ofBits .f32 0x3F800000#32)
      (Ideal.exp (l0 - max (max l0 l1) l2) + Ideal.exp (l1 - max (max l0 l1) l2) + Ideal.exp (l2 - max (max l0 l1) l2)) * d0
    + Ideal.exp (l1 - max (max l0 l1) l2) * Ideal.div (Ideal.ofBits .f32 0x3F800000#32)
      (Ideal.exp (l0 - max (max l0 l1) l2) + Ideal.exp (l1 - max (max l0 l1) l2) + Ideal.exp (l2 - max (max l0 l1) l2)) * d1
    + Ideal.exp (l2 - max (max l0 l1) l2) * Ideal.div (Ideal.ofBits .f32 0x3F800000#32)
      (Ideal.exp (l0 - max (max l0 l1) l2) + Ideal.exp (l1 - max (max l0 l1) l2) + Ideal.exp (l2 - max (max l0 l1) l2)) * d2

/-- The merge, entry by entry. -/
theorem pay2_apply (l0 l1 l2 d0 d1 d2 : Vec Ideal S512x512 .f32) (R l : Fin 512) :
    k0_pay2 l0 l1 l2 d0 d1 d2 (ix2 R l)
      = merged (l0 (ix2 R l)) (l1 (ix2 R l)) (l2 (ix2 R l)) (d0 (ix2 R l)) (d1 (ix2 R l)) (d2 (ix2 R l)) := by
  unfold k0_pay2 merged
  pointwise

/-- A gated output, entry by entry. -/
theorem pay3_apply (x z : Vec Ideal S512x512 .f32) (R l : Fin 512) : k0_pay3 x z (ix2 R l) = x (ix2 R l) * silu (z (ix2 R l)) := by
  unfold k0_pay3 silu
  pointwise

/-- The same for the memory's attention. -/
theorem pay4_apply (x z : Vec Ideal S512x256 .f32) (R : Fin 512) (l : Fin 256) : k0_pay4 x z (ix2 R l) = x (ix2 R l) * silu (z (ix2 R l)) := by
  unfold k0_pay4 silu
  pointwise

/-- The first three pieces' products, entry by entry. -/
theorem pay5_apply (a b x z : Vec Ideal S512x512 .f32) (w0 w1 w2 : Vec Ideal S512x1024 .bf16) (R : Fin 512) (l : Fin 1024) :
    k0_pay5 a b x z w0 w1 w2 (ix2 R l) = (∑ k : Fin 512, a (ix2 R k) * w0 (ix2 k l)) + (∑ k : Fin 512, b (ix2 R k) * w1 (ix2 k l))
      + ∑ k : Fin 512, x (ix2 R k) * silu (z (ix2 R k)) * w2 (ix2 k l) := by
  unfold k0_pay5 silu
  pointwise

/-- The fourth. -/
theorem pay6_apply (d z : Vec Ideal S512x512 .f32) (w : Vec Ideal S512x1024 .bf16) (R : Fin 512) (l : Fin 1024) :
    k0_pay6 d z w (ix2 R l) = ∑ k : Fin 512, d (ix2 R k) * silu (z (ix2 R k)) * w (ix2 k l) := by
  unfold k0_pay6 silu
  pointwise

/-- The whole, entry by entry. -/
theorem pay1_apply (p : FVec Ideal S512x256 .f32) (y y' : FVec Ideal S512x1024 .f32) (w : Vec Ideal S256x1024 .bf16) (nw : Vec Ideal S1x1024 .f32)
    (x : Vec Ideal S512x1024 .f32) (R : Fin 512) (l : Fin 1024) (f : Fin 1024 → EReal)
    (hf : ∀ d, y (ix2 R d) + y' (ix2 R d) + (∑ k : Fin 256, p (ix2 R k) * w (ix2 k d)) = f d) :
    k0_pay1 p y y' w nw x (ix2 R l) = x (ix2 R l) + f l * InFBlock.inv f * nw (ix2 0 l) := by
  obtain rfl : (fun d => y (ix2 R d) + y' (ix2 R d) + (∑ k : Fin 256, p (ix2 R k) * w (ix2 k d))) = f := funext hf
  unfold k0_pay1 InFBlock.inv
  pointwise

end Cert.OutBlock

end
-- ==== Proof.OutSpec.lean ====
/-
  What one row of the out-projection is: the mixers' outputs, gated, times the weights, normalized, and added to the
  layer's input.
-/
module

public import proofs.«01_k».proof.Proof.OutBlock
public import proofs.«01_k».proof.Proof.Cat

@[expose] public section

noncomputable section

namespace Cert.OutSpec

open Idealize.ShloMosaic Cert.OutBlock

/-- One row of everything the out-projection takes. -/
structure Row where
  /-- the layer's input -/
  x : Fin 1024 → EReal
  /-- the first mixer's output and its gate -/
  a : Fin 512 → EReal
  az : Fin 512 → EReal
  /-- the second's, gated already -/
  b : Fin 512 → EReal
  /-- the third's and its gate -/
  cc : Fin 512 → EReal
  cz : Fin 512 → EReal
  /-- the fourth's three attentions, their log-sum-exps and its gate -/
  d0 : Fin 512 → EReal
  d1 : Fin 512 → EReal
  d2 : Fin 512 → EReal
  l0 : Fin 8 → EReal
  l1 : Fin 8 → EReal
  l2 : Fin 8 → EReal
  dz : Fin 512 → EReal
  /-- the memory's output and its gate -/
  m : Fin 256 → EReal
  mz : Fin 256 → EReal

/-- The head a lane lies in. -/
def hd (k : Fin 512) : Fin 8 := ⟨k.val / 64, by omega⟩

/-- The lane a lane is taken from when the heads are put in the kernel's order. -/
def pm (k : Fin 512) : Fin 512 := ⟨64 * (Cat.perm (hd k)).val + k.val % 64, by have := (Cat.perm (hd k)).isLt; omega⟩

/-- Every lane is taken once. -/
theorem pm_bij : Function.Bijective pm := by
  refine (Fintype.bijective_iff_injective_and_card pm).2 ⟨fun k k' h => Fin.ext ?_, rfl⟩
  have e : 64 * (4 * (k.val / 64 % 2) + k.val / 64 / 2) + k.val % 64 = 64 * (4 * (k'.val / 64 % 2) + k'.val / 64 / 2) + k'.val % 64 :=
    congrArg Fin.val h
  have e1 : 4 * (k.val / 64 % 2) + k.val / 64 / 2 = 4 * (k'.val / 64 % 2) + k'.val / 64 / 2 := by omega
  have e2 : k.val % 64 = k'.val % 64 := by omega
  have b : k.val / 64 < 8 := by omega
  have b' : k'.val / 64 < 8 := by omega
  have e3 : k.val / 64 = k'.val / 64 := by omega
  omega

/-- The row of all the gated outputs times the weights. -/
def y (r : Row) (w : Fin 2304 → Fin 1024 → EReal) (d : Fin 1024) : EReal :=
  (∑ k : Fin 512, r.a k * silu (r.az k) * w ⟨k.val, by omega⟩ d) + (∑ k : Fin 512, r.b k * w ⟨512 + k.val, by omega⟩ d)
    + (∑ k : Fin 512, r.cc k * silu (r.cz k) * w ⟨1024 + k.val, by omega⟩ d)
    + (∑ k : Fin 512, merged (r.l0 (hd k)) (r.l1 (hd k)) (r.l2 (hd k)) (r.d0 k) (r.d1 k) (r.d2 k) * silu (r.dz k) * w ⟨1536 + k.val, by omega⟩ d)
    + ∑ k : Fin 256, r.m k * silu (r.mz k) * w ⟨2048 + k.val, by omega⟩ d

/-- The result's row. -/
def out (r : Row) (w : Fin 2304 → Fin 1024 → EReal) (nw : Fin 1024 → EReal) (l : Fin 1024) : EReal :=
  r.x l + y r w l * InFBlock.inv (y r w) * nw l

end Cert.OutSpec

end
-- ==== Proof.Put.lean ====
/-
  Rows written into an array at a place named by a word, read entry by entry; and whole slabs taken along the first of
  three coordinates.
-/
module

public import proofs.«01_k».proof.Proof.Cat

@[expose] public section

noncomputable section

namespace Cert.Put

open Idealize.ShloMosaic

section fold
variable {α : Type} {s si u : Shape} {w : ℕ} (d : ScatterDims s si u) (idx : IVec si w) (upd : u.Idx → α)

/-- One update written. -/
def step (r : s.Idx → α) (n : Fin u.numel) : s.Idx → α :=
  match d.resultIdx? (u.rowMajor.symm n) idx with
  | some i => fun i' => if i' = i then upd (u.rowMajor.symm n) else r i'
  | none => r

/-- A step that writes elsewhere leaves the entry. -/
theorem step_miss (r : s.Idx → α) (n : Fin u.numel) (i : s.Idx) (h : d.resultIdx? (u.rowMajor.symm n) idx ≠ some i) : step d idx upd r n i = r i := by
  unfold step
  cases hk : d.resultIdx? (u.rowMajor.symm n) idx with
  | some k => exact if_neg fun e => h (hk.trans (congrArg some e.symm))
  | none => rfl

/-- A step that writes the entry. -/
theorem step_hit (r : s.Idx → α) (n : Fin u.numel) (i : s.Idx) (h : d.resultIdx? (u.rowMajor.symm n) idx = some i) :
    step d idx upd r n i = upd (u.rowMajor.symm n) := by
  unfold step
  rw [h]
  exact if_pos rfl

/-- Steps that all write elsewhere leave the entry. -/
theorem fold_miss (L : List (Fin u.numel)) (x : s.Idx → α) (i : s.Idx) (h : ∀ n ∈ L, d.resultIdx? (u.rowMajor.symm n) idx ≠ some i) :
    L.foldl (step d idx upd) x i = x i := by
  induction L generalizing x with
  | nil => rfl
  | cons n L ih =>
    rw [List.foldl_cons, ih _ fun k hk => h k (List.mem_cons_of_mem _ hk)]
    exact step_miss d idx upd x n i (h n List.mem_cons_self)

/-- The one step that writes the entry decides it. -/
theorem fold_hit (L : List (Fin u.numel)) (x : s.Idx → α) (i : s.Idx) (n : Fin u.numel) (hn : n ∈ L) (h : d.resultIdx? (u.rowMajor.symm n) idx = some i)
    (hu : ∀ k, d.resultIdx? (u.rowMajor.symm k) idx = some i → k = n) : L.foldl (step d idx upd) x i = upd (u.rowMajor.symm n) := by
  induction L generalizing x with
  | nil => exact absurd hn List.not_mem_nil
  | cons k L ih =>
    rw [List.foldl_cons]
    by_cases hm : n ∈ L
    · exact ih _ hm
    · obtain rfl : n = k := (List.mem_cons.1 hn).resolve_right hm
      rw [fold_miss d idx upd L _ i fun k hk e => hm (hu k e ▸ hk)]
      exact step_hit d idx upd x n i h

/-- An entry no update lands on stays. -/
theorem miss (x : s.Idx → α) (i : s.Idx) (h : ∀ j, d.resultIdx? j idx ≠ some i) : Host.scatter d (fun _ b => b) x idx upd i = x i :=
  fold_miss d idx upd _ x i fun _ _ => h _

/-- An entry one update lands on holds it. -/
theorem hit (x : s.Idx → α) (i : s.Idx) (j : u.Idx) (h : d.resultIdx? j idx = some i) (hu : ∀ k, d.resultIdx? k idx = some i → k = j) :
    Host.scatter d (fun _ b => b) x idx upd i = upd j := by
  have e := fold_hit d idx upd (List.finRange u.numel) x i (u.rowMajor j) (List.mem_finRange _) (by rw [Equiv.symm_apply_apply]; exact h)
    fun k hk => by rw [← hu _ hk, Equiv.apply_symm_apply]
  rw [Equiv.symm_apply_apply] at e
  exact e
end fold

/-- Rows written from a named one on. -/
abbrev rowDims (A n W : ℕ) (wf : ScatterDims.WF ⟨2, ![A, W]⟩ ⟨1, ![1]⟩ ⟨2, ![n, W]⟩ [0, 1] [] [0] 0) :
    ScatterDims ⟨2, ![A, W]⟩ ⟨1, ![1]⟩ ⟨2, ![n, W]⟩ where
  updateWindowDims := [0, 1]
  insertedWindowDims := []
  scatterDimsToOperandDims := [0]
  indexVectorDim := 0
  wf := wf

variable {α : Type} {A n W : ℕ} (wf : ScatterDims.WF ⟨2, ![A, W]⟩ ⟨1, ![1]⟩ ⟨2, ![n, W]⟩ [0, 1] [] [0] 0) (idx : IVec ⟨1, ![1]⟩ 32)
  (o : ℕ) (ho : (idx (ix1 0)).toInt = o) (hA : o + n ≤ A)

include ho hA

/-- Where an update's entry lands. -/
theorem lands (r : Fin n) (l : Fin W) : (rowDims A n W wf).resultIdx? (ix2 r l) idx = some (ix2 ⟨o + r.val, by omega⟩ l) := by
  have s0 : (rowDims A n W wf).start (ix2 r l) idx (0 : Fin 2) = o := by
    refine (dif_pos (List.mem_singleton.2 rfl)).trans ?_
    rw [← ho]
    refine congrArg (fun i => (idx i).toInt) ?_
    funext b
    fin_cases b
    exact Subsingleton.elim (α := Fin 1) _ _
  have s1 : (rowDims A n W wf).start (ix2 r l) idx (1 : Fin 2) = 0 := dif_neg fun h => absurd (List.mem_singleton.1 h) (Fin.ne_of_val_ne (by norm_num))
  have w0 : (rowDims A n W wf).window (ix2 r l) (0 : Fin 2) = r.val := dif_pos (by show (0 : Fin 2) ∈ [0, 1]; decide)
  have w1 : (rowDims A n W wf).window (ix2 r l) (1 : Fin 2) = l.val := dif_pos (by show (1 : Fin 2) ∈ [0, 1]; decide)
  have hr := r.isLt
  have hl := l.isLt
  have ok : ∀ a : Fin 2, 0 ≤ (rowDims A n W wf).start (ix2 r l) idx a + (rowDims A n W wf).window (ix2 r l) a
      ∧ (rowDims A n W wf).start (ix2 r l) idx a + (rowDims A n W wf).window (ix2 r l) a < (![A, W] : Fin 2 → ℕ) a := by
    intro a
    fin_cases a
    · show 0 ≤ (rowDims A n W wf).start (ix2 r l) idx (0 : Fin 2) + (rowDims A n W wf).window (ix2 r l) (0 : Fin 2)
        ∧ (rowDims A n W wf).start (ix2 r l) idx (0 : Fin 2) + (rowDims A n W wf).window (ix2 r l) (0 : Fin 2) < (A : ℤ)
      rw [s0, w0]
      omega
    · show 0 ≤ (rowDims A n W wf).start (ix2 r l) idx (1 : Fin 2) + (rowDims A n W wf).window (ix2 r l) (1 : Fin 2)
        ∧ (rowDims A n W wf).start (ix2 r l) idx (1 : Fin 2) + (rowDims A n W wf).window (ix2 r l) (1 : Fin 2) < (W : ℤ)
      rw [s1, w1]
      omega
  refine (dif_pos ok).trans (congrArg some ?_)
  refine Shape.idx_ext₂ ?_ ?_
  · show ((rowDims A n W wf).start (ix2 r l) idx (0 : Fin 2) + (rowDims A n W wf).window (ix2 r l) (0 : Fin 2)).toNat = o + r.val
    rw [s0, w0]
    omega
  · show ((rowDims A n W wf).start (ix2 r l) idx (1 : Fin 2) + (rowDims A n W wf).window (ix2 r l) (1 : Fin 2)).toNat = l.val
    rw [s1, w1]
    omega

/-- The rows written. -/
theorem put_in (x : (⟨2, ![A, W]⟩ : Shape).Idx → α) (upd : (⟨2, ![n, W]⟩ : Shape).Idx → α) (r : Fin n) (l : Fin W) (a : Fin A) (e : o + r.val = a.val) :
    Host.scatter (rowDims A n W wf) (fun _ b => b) x idx upd (ix2 a l) = upd (ix2 r l) := by
  have ea : (⟨o + r.val, by omega⟩ : Fin A) = a := Fin.ext e
  rw [← ea]
  refine hit _ _ _ _ _ _ (lands wf idx o ho hA r l) fun k hk => ?_
  obtain ⟨r', l', rfl⟩ : ∃ (r' : Fin n) (l' : Fin W), k = ix2 r' l' := ⟨k 0, k 1, eq_ix2 k⟩
  rw [lands wf idx o ho hA] at hk
  have h := Option.some.inj hk
  have h0 : o + r'.val = o + r.val := congrArg (fun i : (⟨2, ![A, W]⟩ : Shape).Idx => (i 0).val) h
  have h1 : l'.val = l.val := congrArg (fun i : (⟨2, ![A, W]⟩ : Shape).Idx => (i 1).val) h
  exact congrArg₂ ix2 (Fin.ext (by omega)) (Fin.ext h1)

/-- The rows left as they were. -/
theorem put_out (x : (⟨2, ![A, W]⟩ : Shape).Idx → α) (upd : (⟨2, ![n, W]⟩ : Shape).Idx → α) (a : Fin A) (l : Fin W) (e : a.val < o ∨ o + n ≤ a.val) :
    Host.scatter (rowDims A n W wf) (fun _ b => b) x idx upd (ix2 a l) = x (ix2 a l) := by
  refine miss _ _ _ _ _ fun k hk => ?_
  obtain ⟨r', l', rfl⟩ : ∃ (r' : Fin n) (l' : Fin W), k = ix2 r' l' := ⟨k 0, k 1, eq_ix2 k⟩
  rw [lands wf idx o ho hA] at hk
  have h0 : o + r'.val = a.val := congrArg (fun i : (⟨2, ![A, W]⟩ : Shape).Idx => (i 0).val) (Option.some.inj hk)
  have := r'.isLt
  omega

end Cert.Put

namespace Cert.Put

open Idealize.ShloMosaic

/-- Taking whole slabs along the first of three coordinates. -/
abbrev firstDims (H E D : ℕ) (wf : GatherDims.WF ⟨3, ![H, E, D]⟩ ⟨2, ![H, 1]⟩ ⟨3, ![H, E, D]⟩ [1, 2] [0] [] [0] [] 1 ![1, E, D]) :
    GatherDims ⟨3, ![H, E, D]⟩ ⟨2, ![H, 1]⟩ ⟨3, ![H, E, D]⟩ where
  offsetDims := [1, 2]
  collapsedSliceDims := [0]
  operandBatchingDims := []
  startIndicesBatchingDims := []
  startIndexMap := [0]
  indexVectorDim := 1
  sliceSizes := ![1, E, D]
  wf := wf

/-- The coordinates kept are all but the first. -/
theorem mem_kept (H E D : ℕ) (wf) (a : Fin 3) : a ∈ (firstDims H E D wf).sKept ↔ a ≠ 0 := by
  rw [GatherDims.mem_sKept]
  show a ∉ [(0 : Fin 3)] ∧ a ∉ ([] : List (Fin 3)) ↔ a ≠ 0
  simp

/-- Slab `h` is the one named by word `h`. -/
theorem gather_first {α : Type} {H E D : ℕ} (wf : GatherDims.WF ⟨3, ![H, E, D]⟩ ⟨2, ![H, 1]⟩ ⟨3, ![H, E, D]⟩ [1, 2] [0] [] [0] [] 1 ![1, E, D])
    (x : (⟨3, ![H, E, D]⟩ : Shape).Idx → α) (idx : IVec ⟨2, ![H, 1]⟩ 32) (h p : Fin H) (e : Fin E) (d : Fin D)
    (hp : (idx (ix2 h 0)).toInt.toNat = p.val) : Host.gather (firstDims H E D wf) x idx (ix3 h e d) = x (ix3 p e d) := by
  have st : ∀ a : Fin 3, a ≠ 0 → (firstDims H E D wf).start (ix3 h e d) idx a = 0 := fun a ha => dif_neg fun hm => ha (List.mem_singleton.1 hm)
  have o1 : (firstDims H E D wf).offCoord (ix3 h e d) (1 : Fin 3) = e.val := dif_pos ((mem_kept H E D wf 1).2 (by decide))
  have o0 : (firstDims H E D wf).offCoord (ix3 h e d) (0 : Fin 3) = 0 :=
    GatherDims.offCoord_eq_zero _ _ _ fun hm => (mem_kept H E D wf 0).1 hm rfl
  have o2 : (firstDims H E D wf).offCoord (ix3 h e d) (2 : Fin 3) = d.val := dif_pos ((mem_kept H E D wf 2).2 (by decide))
  have e1 : ∀ q, (firstDims H E D wf).siIdx (ix3 h e d) q = ix2 h 0 := by
    intro q
    funext b
    fin_cases b
    · rfl
    · exact Fin.ext (by have := q.isLt; show q.val = 0; change q.val < 1 at this; omega)
  have s0 : (firstDims H E D wf).start (ix3 h e d) idx (0 : Fin 3) = p.val := by
    refine (dif_pos (List.mem_singleton.2 rfl)).trans ?_
    rw [e1, hp]
    show min p.val (H - 1) = p.val
    omega
  have hb : ∀ a, (firstDims H E D wf).batchCoord (ix3 h e d) a = 0 := fun _ => GatherDims.batchCoord_eq_zero _ _ _ List.not_mem_nil
  unfold Host.gather
  congr 1
  funext a
  apply Fin.ext
  fin_cases a
  · show (firstDims H E D wf).start (ix3 h e d) idx (0 : Fin 3) + (firstDims H E D wf).batchCoord (ix3 h e d) (0 : Fin 3)
      + (firstDims H E D wf).offCoord (ix3 h e d) (0 : Fin 3) = p.val
    rw [hb, o0, s0]; omega
  · show (firstDims H E D wf).start (ix3 h e d) idx (1 : Fin 3) + (firstDims H E D wf).batchCoord (ix3 h e d) (1 : Fin 3)
      + (firstDims H E D wf).offCoord (ix3 h e d) (1 : Fin 3) = e.val
    rw [hb, o1, st 1 (by decide)]; omega
  · show (firstDims H E D wf).start (ix3 h e d) idx (2 : Fin 3) + (firstDims H E D wf).batchCoord (ix3 h e d) (2 : Fin 3)
      + (firstDims H E D wf).offCoord (ix3 h e d) (2 : Fin 3) = d.val
    rw [hb, o2, st 2 (by decide)]; omega

end Cert.Put

end
-- ==== Proof.OutHost.lean ====
/-
  The out-projection's inputs as its kernel takes them, entry by entry: arrays with their heads laid side by side, some
  with the heads in another order, the gates laid side by side in one array, and the log-sum-exps repeated over the lanes
  of their heads.
-/
module

public import proofs.«01_k».proof.Proof.OutSpec
public import proofs.«01_k».proof.Proof.Put
public import Idealize.ShloMosaic.Lib.StableHlo.RunRead

@[expose] public section

set_option maxRecDepth 16384

noncomputable section

namespace Cert.OutHost

open Cert.OutIdeal Cert.OutIdeal.Gen Idealize.ShloMosaic Idealize.ShloMosaic.TcCoe Cert.Cat Cert.OutSpec

/-- The order of the heads, as words. -/
def order : IVec S8 32 := fun i => lit0 (S8.rowMajor i)

/-- The start positions a table of words names: a negative word counts from the end. -/
def start (i : IVec S8 32) : IVec S8x1 32 :=
  broadcastInDim S8x1 ![0] bcast_S8_S8x1_0 (select (cmpi .slt i (broadcastInDim S8 ![] bcast_S_S8 (constantI S_ 32 0#32)))
    (addi i (broadcastInDim S8 ![] bcast_S_S8 (constantI S_ 32 8#32))) i)

/-- Whether a start position is one of the eight. -/
def inside (i : IVec S8 32) : IVec S8 1 :=
  Host.reduce IntOp.andi
    (andi (cmpi .sge (start i) (broadcastInDim S8x1 ![] bcast_S_S8x1 (constantI S_ 32 0#32)))
      (cmpi .sle (start i) (broadcastInDim S8x1 ![0, 1] bcast_S1x1_S8x1_0_1 (broadcastInDim S1x1 ![1] bcast_S1_S1x1_1 (constantI S1 32 7#32)))))
    (constantI S_ 1 1#1) reducesTo_S8x1_S8_d1 h_S_

/-- The eight heads of every row, taken in the order of a table of words. -/
def takeOf (x : FVec Ideal S16384x8x64 .f32) (i : IVec S8 32) : FVec Ideal S16384x8x64 .f32 :=
  select (broadcastInDim S16384x8x64 ![1] bcast_S8_S16384x8x64_1 (inside i))
    (Host.gather gather_S16384x8x64_S8x1_S16384x8x64_02_1_n_n_1_1_16384164 x (start i))
    (broadcastInDim S16384x8x64 ![] bcast_S_S16384x8x64 (constant S_ .f32 0x7FC00000#32))

/-- Eight blocks of rows of the weights, taken in the order of a table of words. -/
def takeRows (x : FVec Ideal S8x64x1024 .f32) (i : IVec S8 32) : FVec Ideal S8x64x1024 .f32 :=
  select (broadcastInDim S8x64x1024 ![0] bcast_S8_S8x64x1024_0 (inside i))
    (Host.gather gather_S8x64x1024_S8x1_S8x64x1024_12_0_n_n_0_1_1641024 x (start i))
    (broadcastInDim S8x64x1024 ![] bcast_S_S8x64x1024 (constant S_ .f32 0x7FC00000#32))

/-- Every word of the order names one of the eight heads. -/
theorem inside_order : ∀ i, inside order i = 1#1 := by decide +kernel

/-- The head the order names. -/
theorem start_order : ∀ h : Fin 8, (start order (ix2 h 0)).toInt.toNat = (perm h).val := by decide +kernel

/-- Head `h` of the result is head `perm h` of the array. -/
theorem takeOf_apply (x : FVec Ideal S16384x8x64 .f32) (d : Fin 16384) (h : Fin 8) (e : Fin 64) :
    takeOf x order (ix3 d h e) = x (ix3 d (perm h) e) := by
  unfold takeOf
  pointwise
  rw [inside_order]
  exact gather_mid gather_S16384x8x64_S8x1_S16384x8x64_02_1_n_n_1_1_16384164_wf x (start order) d h (perm h) e (start_order h)

/-- Block `h` of the result is block `perm h` of the rows. -/
theorem takeRows_apply (x : FVec Ideal S8x64x1024 .f32) (h : Fin 8) (e : Fin 64) (d : Fin 1024) :
    takeRows x order (ix3 h e d) = x (ix3 (perm h) e d) := by
  unfold takeRows
  pointwise
  rw [inside_order]
  exact Put.gather_first gather_S8x64x1024_S8x1_S8x64x1024_12_0_n_n_0_1_1641024_wf x (start order) h (perm h) e d (start_order h)

/-- The first call that reorders heads. -/
theorem call0 (σ : Valuation τ sig (Elt Ideal)) : (StableHlo.after hostOps0_1 σ (Proc.devRef .tc main_v5) : FVec Ideal S16384x8x64 .f32)
    = takeOf (σ (Proc.devRef .tc main_v4)) (σ (Proc.devRef .tc main_c)) := by
  unfold_abbrev_sides
  after_reads_simp
  rfl

/-- The second. -/
theorem call1 (σ : Valuation τ sig (Elt Ideal)) : (StableHlo.after hostOps0_3 σ (Proc.devRef .tc main_v14) : FVec Ideal S8x64x1024 .f32)
    = takeRows (σ (Proc.devRef .tc main_v13)) (σ (Proc.devRef .tc main_c_0)) := by
  unfold_abbrev_sides
  after_reads_simp
  rfl

/-- The third. -/
theorem call2 (σ : Valuation τ sig (Elt Ideal)) : (StableHlo.after hostOps0_5 σ (Proc.devRef .tc main_v23) : FVec Ideal S16384x8x64 .f32)
    = takeOf (σ (Proc.devRef .tc main_v22)) (σ (Proc.devRef .tc main_c_1)) := by
  unfold_abbrev_sides
  after_reads_simp
  rfl

/-- Heads laid side by side. -/
theorem flat (x : Vec Ideal S16384x8x64 .f32) (a : Fin 16384) (k : Fin 512) :
    shapeCast S16384x512 x shapeCasts_S16384x8x64_S16384x512 (ix2 a k) = x (ix3 a (hd k) ⟨k.val % 64, by omega⟩) := by
  unfold hd
  have hl : k.val = 64 * (k.val / 64) + k.val % 64 := by omega
  pointwise

/-- Lanes split into heads. -/
theorem split (x : Vec Ideal S16384x512 .f32) (a : Fin 16384) (h : Fin 8) (e : Fin 64) :
    shapeCast S16384x8x64 x shapeCasts_S16384x512_S16384x8x64 (ix3 a h e) = x (ix2 a ⟨64 * h.val + e.val, by omega⟩) := by
  pointwise
  try refine congrArg x (congrArg (ix2 a) (Fin.ext ?_))
  try dsimp only
  try omega

end Cert.OutHost

end
-- ==== Proof.OutIn.lean ====
/-
  The buffers the out-projection's kernel reads other than the gates and the weights, entry by entry.
-/
module

public import proofs.«01_k».proof.Proof.OutHost

@[expose] public section

set_option maxRecDepth 16384

noncomputable section

namespace Cert.OutIn

open Cert.OutIdeal Cert.OutIdeal.Gen Idealize.ShloMosaic Idealize.ShloMosaic.TcCoe Cert.Cat Cert.OutSpec Cert.OutHost

variable (m : (ℓ : Loc nD τ sig) → Buf (Elt Ideal) ℓ) (c : Dev nD)

/-- The buffers at the start. -/
abbrev σ0 : Valuation τ sig (Elt Ideal) := fun b => m (c, b)

/-- What the buffers hold before the second call that reorders heads, and after it. -/
def st2 (σ : Valuation τ sig (Elt Ideal)) : Valuation τ sig (Elt Ideal) :=
  StableHlo.after hostOps0_2 (StableHlo.after hostOps0_1 (StableHlo.after hostOps0 σ))

/-- What the buffers hold before the third call. -/
def st4 (σ : Valuation τ sig (Elt Ideal)) : Valuation τ sig (Elt Ideal) := StableHlo.after hostOps0_4 (StableHlo.after hostOps0_3 (st2 σ))

/-- What the buffers hold before the last operations. -/
def st5 (σ : Valuation τ sig (Elt Ideal)) : Valuation τ sig (Elt Ideal) := StableHlo.after hostOps0_5 (st4 σ)

/-- What the kernel finds in a buffer. -/
theorem V_eq (b : Ref sig .tc) : V m c b = StableHlo.after hostOps0_6 (st5 (σ0 m c)) (Proc.devRef .tc b) := by
  unfold V st5 st4 st2
  rw [List.flatten_cons, List.flatten_cons, List.flatten_cons, List.flatten_cons, List.flatten_cons, List.flatten_cons, List.flatten_cons,
    List.flatten_nil, List.append_nil]
  simp only [after_app]

/-- One row of everything given. -/
def row (a : Fin 16384) : Row where
  x := fun d => (m ((c : Thread nD τ).loc main_arg0) : Vec Ideal S1x16384x1024 .f32) (ix3 0 a d)
  a := fun k => (m ((c : Thread nD τ).loc main_arg1) : Vec Ideal S1x16384x8x64 .f32) (ix4 0 a (hd k) ⟨k.val % 64, by omega⟩)
  az := fun k => (m ((c : Thread nD τ).loc main_arg2) : Vec Ideal S1x16384x512 .f32) (ix3 0 a k)
  b := fun k => (m ((c : Thread nD τ).loc main_arg3) : Vec Ideal S1x16384x512 .f32) (ix3 0 a k)
  cc := fun k => (m ((c : Thread nD τ).loc main_arg4) : Vec Ideal S1x16384x8x64 .f32) (ix4 0 a (hd k) ⟨k.val % 64, by omega⟩)
  cz := fun k => (m ((c : Thread nD τ).loc main_arg5) : Vec Ideal S1x16384x512 .f32) (ix3 0 a k)
  d0 := fun k => (m ((c : Thread nD τ).loc main_arg6) : Vec Ideal S1x16384x8x64 .f32) (ix4 0 a (hd k) ⟨k.val % 64, by omega⟩)
  d1 := fun k => (m ((c : Thread nD τ).loc main_arg7) : Vec Ideal S1x16384x8x64 .f32) (ix4 0 a (hd k) ⟨k.val % 64, by omega⟩)
  d2 := fun k => (m ((c : Thread nD τ).loc main_arg8) : Vec Ideal S1x16384x8x64 .f32) (ix4 0 a (hd k) ⟨k.val % 64, by omega⟩)
  l0 := fun h => (m ((c : Thread nD τ).loc main_arg9) : Vec Ideal S1x16384x8 .f32) (ix3 0 a h)
  l1 := fun h => (m ((c : Thread nD τ).loc main_arg10) : Vec Ideal S1x16384x8 .f32) (ix3 0 a h)
  l2 := fun h => (m ((c : Thread nD τ).loc main_arg11) : Vec Ideal S1x16384x8 .f32) (ix3 0 a h)
  dz := fun k => (m ((c : Thread nD τ).loc main_arg12) : Vec Ideal S1x16384x512 .f32) (ix3 0 a k)
  m := fun k => (m ((c : Thread nD τ).loc main_arg13) : Vec Ideal S1x16384x4x64 .f32) (ix4 0 a ⟨k.val / 64, by omega⟩ ⟨k.val % 64, by omega⟩)
  mz := fun k => (m ((c : Thread nD τ).loc main_arg14) : Vec Ideal S1x16384x256 .f32) (ix3 0 a k)

/-- The weights given. -/
def w (k : Fin 2304) (d : Fin 1024) : EReal := (m ((c : Thread nD τ).loc main_arg15) : Vec Ideal S2304x1024 .f32) (ix2 k d)

/-- The norm's weights. -/
def nw (d : Fin 1024) : EReal := (m ((c : Thread nD τ).loc main_arg16) : Vec Ideal S1024 .f32) (ix1 d)

/-- The layer's input. -/
theorem v18 (a : Fin 16384) (d : Fin 1024) : (V m c main_v18 : Vec Ideal S16384x1024 .f32) (ix2 a d) = (row m c a).x d := by
  rw [V_eq]
  unfold st5 st4 st2 row
  unfold_abbrev_sides
  after_reads_simp
  pointwise

/-- The first mixer's output. -/
theorem v19 (a : Fin 16384) (k : Fin 512) : (V m c main_v19 : Vec Ideal S16384x512 .f32) (ix2 a k) = (row m c a).a k := by
  rw [V_eq]
  unfold st5 st4 st2 row hd
  unfold_abbrev_sides
  after_reads_simp
  have hl : k.val = 64 * (k.val / 64) + k.val % 64 := by omega
  pointwise

/-- The second's. -/
theorem v20 (a : Fin 16384) (k : Fin 512) : (V m c main_v20 : Vec Ideal S16384x512 .f32) (ix2 a k) = (row m c a).b k := by
  rw [V_eq]
  unfold st5 st4 st2 row
  unfold_abbrev_sides
  after_reads_simp
  pointwise

/-- The fourth's attentions. -/
theorem v25 (a : Fin 16384) (k : Fin 512) : (V m c main_v25 : Vec Ideal S16384x512 .f32) (ix2 a k) = (row m c a).d0 k := by
  rw [V_eq]
  unfold st5 st4 st2 row hd
  unfold_abbrev_sides
  after_reads_simp
  have hl : k.val = 64 * (k.val / 64) + k.val % 64 := by omega
  pointwise

/-- The fourth's attentions. -/
theorem v26 (a : Fin 16384) (k : Fin 512) : (V m c main_v26 : Vec Ideal S16384x512 .f32) (ix2 a k) = (row m c a).d1 k := by
  rw [V_eq]
  unfold st5 st4 st2 row hd
  unfold_abbrev_sides
  after_reads_simp
  have hl : k.val = 64 * (k.val / 64) + k.val % 64 := by omega
  pointwise

/-- The fourth's attentions. -/
theorem v27 (a : Fin 16384) (k : Fin 512) : (V m c main_v27 : Vec Ideal S16384x512 .f32) (ix2 a k) = (row m c a).d2 k := by
  rw [V_eq]
  unfold st5 st4 st2 row hd
  unfold_abbrev_sides
  after_reads_simp
  have hl : k.val = 64 * (k.val / 64) + k.val % 64 := by omega
  pointwise

/-- Their log-sum-exps over the lanes. -/
theorem v30 (a : Fin 16384) (k : Fin 512) : (V m c main_v30 : Vec Ideal S16384x512 .f32) (ix2 a k) = (row m c a).l0 (hd k) := by
  rw [V_eq]
  unfold st5 st4 st2 row hd
  unfold_abbrev_sides
  after_reads_simp
  have hl : k.val = 64 * (k.val / 64) + k.val % 64 := by omega
  pointwise

/-- Their log-sum-exps over the lanes. -/
theorem v33 (a : Fin 16384) (k : Fin 512) : (V m c main_v33 : Vec Ideal S16384x512 .f32) (ix2 a k) = (row m c a).l1 (hd k) := by
  rw [V_eq]
  unfold st5 st4 st2 row hd
  unfold_abbrev_sides
  after_reads_simp
  have hl : k.val = 64 * (k.val / 64) + k.val % 64 := by omega
  pointwise

/-- Their log-sum-exps over the lanes. -/
theorem v36 (a : Fin 16384) (k : Fin 512) : (V m c main_v36 : Vec Ideal S16384x512 .f32) (ix2 a k) = (row m c a).l2 (hd k) := by
  rw [V_eq]
  unfold st5 st4 st2 row hd
  unfold_abbrev_sides
  after_reads_simp
  have hl : k.val = 64 * (k.val / 64) + k.val % 64 := by omega
  pointwise

/-- The memory's output. -/
theorem v37 (a : Fin 16384) (k : Fin 256) : (V m c main_v37 : Vec Ideal S16384x256 .f32) (ix2 a k) = (row m c a).m k := by
  rw [V_eq]
  unfold st5 st4 st2 row
  unfold_abbrev_sides
  after_reads_simp
  have hl : k.val = 64 * (k.val / 64) + k.val % 64 := by omega
  pointwise

/-- The norm's weights. -/
theorem v39 (d : Fin 1024) : (V m c main_v39 : Vec Ideal S1x1024 .f32) (ix2 0 d) = nw m c d := by
  rw [V_eq]
  unfold st5 st4 st2 nw
  unfold_abbrev_sides
  after_reads_simp
  pointwise

/-- The last operations' array of the third mixer's outputs. -/
theorem t_v24 (σ : Valuation τ sig (Elt Ideal)) : (StableHlo.after hostOps0_6 σ (Proc.devRef .tc main_v24) : Vec Ideal S16384x512 .f32)
    = shapeCast S16384x512 (σ (Proc.devRef .tc main_v23) : Vec Ideal S16384x8x64 .f32) shapeCasts_S16384x8x64_S16384x512 := by
  unfold_abbrev_sides
  after_reads_simp
  try rfl

/-- The third mixer's outputs split into heads. -/
def splitC (x : Vec Ideal S1x16384x8x64 .f32) : Vec Ideal S16384x8x64 .f32 :=
  shapeCast S16384x8x64 (shapeCast S16384x512 x shapeCasts_S1x16384x8x64_S16384x512 : Vec Ideal S16384x512 .f32) shapeCasts_S16384x512_S16384x8x64

/-- The array the third call reorders. -/
theorem u_v24 (σ : Valuation τ sig (Elt Ideal)) : (st4 σ (Proc.devRef .tc main_v22) : Vec Ideal S16384x8x64 .f32)
    = splitC (σ (Proc.devRef .tc main_arg4)) := by
  unfold st4 st2
  unfold_abbrev_sides
  after_reads_simp
  try rfl

/-- The order it takes. -/
theorem o_v24 (σ : Valuation τ sig (Elt Ideal)) : (st4 σ (Proc.devRef .tc main_c_1) : IVec S8 32) = order := by
  have e : (st4 σ (Proc.devRef .tc main_c_1) : IVec S8 32) = fun i => lit2 (S8.rowMajor i) := by
    unfold st4 st2
    unfold_abbrev_sides
    after_reads_simp
    try rfl
  rw [e]
  rfl

/-- The third mixer's output, its heads in the kernel's order. -/
theorem v24 (a : Fin 16384) (k : Fin 512) : (V m c main_v24 : Vec Ideal S16384x512 .f32) (ix2 a k) = (row m c a).cc (pm k) := by
  rw [V_eq, t_v24]
  unfold st5
  rw [call2, u_v24, o_v24, flat, takeOf_apply]
  have e1 : hd (pm k) = perm (hd k) := Fin.ext (by show (64 * (perm (hd k)).val + k.val % 64) / 64 = (perm (hd k)).val; omega)
  have e2 : (⟨(pm k).val % 64, by omega⟩ : Fin 64) = ⟨k.val % 64, by omega⟩ := Fin.ext (by show (64 * (perm (hd k)).val + k.val % 64) % 64 = k.val % 64; omega)
  unfold row
  dsimp only
  rw [e1, e2]
  unfold splitC
  pointwise

end Cert.OutIn

end
-- ==== Proof.OutGates.lean ====
/-
  The gates the out-projection's kernel reads: four of them lie in one array, with gaps between them.
-/
module

public import proofs.«01_k».proof.Proof.OutIn

@[expose] public section

set_option maxRecDepth 16384

noncomputable section

namespace Cert.OutGates

open Cert.OutIdeal Cert.OutIdeal.Gen Idealize.ShloMosaic Idealize.ShloMosaic.TcCoe Cert.Cat Cert.OutSpec Cert.OutHost Cert.OutIn

/-- The pieces laid side by side. -/
def laid (x0 : Vec Ideal S16384x1024 .f32) (x1 : Vec Ideal S16384x512 .f32) (x2 : Vec Ideal S16384x512 .f32) (x3 : Vec Ideal S16384x512 .f32) (x4 : Vec Ideal S16384x512 .f32) (x5 : Vec Ideal S16384x3072 .f32) (x6 : Vec Ideal S16384x256 .f32) (x7 : Vec Ideal S16384x640 .f32) : Vec Ideal S16384x7040 .f32 :=
  concatenate S16384x7040 1 [⟨S16384x1024, x0⟩, ⟨S16384x512, x1⟩, ⟨S16384x512, x2⟩, ⟨S16384x512, x3⟩, ⟨S16384x512, x4⟩, ⟨S16384x3072, x5⟩, ⟨S16384x256, x6⟩, ⟨S16384x640, x7⟩] concatenates_S16384x1024_S16384x512_S16384x512_S16384x512_S16384x512_S16384x3072_S16384x256_S16384x640_S16384x7040_d1

variable (x0 : Vec Ideal S16384x1024 .f32) (x1 : Vec Ideal S16384x512 .f32) (x2 : Vec Ideal S16384x512 .f32) (x3 : Vec Ideal S16384x512 .f32) (x4 : Vec Ideal S16384x512 .f32) (x5 : Vec Ideal S16384x3072 .f32) (x6 : Vec Ideal S16384x256 .f32) (x7 : Vec Ideal S16384x640 .f32)

/-- Piece 1. -/
theorem at1 (d : Fin 16384) (l : Fin 512) : laid x0 x1 x2 x3 x4 x5 x6 x7 (ix2 d ⟨1024 + l.val, by omega⟩) = x1 (ix2 d l) :=
  pieceOf (xs := [⟨S16384x1024, x0⟩, ⟨S16384x512, x1⟩, ⟨S16384x512, x2⟩, ⟨S16384x512, x3⟩, ⟨S16384x512, x4⟩, ⟨S16384x3072, x5⟩, ⟨S16384x256, x6⟩, ⟨S16384x640, x7⟩]) (h := concatenates_S16384x1024_S16384x512_S16384x512_S16384x512_S16384x512_S16384x3072_S16384x256_S16384x640_S16384x7040_d1) [1024, 512, 512, 512, 512, 3072, 256, 640] rfl 1 (by decide) x1 rfl 1024 (by decide) d _ l rfl

/-- Piece 3. -/
theorem at3 (d : Fin 16384) (l : Fin 512) : laid x0 x1 x2 x3 x4 x5 x6 x7 (ix2 d ⟨2048 + l.val, by omega⟩) = x3 (ix2 d l) :=
  pieceOf (xs := [⟨S16384x1024, x0⟩, ⟨S16384x512, x1⟩, ⟨S16384x512, x2⟩, ⟨S16384x512, x3⟩, ⟨S16384x512, x4⟩, ⟨S16384x3072, x5⟩, ⟨S16384x256, x6⟩, ⟨S16384x640, x7⟩]) (h := concatenates_S16384x1024_S16384x512_S16384x512_S16384x512_S16384x512_S16384x3072_S16384x256_S16384x640_S16384x7040_d1) [1024, 512, 512, 512, 512, 3072, 256, 640] rfl 3 (by decide) x3 rfl 2048 (by decide) d _ l rfl

/-- Piece 4. -/
theorem at4 (d : Fin 16384) (l : Fin 512) : laid x0 x1 x2 x3 x4 x5 x6 x7 (ix2 d ⟨2560 + l.val, by omega⟩) = x4 (ix2 d l) :=
  pieceOf (xs := [⟨S16384x1024, x0⟩, ⟨S16384x512, x1⟩, ⟨S16384x512, x2⟩, ⟨S16384x512, x3⟩, ⟨S16384x512, x4⟩, ⟨S16384x3072, x5⟩, ⟨S16384x256, x6⟩, ⟨S16384x640, x7⟩]) (h := concatenates_S16384x1024_S16384x512_S16384x512_S16384x512_S16384x512_S16384x3072_S16384x256_S16384x640_S16384x7040_d1) [1024, 512, 512, 512, 512, 3072, 256, 640] rfl 4 (by decide) x4 rfl 2560 (by decide) d _ l rfl

/-- Piece 6. -/
theorem at6 (d : Fin 16384) (l : Fin 256) : laid x0 x1 x2 x3 x4 x5 x6 x7 (ix2 d ⟨6144 + l.val, by omega⟩) = x6 (ix2 d l) :=
  pieceOf (xs := [⟨S16384x1024, x0⟩, ⟨S16384x512, x1⟩, ⟨S16384x512, x2⟩, ⟨S16384x512, x3⟩, ⟨S16384x512, x4⟩, ⟨S16384x3072, x5⟩, ⟨S16384x256, x6⟩, ⟨S16384x640, x7⟩]) (h := concatenates_S16384x1024_S16384x512_S16384x512_S16384x512_S16384x512_S16384x3072_S16384x256_S16384x640_S16384x7040_d1) [1024, 512, 512, 512, 512, 3072, 256, 640] rfl 6 (by decide) x6 rfl 6144 (by decide) d _ l rfl

/-- The array the gates lie in, from the buffers before it is made. -/
theorem last (σ : Valuation τ sig (Elt Ideal)) :
    (StableHlo.after hostOps0_6 (StableHlo.after hostOps0_5 (StableHlo.after hostOps0_4 (StableHlo.after hostOps0_3 (StableHlo.after hostOps0_2 σ)))) (Proc.devRef .tc main_v11) : Vec Ideal S16384x7040 .f32)
    = laid (σ (Proc.devRef .tc main_v0)) (σ (Proc.devRef .tc main_v1)) (σ (Proc.devRef .tc main_v2))
      (shapeCast S16384x512 (σ (Proc.devRef .tc main_v5) : Vec Ideal S16384x8x64 .f32) shapeCasts_S16384x8x64_S16384x512)
      (shapeCast S16384x512 (σ (Proc.devRef .tc main_arg12) : Vec Ideal S1x16384x512 .f32) shapeCasts_S1x16384x512_S16384x512)
      (broadcastInDim S16384x3072 ![] bcast_S_S16384x3072 (constant (F := Ideal) S_ .f32 0x00000000#32))
      (shapeCast S16384x256 (σ (Proc.devRef .tc main_arg14) : Vec Ideal S1x16384x256 .f32) shapeCasts_S1x16384x256_S16384x256)
      (broadcastInDim S16384x640 ![] bcast_S_S16384x640 (constant (F := Ideal) S_ .f32 0x00000000#32)) := by
  unfold_abbrev_sides
  after_reads_simp
  rfl

/-- What the buffers hold after the first call. -/
def st1 (σ : Valuation τ sig (Elt Ideal)) : Valuation τ sig (Elt Ideal) := StableHlo.after hostOps0_1 (StableHlo.after hostOps0 σ)

/-- The first gate's array. -/
theorem u_v1 (σ : Valuation τ sig (Elt Ideal)) : (st1 σ (Proc.devRef .tc main_v1) : Vec Ideal S16384x512 .f32)
    = shapeCast S16384x512 (σ (Proc.devRef .tc main_arg2) : Vec Ideal S1x16384x512 .f32) shapeCasts_S1x16384x512_S16384x512 := by
  unfold st1
  unfold_abbrev_sides
  after_reads_simp
  try rfl

/-- The fourth gate is untouched till then. -/
theorem u_a12 (σ : Valuation τ sig (Elt Ideal)) : (st1 σ (Proc.devRef .tc main_arg12) : Vec Ideal S1x16384x512 .f32) = σ (Proc.devRef .tc main_arg12) := by
  unfold st1
  unfold_abbrev_sides
  after_reads_simp
  try rfl

/-- So is the memory's. -/
theorem u_a14 (σ : Valuation τ sig (Elt Ideal)) : (st1 σ (Proc.devRef .tc main_arg14) : Vec Ideal S1x16384x256 .f32) = σ (Proc.devRef .tc main_arg14) := by
  unfold st1
  unfold_abbrev_sides
  after_reads_simp
  try rfl

/-- The third gate split into heads. -/
def splitG (x : Vec Ideal S1x16384x512 .f32) : Vec Ideal S16384x8x64 .f32 :=
  shapeCast S16384x8x64 (shapeCast S16384x512 x shapeCasts_S1x16384x512_S16384x512 : Vec Ideal S16384x512 .f32) shapeCasts_S16384x512_S16384x8x64

/-- The array the first call reorders. -/
theorem u_v4 (σ : Valuation τ sig (Elt Ideal)) : (StableHlo.after hostOps0 σ (Proc.devRef .tc main_v4) : Vec Ideal S16384x8x64 .f32)
    = splitG (σ (Proc.devRef .tc main_arg5)) := by
  unfold_abbrev_sides
  after_reads_simp
  try rfl

/-- The order it takes. -/
theorem o_v4 (σ : Valuation τ sig (Elt Ideal)) : (StableHlo.after hostOps0 σ (Proc.devRef .tc main_c) : IVec S8 32) = order := by
  unfold_abbrev_sides
  after_reads_simp
  try rfl

/-- The third gate, its heads in the kernel's order. -/
theorem u_v5 (σ : Valuation τ sig (Elt Ideal)) : (st1 σ (Proc.devRef .tc main_v5) : Vec Ideal S16384x8x64 .f32)
    = takeOf (splitG (σ (Proc.devRef .tc main_arg5))) order := by
  unfold st1
  rw [call0, u_v4, o_v4]

variable (m : (ℓ : Loc nD τ sig) → Buf (Elt Ideal) ℓ) (c : Dev nD)

/-- The array of the gates. -/
theorem v11 : (V m c main_v11 : Vec Ideal S16384x7040 .f32) = laid (st1 (σ0 m c) (Proc.devRef .tc main_v0))
      (shapeCast S16384x512 (σ0 m c (Proc.devRef .tc main_arg2) : Vec Ideal S1x16384x512 .f32) shapeCasts_S1x16384x512_S16384x512)
      (st1 (σ0 m c) (Proc.devRef .tc main_v2))
      (shapeCast S16384x512 (takeOf (splitG (σ0 m c (Proc.devRef .tc main_arg5))) order : Vec Ideal S16384x8x64 .f32) shapeCasts_S16384x8x64_S16384x512)
      (shapeCast S16384x512 (σ0 m c (Proc.devRef .tc main_arg12) : Vec Ideal S1x16384x512 .f32) shapeCasts_S1x16384x512_S16384x512)
      (broadcastInDim S16384x3072 ![] bcast_S_S16384x3072 (constant (F := Ideal) S_ .f32 0x00000000#32))
      (shapeCast S16384x256 (σ0 m c (Proc.devRef .tc main_arg14) : Vec Ideal S1x16384x256 .f32) shapeCasts_S1x16384x256_S16384x256)
      (broadcastInDim S16384x640 ![] bcast_S_S16384x640 (constant (F := Ideal) S_ .f32 0x00000000#32)) := by
  rw [V_eq]
  unfold st5 st4 st2
  rw [last]
  have e1 := u_v1 (σ0 m c)
  have e2 := u_v5 (σ0 m c)
  have e3 := u_a12 (σ0 m c)
  have e4 := u_a14 (σ0 m c)
  unfold st1 at e1 e2 e3 e4 ⊢
  rw [e1, e2, e3, e4]

/-- The first gate. -/
theorem az (a : Fin 16384) (k : Fin 512) : (V m c main_v11 : Vec Ideal S16384x7040 .f32) (ix2 a ⟨1024 + k.val, by omega⟩) = (row m c a).az k := by
  rw [v11, at1]
  unfold row
  pointwise

/-- The third, its heads in the kernel's order. -/
theorem cz (a : Fin 16384) (k : Fin 512) : (V m c main_v11 : Vec Ideal S16384x7040 .f32) (ix2 a ⟨2048 + k.val, by omega⟩) = (row m c a).cz (pm k) := by
  rw [v11, at3, flat, takeOf_apply]
  unfold splitG
  rw [split]
  unfold row pm
  pointwise

/-- The fourth. -/
theorem dz (a : Fin 16384) (k : Fin 512) : (V m c main_v11 : Vec Ideal S16384x7040 .f32) (ix2 a ⟨2560 + k.val, by omega⟩) = (row m c a).dz k := by
  rw [v11, at4]
  unfold row
  pointwise

/-- The memory's. -/
theorem mz (a : Fin 16384) (k : Fin 256) : (V m c main_v11 : Vec Ideal S16384x7040 .f32) (ix2 a ⟨6144 + k.val, by omega⟩) = (row m c a).mz k := by
  rw [v11, at6]
  unfold row
  pointwise

end Cert.OutGates

end
-- ==== Proof.OutWts.lean ====
/-
  The weights the out-projection's kernel reads: the rows of the third mixer's heads lie in the kernel's order.
-/
module

public import proofs.«01_k».proof.Proof.OutIn

@[expose] public section

set_option maxRecDepth 16384

noncomputable section

namespace Cert.OutWts

open Cert.OutIdeal Cert.OutIdeal.Gen Idealize.ShloMosaic Idealize.ShloMosaic.TcCoe Cert.Cat Cert.OutSpec Cert.OutHost Cert.OutIn

/-- The weights with the third mixer's rows replaced. -/
def replaced (x : Vec Ideal S2304x1024 .f32) (u : Vec Ideal S8x64x1024 .f32) : Vec Ideal S2304x1024 .f32 :=
  Host.scatter scatter_S2304x1024_S1_S512x1024_01_n_0_0 (fun _ b => b) x
    (broadcastInDim S1 ![] bcast_S_S1 (constantI S_ 32 1024#32) : IVec S1 32) (shapeCast S512x1024 u shapeCasts_S8x64x1024_S512x1024 : Vec Ideal S512x1024 .f32)

/-- The third mixer's rows, split into heads. -/
def rowsC (x : Vec Ideal S2304x1024 .f32) : Vec Ideal S8x64x1024 .f32 :=
  shapeCast S8x64x1024 (extractStridedSlice S512x1024 ![1024, 0] x slices_S2304x1024_S512x1024_1024_0 : Vec Ideal S512x1024 .f32) shapeCasts_S512x1024_S8x64x1024

/-- What the last operations leave. -/
theorem last (σ : Valuation τ sig (Elt Ideal)) :
    (StableHlo.after hostOps0_6 (StableHlo.after hostOps0_5 (StableHlo.after hostOps0_4 σ)) (Proc.devRef .tc main_v38) : Vec Ideal S2304x1024 .bf16)
    = truncf (F := Ideal) (s := S2304x1024) .bf16 (replaced (σ (Proc.devRef .tc main_arg15)) (σ (Proc.devRef .tc main_v14))) bitsLt_bf16_f32 := by
  unfold_abbrev_sides
  after_reads_simp
  rfl

/-- The weights are untouched till then. -/
theorem u_a15 (σ : Valuation τ sig (Elt Ideal)) : (StableHlo.after hostOps0_3 (st2 σ) (Proc.devRef .tc main_arg15) : Vec Ideal S2304x1024 .f32)
    = σ (Proc.devRef .tc main_arg15) := by
  unfold st2
  unfold_abbrev_sides
  after_reads_simp
  try rfl

/-- The rows the second call reorders. -/
theorem u_v13 (σ : Valuation τ sig (Elt Ideal)) : (st2 σ (Proc.devRef .tc main_v13) : Vec Ideal S8x64x1024 .f32) = rowsC (σ (Proc.devRef .tc main_arg15)) := by
  unfold st2
  unfold_abbrev_sides
  after_reads_simp
  try rfl

/-- The order it takes. -/
theorem o_v13 (σ : Valuation τ sig (Elt Ideal)) : (st2 σ (Proc.devRef .tc main_c_0) : IVec S8 32) = order := by
  have e : (st2 σ (Proc.devRef .tc main_c_0) : IVec S8 32) = fun i => lit1 (S8.rowMajor i) := by
    unfold st2
    unfold_abbrev_sides
    after_reads_simp
    try rfl
  rw [e]
  rfl

variable (m : (ℓ : Loc nD τ sig) → Buf (Elt Ideal) ℓ) (c : Dev nD)

/-- The weights the kernel takes. -/
theorem v38 : (V m c main_v38 : Vec Ideal S2304x1024 .bf16) = truncf (F := Ideal) (s := S2304x1024) .bf16
    (replaced (σ0 m c (Proc.devRef .tc main_arg15)) (takeRows (rowsC (σ0 m c (Proc.devRef .tc main_arg15))) order)) bitsLt_bf16_f32 := by
  rw [V_eq]
  unfold st5 st4
  rw [last, u_a15, call1, u_v13, o_v13]

/-- Rounding changes no number here. -/
theorem rounded (x : Vec Ideal S2304x1024 .f32) (y : S2304x1024.Idx) : truncf (F := Ideal) (s := S2304x1024) .bf16 x bitsLt_bf16_f32 y = x y := rfl

/-- The word the rows are written at. -/
theorem at_word : ((broadcastInDim S1 ![] bcast_S_S1 (constantI S_ 32 1024#32) : IVec S1 32) (ix1 0)).toInt = (1024 : ℕ) := by decide +kernel

/-- A row outside the third mixer's. -/
theorem out_row (k : Fin 2304) (d : Fin 1024) (h : k.val < 1024 ∨ 1536 ≤ k.val) :
    (V m c main_v38 : Vec Ideal S2304x1024 .bf16) (ix2 k d) = w m c k d := by
  rw [v38]
  refine (rounded _ _).trans ?_
  unfold replaced
  exact Put.put_out scatter_S2304x1024_S1_S512x1024_01_n_0_0_wf _ 1024 at_word (by decide) _ _ k d h

/-- The third mixer's rows. -/
theorem in_row (k : Fin 512) (d : Fin 1024) :
    (V m c main_v38 : Vec Ideal S2304x1024 .bf16) (ix2 ⟨1024 + k.val, by omega⟩ d) = w m c ⟨1024 + (pm k).val, by omega⟩ d := by
  rw [v38]
  refine (rounded _ _).trans ?_
  unfold replaced
  refine (Put.put_in scatter_S2304x1024_S1_S512x1024_01_n_0_0_wf _ 1024 at_word (by decide) _ _ k d _ rfl).trans ?_
  have hl : k.val = 64 * (k.val / 64) + k.val % 64 := by omega
  have e : ∀ (x : Vec Ideal S8x64x1024 .f32), shapeCast S512x1024 x shapeCasts_S8x64x1024_S512x1024 (ix2 k d)
      = x (ix3 (hd k) ⟨k.val % 64, by omega⟩ d) := by
    intro x
    unfold hd
    pointwise
  rw [e, takeRows_apply]
  unfold rowsC w pm
  pointwise
  refine congrArg (m ((c : Thread nD τ).loc main_arg15) : Vec Ideal S2304x1024 .f32) (congrArg (ix2 · d) (Fin.ext ?_))
  dsimp only
  omega

end Cert.OutWts

end
-- ==== Proof.OutArray.lean ====
/-
  The array the out-projection's call leaves, index by index.
-/
module

public import proofs.«01_k».proof.Proof.OutGates
public import proofs.«01_k».proof.Proof.OutWts

@[expose] public section

set_option maxRecDepth 16384

noncomputable section

namespace Cert.OutArray

open Cert.OutIdeal Cert.OutIdeal.Gen Idealize.ShloMosaic Idealize.ShloMosaic.TcCoe Cert.Cat Cert.OutSpec Cert.OutHost Cert.OutIn Cert.OutBlock

variable (m : (ℓ : Loc nD τ sig) → Buf (Elt Ideal) ℓ) (c : Dev nD)

/-- A grid point's row block. -/
def rb (t : Fin cfg0.N) : Fin 32 := grid0.coords t 0

/-- Where each window's block lies. -/
theorem where_ : ∀ t : Fin cfg0.N,
    (win0_0.index t 0 = (rb t).val ∧ win0_0.index t 1 = 0)
    ∧ (win0_1.index t 0 = (rb t).val ∧ win0_1.index t 1 = 0)
    ∧ (win0_2.index t 0 = (rb t).val ∧ win0_2.index t 1 = 2)
    ∧ (win0_3.index t 0 = (rb t).val ∧ win0_3.index t 1 = 0)
    ∧ (win0_4.index t 0 = (rb t).val ∧ win0_4.index t 1 = 0)
    ∧ (win0_5.index t 0 = (rb t).val ∧ win0_5.index t 1 = 4)
    ∧ (win0_6.index t 0 = (rb t).val ∧ win0_6.index t 1 = 0)
    ∧ (win0_7.index t 0 = (rb t).val ∧ win0_7.index t 1 = 0)
    ∧ (win0_8.index t 0 = (rb t).val ∧ win0_8.index t 1 = 0)
    ∧ (win0_9.index t 0 = (rb t).val ∧ win0_9.index t 1 = 0)
    ∧ (win0_10.index t 0 = (rb t).val ∧ win0_10.index t 1 = 0)
    ∧ (win0_11.index t 0 = (rb t).val ∧ win0_11.index t 1 = 0)
    ∧ (win0_12.index t 0 = (rb t).val ∧ win0_12.index t 1 = 5)
    ∧ (win0_13.index t 0 = (rb t).val ∧ win0_13.index t 1 = 0)
    ∧ (win0_14.index t 0 = (rb t).val ∧ win0_14.index t 1 = 24)
    ∧ (win0_15.index t 0 = 0 ∧ win0_15.index t 1 = 0)
    ∧ (win0_16.index t 0 = 0 ∧ win0_16.index t 1 = 0)
    ∧ (win0_17.index t 0 = (rb t).val ∧ win0_17.index t 1 = 0) := by
  decide +kernel

/-- Row `R` of a block, in the array. -/
def rw_ (t : Fin cfg0.N) (R : Fin 512) : Fin 16384 := ⟨512 * (rb t).val + R.val, by omega⟩

/-- The layer's input. -/
theorem read0 (t : Fin cfg0.N) (R : Fin 512) (l : Fin 1024) : iblk m c 0 t (ix2 R l) = (row m c (rw_ t R)).x l := by
  have e : (win0_0.blk t).view.emb (ix2 R l) = ix2 (rw_ t R) l := by
    refine Shape.idx_ext₂ ?_ ?_
    · blk_simp [(where_ t).1.1]; show _ = 512 * _ + _; omega
    · blk_simp [(where_ t).1.2]
  rw [← OutIn.v18]
  unfold iblk
  show (V m c main_v18 : Vec Ideal S16384x1024 .f32) ((win0_0.blk t).view.emb (ix2 R l)) = _
  rw [e]

/-- The first mixer's output. -/
theorem read1 (t : Fin cfg0.N) (R : Fin 512) (l : Fin 512) : iblk m c 1 t (ix2 R l) = (row m c (rw_ t R)).a l := by
  have e : (win0_1.blk t).view.emb (ix2 R l) = ix2 (rw_ t R) l := by
    refine Shape.idx_ext₂ ?_ ?_
    · blk_simp [(where_ t).2.1.1]; show _ = 512 * _ + _; omega
    · blk_simp [(where_ t).2.1.2]
  rw [← OutIn.v19]
  unfold iblk
  show (V m c main_v19 : Vec Ideal S16384x512 .f32) ((win0_1.blk t).view.emb (ix2 R l)) = _
  rw [e]

/-- The second's. -/
theorem read3 (t : Fin cfg0.N) (R : Fin 512) (l : Fin 512) : iblk m c 3 t (ix2 R l) = (row m c (rw_ t R)).b l := by
  have e : (win0_3.blk t).view.emb (ix2 R l) = ix2 (rw_ t R) l := by
    refine Shape.idx_ext₂ ?_ ?_
    · blk_simp [(where_ t).2.2.2.1.1]; show _ = 512 * _ + _; omega
    · blk_simp [(where_ t).2.2.2.1.2]
  rw [← OutIn.v20]
  unfold iblk
  show (V m c main_v20 : Vec Ideal S16384x512 .f32) ((win0_3.blk t).view.emb (ix2 R l)) = _
  rw [e]

/-- The third's. -/
theorem read4 (t : Fin cfg0.N) (R : Fin 512) (l : Fin 512) : iblk m c 4 t (ix2 R l) = (row m c (rw_ t R)).cc (pm l) := by
  have e : (win0_4.blk t).view.emb (ix2 R l) = ix2 (rw_ t R) l := by
    refine Shape.idx_ext₂ ?_ ?_
    · blk_simp [(where_ t).2.2.2.2.1.1]; show _ = 512 * _ + _; omega
    · blk_simp [(where_ t).2.2.2.2.1.2]
  rw [← OutIn.v24]
  unfold iblk
  show (V m c main_v24 : Vec Ideal S16384x512 .f32) ((win0_4.blk t).view.emb (ix2 R l)) = _
  rw [e]

/-- The fourth's attentions. -/
theorem read6 (t : Fin cfg0.N) (R : Fin 512) (l : Fin 512) : iblk m c 6 t (ix2 R l) = (row m c (rw_ t R)).d0 l := by
  have e : (win0_6.blk t).view.emb (ix2 R l) = ix2 (rw_ t R) l := by
    refine Shape.idx_ext₂ ?_ ?_
    · blk_simp [(where_ t).2.2.2.2.2.2.1.1]; show _ = 512 * _ + _; omega
    · blk_simp [(where_ t).2.2.2.2.2.2.1.2]
  rw [← OutIn.v25]
  unfold iblk
  show (V m c main_v25 : Vec Ideal S16384x512 .f32) ((win0_6.blk t).view.emb (ix2 R l)) = _
  rw [e]

/-- The fourth's attentions. -/
theorem read7 (t : Fin cfg0.N) (R : Fin 512) (l : Fin 512) : iblk m c 7 t (ix2 R l) = (row m c (rw_ t R)).d1 l := by
  have e : (win0_7.blk t).view.emb (ix2 R l) = ix2 (rw_ t R) l := by
    refine Shape.idx_ext₂ ?_ ?_
    · blk_simp [(where_ t).2.2.2.2.2.2.2.1.1]; show _ = 512 * _ + _; omega
    · blk_simp [(where_ t).2.2.2.2.2.2.2.1.2]
  rw [← OutIn.v26]
  unfold iblk
  show (V m c main_v26 : Vec Ideal S16384x512 .f32) ((win0_7.blk t).view.emb (ix2 R l)) = _
  rw [e]

/-- The fourth's attentions. -/
theorem read8 (t : Fin cfg0.N) (R : Fin 512) (l : Fin 512) : iblk m c 8 t (ix2 R l) = (row m c (rw_ t R)).d2 l := by
  have e : (win0_8.blk t).view.emb (ix2 R l) = ix2 (rw_ t R) l := by
    refine Shape.idx_ext₂ ?_ ?_
    · blk_simp [(where_ t).2.2.2.2.2.2.2.2.1.1]; show _ = 512 * _ + _; omega
    · blk_simp [(where_ t).2.2.2.2.2.2.2.2.1.2]
  rw [← OutIn.v27]
  unfold iblk
  show (V m c main_v27 : Vec Ideal S16384x512 .f32) ((win0_8.blk t).view.emb (ix2 R l)) = _
  rw [e]

/-- Their log-sum-exps. -/
theorem read9 (t : Fin cfg0.N) (R : Fin 512) (l : Fin 512) : iblk m c 9 t (ix2 R l) = (row m c (rw_ t R)).l0 (hd l) := by
  have e : (win0_9.blk t).view.emb (ix2 R l) = ix2 (rw_ t R) l := by
    refine Shape.idx_ext₂ ?_ ?_
    · blk_simp [(where_ t).2.2.2.2.2.2.2.2.2.1.1]; show _ = 512 * _ + _; omega
    · blk_simp [(where_ t).2.2.2.2.2.2.2.2.2.1.2]
  rw [← OutIn.v30]
  unfold iblk
  show (V m c main_v30 : Vec Ideal S16384x512 .f32) ((win0_9.blk t).view.emb (ix2 R l)) = _
  rw [e]

/-- Their log-sum-exps. -/
theorem read10 (t : Fin cfg0.N) (R : Fin 512) (l : Fin 512) : iblk m c 10 t (ix2 R l) = (row m c (rw_ t R)).l1 (hd l) := by
  have e : (win0_10.blk t).view.emb (ix2 R l) = ix2 (rw_ t R) l := by
    refine Shape.idx_ext₂ ?_ ?_
    · blk_simp [(where_ t).2.2.2.2.2.2.2.2.2.2.1.1]; show _ = 512 * _ + _; omega
    · blk_simp [(where_ t).2.2.2.2.2.2.2.2.2.2.1.2]
  rw [← OutIn.v33]
  unfold iblk
  show (V m c main_v33 : Vec Ideal S16384x512 .f32) ((win0_10.blk t).view.emb (ix2 R l)) = _
  rw [e]

/-- Their log-sum-exps. -/
theorem read11 (t : Fin cfg0.N) (R : Fin 512) (l : Fin 512) : iblk m c 11 t (ix2 R l) = (row m c (rw_ t R)).l2 (hd l) := by
  have e : (win0_11.blk t).view.emb (ix2 R l) = ix2 (rw_ t R) l := by
    refine Shape.idx_ext₂ ?_ ?_
    · blk_simp [(where_ t).2.2.2.2.2.2.2.2.2.2.2.1.1]; show _ = 512 * _ + _; omega
    · blk_simp [(where_ t).2.2.2.2.2.2.2.2.2.2.2.1.2]
  rw [← OutIn.v36]
  unfold iblk
  show (V m c main_v36 : Vec Ideal S16384x512 .f32) ((win0_11.blk t).view.emb (ix2 R l)) = _
  rw [e]

/-- The memory's output. -/
theorem read13 (t : Fin cfg0.N) (R : Fin 512) (l : Fin 256) : iblk m c 13 t (ix2 R l) = (row m c (rw_ t R)).m l := by
  have e : (win0_13.blk t).view.emb (ix2 R l) = ix2 (rw_ t R) l := by
    refine Shape.idx_ext₂ ?_ ?_
    · blk_simp [(where_ t).2.2.2.2.2.2.2.2.2.2.2.2.2.1.1]; show _ = 512 * _ + _; omega
    · blk_simp [(where_ t).2.2.2.2.2.2.2.2.2.2.2.2.2.1.2]
  rw [← OutIn.v37]
  unfold iblk
  show (V m c main_v37 : Vec Ideal S16384x256 .f32) ((win0_13.blk t).view.emb (ix2 R l)) = _
  rw [e]

/-- A gate. -/
theorem read2 (t : Fin cfg0.N) (R : Fin 512) (l : Fin 512) : X0_2 m c t (ix2 R l) = (row m c (rw_ t R)).az l := by
  rw [← OutGates.az]
  unfold X0_2 Pipeline.Window.fill
  rw [dif_pos (moved0_2 t (ix2 R l))]
  unfold iblk
  refine congrArg (V m c main_v11 : Vec Ideal S16384x7040 .f32) (Shape.idx_ext₂ ?_ ?_)
  · refine Eq.trans (b := 512 * (rb t).val + R.val) ?_ rfl
    blk_simp [(where_ t).2.2.1.1]
    exact congrArg₂ (· + ·) (Nat.mul_comm _ _) rfl
  · refine Eq.trans (b := 512 * 2 + l.val) ?_ rfl
    blk_simp [(where_ t).2.2.1.2]
    try omega

/-- A gate. -/
theorem read5 (t : Fin cfg0.N) (R : Fin 512) (l : Fin 512) : X0_5 m c t (ix2 R l) = (row m c (rw_ t R)).cz (pm l) := by
  rw [← OutGates.cz]
  unfold X0_5 Pipeline.Window.fill
  rw [dif_pos (moved0_5 t (ix2 R l))]
  unfold iblk
  refine congrArg (V m c main_v11 : Vec Ideal S16384x7040 .f32) (Shape.idx_ext₂ ?_ ?_)
  · refine Eq.trans (b := 512 * (rb t).val + R.val) ?_ rfl
    blk_simp [(where_ t).2.2.2.2.2.1.1]
    exact congrArg₂ (· + ·) (Nat.mul_comm _ _) rfl
  · refine Eq.trans (b := 512 * 4 + l.val) ?_ rfl
    blk_simp [(where_ t).2.2.2.2.2.1.2]
    try omega

/-- A gate. -/
theorem read12 (t : Fin cfg0.N) (R : Fin 512) (l : Fin 512) : X0_12 m c t (ix2 R l) = (row m c (rw_ t R)).dz l := by
  rw [← OutGates.dz]
  unfold X0_12 Pipeline.Window.fill
  rw [dif_pos (moved0_12 t (ix2 R l))]
  unfold iblk
  refine congrArg (V m c main_v11 : Vec Ideal S16384x7040 .f32) (Shape.idx_ext₂ ?_ ?_)
  · refine Eq.trans (b := 512 * (rb t).val + R.val) ?_ rfl
    blk_simp [(where_ t).2.2.2.2.2.2.2.2.2.2.2.2.1.1]
    exact congrArg₂ (· + ·) (Nat.mul_comm _ _) rfl
  · refine Eq.trans (b := 512 * 5 + l.val) ?_ rfl
    blk_simp [(where_ t).2.2.2.2.2.2.2.2.2.2.2.2.1.2]
    try omega

/-- A gate. -/
theorem read14 (t : Fin cfg0.N) (R : Fin 512) (l : Fin 256) : X0_14 m c t (ix2 R l) = (row m c (rw_ t R)).mz l := by
  rw [← OutGates.mz]
  unfold X0_14 Pipeline.Window.fill
  rw [dif_pos (moved0_14 t (ix2 R l))]
  unfold iblk
  refine congrArg (V m c main_v11 : Vec Ideal S16384x7040 .f32) (Shape.idx_ext₂ ?_ ?_)
  · refine Eq.trans (b := 512 * (rb t).val + R.val) ?_ rfl
    blk_simp [(where_ t).2.2.2.2.2.2.2.2.2.2.2.2.2.2.1.1]
    exact congrArg₂ (· + ·) (Nat.mul_comm _ _) rfl
  · refine Eq.trans (b := 256 * 24 + l.val) ?_ rfl
    blk_simp [(where_ t).2.2.2.2.2.2.2.2.2.2.2.2.2.2.1.2]
    try omega

/-- The weights. -/
theorem read15 (t : Fin cfg0.N) (k : Fin 2304) (l : Fin 1024) : iblk m c 15 t (ix2 k l) = (V m c main_v38 : Vec Ideal S2304x1024 .bf16) (ix2 k l) := by
  have e : (win0_15.blk t).view.emb (ix2 k l) = ix2 k l := by
    refine Shape.idx_ext₂ ?_ ?_
    · blk_simp [(where_ t).2.2.2.2.2.2.2.2.2.2.2.2.2.2.2.1.1]
    · blk_simp [(where_ t).2.2.2.2.2.2.2.2.2.2.2.2.2.2.2.1.2]
  unfold iblk
  show (V m c main_v38 : Vec Ideal S2304x1024 .bf16) ((win0_15.blk t).view.emb (ix2 k l)) = _
  rw [e]

/-- The norm's weights. -/
theorem read16 (t : Fin cfg0.N) (l : Fin 1024) : iblk m c 16 t (ix2 0 l) = nw m c l := by
  have e : (win0_16.blk t).view.emb (ix2 0 l) = ix2 0 l := by
    refine Shape.idx_ext₂ ?_ ?_
    · blk_simp [(where_ t).2.2.2.2.2.2.2.2.2.2.2.2.2.2.2.2.1.1]
    · blk_simp [(where_ t).2.2.2.2.2.2.2.2.2.2.2.2.2.2.2.2.1.2]
  rw [← OutIn.v39]
  unfold iblk
  show (V m c main_v39 : Vec Ideal S1x1024 .f32) ((win0_16.blk t).view.emb (ix2 0 l)) = _
  rw [e]

/-- The third mixer's piece, its heads in the order given. -/
theorem pieceC (r : Row) (d : Fin 1024) :
    ∑ k : Fin 512, r.cc (pm k) * silu (r.cz (pm k)) * w m c ⟨1024 + (pm k).val, by omega⟩ d = ∑ k : Fin 512, r.cc k * silu (r.cz k) * w m c ⟨1024 + k.val, by omega⟩ d :=
  Function.Bijective.sum_comp pm_bij fun k => r.cc k * silu (r.cz k) * w m c ⟨1024 + k.val, by omega⟩ d

/-- Row `k` of some rows of the weights. -/
theorem rowsOf_apply (o n : ℕ) (h : o + n ≤ 2304) (x : Vec Ideal S2304x1024 .bf16) (k : Fin n) (d : Fin 1024) :
    rowsOf o n h x (ix2 k d) = x (ix2 ⟨o + k.val, by omega⟩ d) := rfl

/-- What a point writes: its rows' results. -/
theorem block (t : Fin cfg0.N) (R : Fin 512) (l : Fin 1024) :
    outsAt0 m c t (ix2 R l) = out (row m c (rw_ t R)) (w m c) (nw m c) l := by
  unfold outsAt0
  rw [outA]
  unfold made
  rw [pay1_apply _ _ _ _ _ _ R l (y (row m c (rw_ t R)) (w m c)), read0, read16]
  · rfl
  intro d
  rw [pay5_apply, pay6_apply]
  unfold y
  rw [← pieceC]
  refine congrArg₂ (· + ·) (congrArg₂ (· + ·) (congrArg₂ (· + ·) (congrArg₂ (· + ·) ?_ ?_) ?_) ?_) ?_
  · refine Finset.sum_congr rfl fun k _ => ?_
    rw [pay3_apply, rowsOf_apply, read1, read2, read15, OutWts.out_row m c _ _ (Or.inl (by show 0 + k.val < 1024; omega))]
    exact congrArg (fun i => _ * w m c i d) (Fin.ext (Nat.zero_add _))
  · refine Finset.sum_congr rfl fun k _ => ?_
    rw [rowsOf_apply, read3, read15, OutWts.out_row m c _ _ (Or.inl (by show 512 + k.val < 1024; omega))]
  · refine Finset.sum_congr rfl fun k _ => ?_
    rw [rowsOf_apply, read4, read5, read15, OutWts.in_row]
  · refine Finset.sum_congr rfl fun k _ => ?_
    rw [pay2_apply, rowsOf_apply, read6, read7, read8, read9, read10, read11, read12, read15,
      OutWts.out_row m c _ _ (Or.inr (by show 1536 ≤ 1536 + k.val; omega))]
  · refine Finset.sum_congr rfl fun k _ => ?_
    rw [pay4_apply, rowsOf_apply, read13, read14, read15, OutWts.out_row m c _ _ (Or.inr (by show 1536 ≤ 2048 + k.val; omega))]

/-- The array the kernel leaves. -/
def arr : Vec Ideal S16384x1024 .f32 := fun y => out (row m c (y 0)) (w m c) (nw m c) (y 1)

/-- Where a point's block lies in it. -/
theorem emb17 (t : Fin cfg0.N) (y : S512x1024.Idx) : (win0_17.blk t).view.emb y = ix2 (rw_ t (y 0)) (y 1) := by
  refine Shape.idx_ext₂ ?_ ?_
  · blk_simp [(where_ t).2.2.2.2.2.2.2.2.2.2.2.2.2.2.2.2.2.1]; show _ = 512 * _ + _; omega
  · blk_simp [(where_ t).2.2.2.2.2.2.2.2.2.2.2.2.2.2.2.2.2.2]

/-- THE RESULT'S ROWS. -/
theorem arr17 : (dats m 0 c).arrAt 17 cfg0.N = arr m c := by
  refine (dats m 0 c).arrAt_eq_of_covers 17 _ (by decide +kernel) fun t hf y => ?_
  blk_simp
  rw [after0_17]
  refine Eq.trans ?_ (congrArg (arr m c) (emb17 t y)).symm
  obtain ⟨R, l, rfl⟩ : ∃ (R : Fin 512) (l : Fin 1024), y = ix2 R l := ⟨y 0, y 1, eq_ix2 y⟩
  exact block m c t R l

end Cert.OutArray

end
-- ==== Proof.OutMerge.lean ====
/-
  Three attentions merged: weights made from the log-sum-exps, each divided by their sum, or each multiplied by the sum's
  reciprocal.
-/
module

public import proofs.«01_k».proof.Proof.OutSpec
public import proofs.«01_k».proof.Proof.Soft

@[expose] public section

noncomputable section

namespace Cert.OutMerge

open Idealize.ShloMosaic Cert.Soft Cert.OutBlock

/-- The word of one. -/
theorem one_word : Ideal.ofBits .f32 0x3F800000#32 = 1 := by
  simp [Ideal.ofBits, Ideal.ieee]
  rw [← EReal.coe_mul]
  norm_num

/-- The largest of three. -/
theorem top_three (s : Fin 3 → EReal) : top s = max (max (s 0) (s 1)) (s 2) := by
  refine le_antisymm (top_le s _ fun j => ?_) (max_le (max_le (le_top s 0) (le_top s 1)) (le_top s 2))
  fin_cases j
  · exact le_max_of_le_left (le_max_left _ _)
  · exact le_max_of_le_left (le_max_right _ _)
  · exact le_max_right _ _

/-- The three merged, where the log-sum-exps are real numbers: the sum of the three times their quotients. -/
theorem merged_eq (s : Fin 3 → EReal) (hs : ∀ k, ∃ r : ℝ, s k = (r : EReal)) (d : Fin 3 → EReal) :
    merged (s 0) (s 1) (s 2) (d 0) (d 1) (d 2) = ∑ k, Ideal.div (wt s k) (∑ j, wt s j) * d k := by
  have ht : ∀ k, s k ≠ ⊤ := fun k => by
    obtain ⟨r, hr⟩ := hs k
    rw [hr]
    exact EReal.coe_ne_top r
  have hb : s 0 ≠ ⊥ := by
    obtain ⟨r, hr⟩ := hs 0
    rw [hr]
    exact EReal.coe_ne_bot r
  obtain ⟨q, hq, e⟩ := den_real s ht 0 hb
  unfold merged
  rw [← top_three]
  show wt s 0 * Ideal.div (Ideal.ofBits .f32 0x3F800000#32) (wt s 0 + wt s 1 + wt s 2) * d 0
    + wt s 1 * Ideal.div (Ideal.ofBits .f32 0x3F800000#32) (wt s 0 + wt s 1 + wt s 2) * d 1
    + wt s 2 * Ideal.div (Ideal.ofBits .f32 0x3F800000#32) (wt s 0 + wt s 1 + wt s 2) * d 2 = _
  have e3 : wt s 0 + wt s 1 + wt s 2 = (q : EReal) := (Fin.sum_univ_three _).symm.trans e
  rw [e, e3, Fin.sum_univ_three, one_word]
  simp only [div_pos _ q hq, one_mul]

end Cert.OutMerge

end
-- ==== Proof.OutRef.lean ====
/-
  What the out-projection's reference computes, index by index.
-/
module

public import proofs.«01_k».proof.Proof.OutMerge
public import proofs.«01_k».proof.Proof.BandRef
public import proofs.«01_k».proof.Proof.Gen.OutRefIdeal.Read
public import Idealize.ShloMosaic.Lib.Pointwise

@[expose] public section

set_option maxRecDepth 16384

noncomputable section

namespace Cert.OutRef

open Cert.OutRefIdeal Cert.OutRefIdeal.Gen Cert.OutRefIdeal.Read Idealize.ShloMosaic Cert.OutSpec Cert.OutBlock Cert.OutMerge Cert.Soft

variable (x0 : Vec Ideal S1x16384x1024 .f32) (x1 : Vec Ideal S1x16384x8x64 .f32) (x2 : Vec Ideal S1x16384x512 .f32) (x3 : Vec Ideal S1x16384x512 .f32) (x4 : Vec Ideal S1x16384x8x64 .f32) (x5 : Vec Ideal S1x16384x512 .f32) (x6 : Vec Ideal S1x16384x8x64 .f32) (x7 : Vec Ideal S1x16384x8x64 .f32) (x8 : Vec Ideal S1x16384x8x64 .f32) (x9 : Vec Ideal S1x16384x8 .f32) (x10 : Vec Ideal S1x16384x8 .f32) (x11 : Vec Ideal S1x16384x8 .f32) (x12 : Vec Ideal S1x16384x512 .f32) (x13 : Vec Ideal S1x16384x4x64 .f32) (x14 : Vec Ideal S1x16384x256 .f32) (x15 : Vec Ideal S2304x1024 .f32) (x16 : Vec Ideal S1024 .f32)

/-- One row of everything given. -/
def row (a : Fin 16384) : Row where
  x := fun d => x0 (ix3 0 a d)
  a := fun k => x1 (ix4 0 a (hd k) ⟨k.val % 64, by omega⟩)
  az := fun k => x2 (ix3 0 a k)
  b := fun k => x3 (ix3 0 a k)
  cc := fun k => x4 (ix4 0 a (hd k) ⟨k.val % 64, by omega⟩)
  cz := fun k => x5 (ix3 0 a k)
  d0 := fun k => x6 (ix4 0 a (hd k) ⟨k.val % 64, by omega⟩)
  d1 := fun k => x7 (ix4 0 a (hd k) ⟨k.val % 64, by omega⟩)
  d2 := fun k => x8 (ix4 0 a (hd k) ⟨k.val % 64, by omega⟩)
  l0 := fun h => x9 (ix3 0 a h)
  l1 := fun h => x10 (ix3 0 a h)
  l2 := fun h => x11 (ix3 0 a h)
  dz := fun k => x12 (ix3 0 a k)
  m := fun k => x13 (ix4 0 a ⟨k.val / 64, by omega⟩ ⟨k.val % 64, by omega⟩)
  mz := fun k => x14 (ix3 0 a k)

/-- A gate, entry by entry. -/
theorem gate0 (i : S1x16384x512.Idx) : val_main_v21 (F := Ideal) x2 i = silu (x2 i) := by
  rw [val_main_v21_apply, val_main_call0_v5_apply, val_main_call0_v4_apply, val_main_call0_cst_0_apply, val_main_call0_v3_apply,
    val_main_call0_v2_apply, val_main_call0_cst_apply, val_main_call0_v1_apply, val_main_call0_v0_apply]
  show x2 i * Ideal.div (Ideal.ofBits .f32 0x3F800000#32) (Ideal.ofBits .f32 0x3F800000#32 + Ideal.exp (-(x2 i))) = _
  rw [one_word]
  rfl

/-- A gate, entry by entry. -/
theorem gate1 (i : S1x16384x512.Idx) : val_main_v24 (F := Ideal) x5 i = silu (x5 i) := by
  rw [val_main_v24_apply, val_main_call1_v5_apply, val_main_call1_v4_apply, val_main_call1_cst_0_apply, val_main_call1_v3_apply,
    val_main_call1_v2_apply, val_main_call1_cst_apply, val_main_call1_v1_apply, val_main_call1_v0_apply]
  show x5 i * Ideal.div (Ideal.ofBits .f32 0x3F800000#32) (Ideal.ofBits .f32 0x3F800000#32 + Ideal.exp (-(x5 i))) = _
  rw [one_word]
  rfl

/-- A gate, entry by entry. -/
theorem gate2 (i : S1x16384x512.Idx) : val_main_v27 (F := Ideal) x12 i = silu (x12 i) := by
  rw [val_main_v27_apply, val_main_call2_v5_apply, val_main_call2_v4_apply, val_main_call2_cst_0_apply, val_main_call2_v3_apply,
    val_main_call2_v2_apply, val_main_call2_cst_apply, val_main_call2_v1_apply, val_main_call2_v0_apply]
  show x12 i * Ideal.div (Ideal.ofBits .f32 0x3F800000#32) (Ideal.ofBits .f32 0x3F800000#32 + Ideal.exp (-(x12 i))) = _
  rw [one_word]
  rfl

/-- A gate, entry by entry. -/
theorem gate3 (i : S1x16384x256.Idx) : val_main_v30 (F := Ideal) x14 i = silu (x14 i) := by
  rw [val_main_v30_apply, val_main_call3_v5_apply, val_main_call3_v4_apply, val_main_call3_cst_0_apply, val_main_call3_v3_apply,
    val_main_call3_v2_apply, val_main_call3_cst_apply, val_main_call3_v1_apply, val_main_call3_v0_apply]
  show x14 i * Ideal.div (Ideal.ofBits .f32 0x3F800000#32) (Ideal.ofBits .f32 0x3F800000#32 + Ideal.exp (-(x14 i))) = _
  rw [one_word]
  rfl

/-- Heads laid side by side. -/
theorem flat20 (a : Fin 16384) (k : Fin 512) : val_main_v20 (F := Ideal) x1 (ix3 0 a k) = x1 (ix4 0 a (hd k) ⟨k.val % 64, by omega⟩) := by
  rw [val_main_v20_apply]
  refine congrArg x1 (funext fun b => ?_)
  fin_cases b
  · rfl
  · exact Fin.ext (by show _ = a.val; dsimp; omega)
  · exact Fin.ext (by show _ = k.val / 64; dsimp; omega)
  · exact Fin.ext (by show _ = k.val % 64; dsimp; omega)

/-- Heads laid side by side. -/
theorem flat23 (a : Fin 16384) (k : Fin 512) : val_main_v23 (F := Ideal) x4 (ix3 0 a k) = x4 (ix4 0 a (hd k) ⟨k.val % 64, by omega⟩) := by
  rw [val_main_v23_apply]
  refine congrArg x4 (funext fun b => ?_)
  fin_cases b
  · rfl
  · exact Fin.ext (by show _ = a.val; dsimp; omega)
  · exact Fin.ext (by show _ = k.val / 64; dsimp; omega)
  · exact Fin.ext (by show _ = k.val % 64; dsimp; omega)

/-- The memory's heads laid side by side. -/
theorem flat29 (a : Fin 16384) (k : Fin 256) : val_main_v29 (F := Ideal) x13 (ix3 0 a k) = x13 (ix4 0 a ⟨k.val / 64, by omega⟩ ⟨k.val % 64, by omega⟩) := by
  rw [val_main_v29_apply]
  refine congrArg x13 (funext fun b => ?_)
  fin_cases b
  · rfl
  · exact Fin.ext (by show _ = a.val; dsimp; omega)
  · exact Fin.ext (by show _ = k.val / 64; dsimp; omega)
  · exact Fin.ext (by show _ = k.val % 64; dsimp; omega)

/-- The three log-sum-exps of a row and a head. -/
def ls (a : Fin 16384) (h : Fin 8) (k : Fin 3) : EReal := match k with
  | 0 => x9 (ix3 0 a h)
  | 1 => x10 (ix3 0 a h)
  | 2 => x11 (ix3 0 a h)

/-- The log-sum-exps stacked. -/
theorem stackL (a : Fin 16384) (k : Fin 3) (h : Fin 8) : val_main_v3 (F := Ideal) x9 x10 x11 (ix4 0 a k h) = ls x9 x10 x11 a h k := by
  unfold val_main_v3
  fin_cases k
  · refine (concatenate_apply_piece (t := S1x16384x3x8) 2 [⟨S1x16384x1x8, (val_main_v0 (F := Ideal) x9 : Vec Ideal S1x16384x1x8 .f32)⟩, ⟨S1x16384x1x8, (val_main_v1 (F := Ideal) x10 : Vec Ideal S1x16384x1x8 .f32)⟩, ⟨S1x16384x1x8, (val_main_v2 (F := Ideal) x11 : Vec Ideal S1x16384x1x8 .f32)⟩] concatenates_S1x16384x1x8_S1x16384x1x8_S1x16384x1x8_S1x16384x3x8_d2 (ix4 0 a 0 h) 0 (by show 0 < 3; decide) S1x16384x1x8 (val_main_v0 (F := Ideal) x9) rfl rfl 0 rfl (ix4 0 a 0 h) (fun b hb => ?_) rfl).trans ?_
    · fin_cases b <;> first | rfl | exact absurd rfl hb
    · rw [val_main_v0_apply]
      exact congrArg x9 (funext fun b => by fin_cases b <;> rfl)
  · refine (concatenate_apply_piece (t := S1x16384x3x8) 2 [⟨S1x16384x1x8, (val_main_v0 (F := Ideal) x9 : Vec Ideal S1x16384x1x8 .f32)⟩, ⟨S1x16384x1x8, (val_main_v1 (F := Ideal) x10 : Vec Ideal S1x16384x1x8 .f32)⟩, ⟨S1x16384x1x8, (val_main_v2 (F := Ideal) x11 : Vec Ideal S1x16384x1x8 .f32)⟩] concatenates_S1x16384x1x8_S1x16384x1x8_S1x16384x1x8_S1x16384x3x8_d2 (ix4 0 a 1 h) 1 (by show 1 < 3; decide) S1x16384x1x8 (val_main_v1 (F := Ideal) x10) rfl rfl 1 rfl (ix4 0 a 0 h) (fun b hb => ?_) rfl).trans ?_
    · fin_cases b <;> first | rfl | exact absurd rfl hb
    · rw [val_main_v1_apply]
      exact congrArg x10 (funext fun b => by fin_cases b <;> rfl)
  · refine (concatenate_apply_piece (t := S1x16384x3x8) 2 [⟨S1x16384x1x8, (val_main_v0 (F := Ideal) x9 : Vec Ideal S1x16384x1x8 .f32)⟩, ⟨S1x16384x1x8, (val_main_v1 (F := Ideal) x10 : Vec Ideal S1x16384x1x8 .f32)⟩, ⟨S1x16384x1x8, (val_main_v2 (F := Ideal) x11 : Vec Ideal S1x16384x1x8 .f32)⟩] concatenates_S1x16384x1x8_S1x16384x1x8_S1x16384x1x8_S1x16384x3x8_d2 (ix4 0 a 2 h) 2 (by show 2 < 3; decide) S1x16384x1x8 (val_main_v2 (F := Ideal) x11) rfl rfl 2 rfl (ix4 0 a 0 h) (fun b hb => ?_) rfl).trans ?_
    · fin_cases b <;> first | rfl | exact absurd rfl hb
    · rw [val_main_v2_apply]
      exact congrArg x11 (funext fun b => by fin_cases b <;> rfl)

/-- The three attentions of a row and a lane. -/
def ds (a : Fin 16384) (h : Fin 8) (e : Fin 64) (k : Fin 3) : EReal := match k with
  | 0 => x6 (ix4 0 a h e)
  | 1 => x7 (ix4 0 a h e)
  | 2 => x8 (ix4 0 a h e)

/-- The attentions stacked. -/
theorem stackD (a : Fin 16384) (k : Fin 3) (h : Fin 8) (e : Fin 64) : val_main_v18 (F := Ideal) x6 x7 x8 (ix5 0 a k h e) = ds x6 x7 x8 a h e k := by
  unfold val_main_v18
  fin_cases k
  · refine (concatenate_apply_piece (t := S1x16384x3x8x64) 2 [⟨S1x16384x1x8x64, (val_main_v15 (F := Ideal) x6 : Vec Ideal S1x16384x1x8x64 .f32)⟩, ⟨S1x16384x1x8x64, (val_main_v16 (F := Ideal) x7 : Vec Ideal S1x16384x1x8x64 .f32)⟩, ⟨S1x16384x1x8x64, (val_main_v17 (F := Ideal) x8 : Vec Ideal S1x16384x1x8x64 .f32)⟩] concatenates_S1x16384x1x8x64_S1x16384x1x8x64_S1x16384x1x8x64_S1x16384x3x8x64_d2 (ix5 0 a 0 h e) 0 (by show 0 < 3; decide) S1x16384x1x8x64 (val_main_v15 (F := Ideal) x6) rfl rfl 0 rfl (ix5 0 a 0 h e) (fun b hb => ?_) rfl).trans ?_
    · fin_cases b <;> first | rfl | exact absurd rfl hb
    · rw [val_main_v15_apply]
      exact congrArg x6 (funext fun b => by fin_cases b <;> rfl)
  · refine (concatenate_apply_piece (t := S1x16384x3x8x64) 2 [⟨S1x16384x1x8x64, (val_main_v15 (F := Ideal) x6 : Vec Ideal S1x16384x1x8x64 .f32)⟩, ⟨S1x16384x1x8x64, (val_main_v16 (F := Ideal) x7 : Vec Ideal S1x16384x1x8x64 .f32)⟩, ⟨S1x16384x1x8x64, (val_main_v17 (F := Ideal) x8 : Vec Ideal S1x16384x1x8x64 .f32)⟩] concatenates_S1x16384x1x8x64_S1x16384x1x8x64_S1x16384x1x8x64_S1x16384x3x8x64_d2 (ix5 0 a 1 h e) 1 (by show 1 < 3; decide) S1x16384x1x8x64 (val_main_v16 (F := Ideal) x7) rfl rfl 1 rfl (ix5 0 a 0 h e) (fun b hb => ?_) rfl).trans ?_
    · fin_cases b <;> first | rfl | exact absurd rfl hb
    · rw [val_main_v16_apply]
      exact congrArg x7 (funext fun b => by fin_cases b <;> rfl)
  · refine (concatenate_apply_piece (t := S1x16384x3x8x64) 2 [⟨S1x16384x1x8x64, (val_main_v15 (F := Ideal) x6 : Vec Ideal S1x16384x1x8x64 .f32)⟩, ⟨S1x16384x1x8x64, (val_main_v16 (F := Ideal) x7 : Vec Ideal S1x16384x1x8x64 .f32)⟩, ⟨S1x16384x1x8x64, (val_main_v17 (F := Ideal) x8 : Vec Ideal S1x16384x1x8x64 .f32)⟩] concatenates_S1x16384x1x8x64_S1x16384x1x8x64_S1x16384x1x8x64_S1x16384x3x8x64_d2 (ix5 0 a 2 h e) 2 (by show 2 < 3; decide) S1x16384x1x8x64 (val_main_v17 (F := Ideal) x8) rfl rfl 2 rfl (ix5 0 a 0 h e) (fun b hb => ?_) rfl).trans ?_
    · fin_cases b <;> first | rfl | exact absurd rfl hb
    · rw [val_main_v17_apply]
      exact congrArg x8 (funext fun b => by fin_cases b <;> rfl)

/-- The largest log-sum-exp. -/
theorem max_apply (a : Fin 16384) (h : Fin 8) : val_main_v6 (F := Ideal) x9 x10 x11 (ix3 0 a h) = top (ls x9 x10 x11 a h) := by
  have e : val_main_v4 (F := Ideal) x9 x10 x11 (ix3 0 a h) = top (ls x9 x10 x11 a h) := by
    unfold val_main_v4
    pointwise
    rw [val_main_cst_apply]
    simp only [stackL]
    show Finset.fold max (Ideal.ofBits .f32 0xFF800000#32) _ _ = _
    rw [BandRef.neg_inf]
    rfl
  rw [val_main_v6_apply, e, val_main_v5_apply, val_main_cst_0_apply]
  show max (Ideal.ofBits .f32 0xFF800000#32) _ = _
  rw [BandRef.neg_inf]
  exact max_eq_right bot_le

/-- The weights. -/
theorem wt_apply (a : Fin 16384) (k : Fin 3) (h : Fin 8) : val_main_v10 (F := Ideal) x9 x10 x11 (ix4 0 a k h) = wt (ls x9 x10 x11 a h) k := by
  have e : idx_main_v7 (idx_main_v8 (ix4 (0 : Fin 1) a k h)) = ix3 (0 : Fin 1) a h := funext fun b => by fin_cases b <;> rfl
  rw [val_main_v10_apply, val_main_v9_apply, val_main_v8_apply, val_main_v7_apply, e, max_apply, stackL]
  rfl

/-- The weights divided by their sum. -/
theorem alpha_apply (a : Fin 16384) (k : Fin 3) (h : Fin 8) : val_main_v14 (F := Ideal) x9 x10 x11 (ix4 0 a k h)
    = Ideal.div (wt (ls x9 x10 x11 a h) k) (∑ j, wt (ls x9 x10 x11 a h) j) := by
  have e : idx_main_v12 (idx_main_v13 (ix4 (0 : Fin 1) a k h)) = ix3 (0 : Fin 1) a h := funext fun b => by fin_cases b <;> rfl
  have e2 : ∀ j, idx_main_v11 (ix3 (0 : Fin 1) a h) j = ix4 (0 : Fin 1) a j h := fun j => funext fun b => by fin_cases b <;> rfl
  rw [val_main_v14_apply, val_main_v13_apply, val_main_v12_apply, e, val_main_v11_apply, wt_apply, val_main_cst_1_apply]
  simp only [e2, wt_apply]
  show Ideal.div _ (Ideal.ofBits .f32 0x00000000#32 + _) = _
  rw [BandRef.zero_word, zero_add]

/-- The merge, entry by entry. -/
theorem merge_apply (a : Fin 16384) (k : Fin 512) (hl : ∀ h j, ∃ r : ℝ, ls x9 x10 x11 a h j = (r : EReal)) :
    val_main_v26 (F := Ideal) x6 x7 x8 x9 x10 x11 (ix3 0 a k)
      = merged (x9 (ix3 0 a (hd k))) (x10 (ix3 0 a (hd k))) (x11 (ix3 0 a (hd k))) (x6 (ix4 0 a (hd k) ⟨k.val % 64, by omega⟩))
        (x7 (ix4 0 a (hd k) ⟨k.val % 64, by omega⟩)) (x8 (ix4 0 a (hd k) ⟨k.val % 64, by omega⟩)) := by
  have e : idx_main_v26 (ix3 (0 : Fin 1) a k) = ix4 (0 : Fin 1) a (hd k) (⟨k.val % 64, by omega⟩ : Fin 64) := funext fun b => by
    fin_cases b
    · rfl
    · exact Fin.ext (by show _ = a.val; dsimp; omega)
    · exact Fin.ext (by show _ = k.val / 64; dsimp; omega)
    · exact Fin.ext (by show _ = k.val % 64; dsimp; omega)
  refine Eq.trans ?_ (merged_eq (ls x9 x10 x11 a (hd k)) (hl (hd k)) (ds x6 x7 x8 a (hd k) ⟨k.val % 64, by omega⟩)).symm
  rw [val_main_v26_apply, e, val_main_v19_apply]
  refine Finset.sum_congr rfl fun j _ => congrArg₂ (· * ·) ?_ ?_
  · have el : lidx_main_v19 (ix4 (0 : Fin 1) a (hd k) (⟨k.val % 64, by omega⟩ : Fin 64)) j = ix4 (0 : Fin 1) a j (hd k) := funext fun b => by fin_cases b <;> rfl
    rw [el, alpha_apply]
  · have er : ridx_main_v19 (ix4 (0 : Fin 1) a (hd k) (⟨k.val % 64, by omega⟩ : Fin 64)) j = ix5 (0 : Fin 1) a j (hd k) (⟨k.val % 64, by omega⟩ : Fin 64) :=
      funext fun b => by fin_cases b <;> rfl
    rw [er, stackD]

end Cert.OutRef

end
-- ==== Proof.OutRefRow.lean ====
/-
  The out-projection's reference: the five parts side by side, their product with the weights, the norm and the residual.
-/
module

public import proofs.«01_k».proof.Proof.OutRef

@[expose] public section

set_option maxRecDepth 16384

noncomputable section

namespace Cert.OutRef

open Cert.OutRefIdeal Cert.OutRefIdeal.Gen Cert.OutRefIdeal.Read Idealize.ShloMosaic Cert.OutSpec Cert.OutBlock Cert.OutMerge Cert.Soft

/-- A sum over 2304 terms, part by part. -/
theorem five (f : Fin 2304 → EReal) : ∑ k, f k
    = ∑ k : Fin 512, f ⟨k.val, by omega⟩ + ∑ k : Fin 512, f ⟨512 + k.val, by omega⟩ + ∑ k : Fin 512, f ⟨1024 + k.val, by omega⟩
      + ∑ k : Fin 512, f ⟨1536 + k.val, by omega⟩ + ∑ k : Fin 256, f ⟨2048 + k.val, by omega⟩ := by
  show ∑ k : Fin (512 + 512 + 512 + 512 + 256), f k = _
  rw [Fin.sum_univ_add, Fin.sum_univ_add, Fin.sum_univ_add, Fin.sum_univ_add]
  rfl

variable (x0 : Vec Ideal S1x16384x1024 .f32) (x1 : Vec Ideal S1x16384x8x64 .f32) (x2 : Vec Ideal S1x16384x512 .f32) (x3 : Vec Ideal S1x16384x512 .f32) (x4 : Vec Ideal S1x16384x8x64 .f32) (x5 : Vec Ideal S1x16384x512 .f32) (x6 : Vec Ideal S1x16384x8x64 .f32) (x7 : Vec Ideal S1x16384x8x64 .f32) (x8 : Vec Ideal S1x16384x8x64 .f32) (x9 : Vec Ideal S1x16384x8 .f32) (x10 : Vec Ideal S1x16384x8 .f32) (x11 : Vec Ideal S1x16384x8 .f32) (x12 : Vec Ideal S1x16384x512 .f32) (x13 : Vec Ideal S1x16384x4x64 .f32) (x14 : Vec Ideal S1x16384x256 .f32) (x15 : Vec Ideal S2304x1024 .f32) (x16 : Vec Ideal S1024 .f32)

/-- Columns 0 to 511 of the five parts side by side. -/
theorem part0 (a : Fin 16384) (k : Fin 512) : val_main_v32 (F := Ideal) x1 x2 x3 x4 x5 x6 x7 x8 x9 x10 x11 x12 x13 x14 (ix3 0 a ⟨k.val, by omega⟩) = (val_main_v22 (F := Ideal) x1 x2) (ix3 0 a k) := by
  unfold val_main_v32
  refine concatenate_apply_piece (t := S1x16384x2304) 2 [⟨S1x16384x512, (val_main_v22 (F := Ideal) x1 x2 : Vec Ideal S1x16384x512 .f32)⟩, ⟨S1x16384x512, (x3 : Vec Ideal S1x16384x512 .f32)⟩, ⟨S1x16384x512, (val_main_v25 (F := Ideal) x4 x5 : Vec Ideal S1x16384x512 .f32)⟩, ⟨S1x16384x512, (val_main_v28 (F := Ideal) x6 x7 x8 x9 x10 x11 x12 : Vec Ideal S1x16384x512 .f32)⟩, ⟨S1x16384x256, (val_main_v31 (F := Ideal) x13 x14 : Vec Ideal S1x16384x256 .f32)⟩]
    concatenates_S1x16384x512_S1x16384x512_S1x16384x512_S1x16384x512_S1x16384x256_S1x16384x2304_d2 (ix3 0 a ⟨k.val, by omega⟩) 0 (by show 0 < 5; decide)
    S1x16384x512 (val_main_v22 (F := Ideal) x1 x2) rfl rfl 0 rfl (ix3 0 a k) (fun b hb => ?_) (Nat.zero_add _)
  fin_cases b <;> first | rfl | exact absurd rfl hb

/-- Columns 512 to 1023 of the five parts side by side. -/
theorem part1 (a : Fin 16384) (k : Fin 512) : val_main_v32 (F := Ideal) x1 x2 x3 x4 x5 x6 x7 x8 x9 x10 x11 x12 x13 x14 (ix3 0 a ⟨512 + k.val, by omega⟩) = (x3) (ix3 0 a k) := by
  unfold val_main_v32
  refine concatenate_apply_piece (t := S1x16384x2304) 2 [⟨S1x16384x512, (val_main_v22 (F := Ideal) x1 x2 : Vec Ideal S1x16384x512 .f32)⟩, ⟨S1x16384x512, (x3 : Vec Ideal S1x16384x512 .f32)⟩, ⟨S1x16384x512, (val_main_v25 (F := Ideal) x4 x5 : Vec Ideal S1x16384x512 .f32)⟩, ⟨S1x16384x512, (val_main_v28 (F := Ideal) x6 x7 x8 x9 x10 x11 x12 : Vec Ideal S1x16384x512 .f32)⟩, ⟨S1x16384x256, (val_main_v31 (F := Ideal) x13 x14 : Vec Ideal S1x16384x256 .f32)⟩]
    concatenates_S1x16384x512_S1x16384x512_S1x16384x512_S1x16384x512_S1x16384x256_S1x16384x2304_d2 (ix3 0 a ⟨512 + k.val, by omega⟩) 1 (by show 1 < 5; decide)
    S1x16384x512 (x3) rfl rfl 512 rfl (ix3 0 a k) (fun b hb => ?_) rfl
  fin_cases b <;> first | rfl | exact absurd rfl hb

/-- Columns 1024 to 1535 of the five parts side by side. -/
theorem part2 (a : Fin 16384) (k : Fin 512) : val_main_v32 (F := Ideal) x1 x2 x3 x4 x5 x6 x7 x8 x9 x10 x11 x12 x13 x14 (ix3 0 a ⟨1024 + k.val, by omega⟩) = (val_main_v25 (F := Ideal) x4 x5) (ix3 0 a k) := by
  unfold val_main_v32
  refine concatenate_apply_piece (t := S1x16384x2304) 2 [⟨S1x16384x512, (val_main_v22 (F := Ideal) x1 x2 : Vec Ideal S1x16384x512 .f32)⟩, ⟨S1x16384x512, (x3 : Vec Ideal S1x16384x512 .f32)⟩, ⟨S1x16384x512, (val_main_v25 (F := Ideal) x4 x5 : Vec Ideal S1x16384x512 .f32)⟩, ⟨S1x16384x512, (val_main_v28 (F := Ideal) x6 x7 x8 x9 x10 x11 x12 : Vec Ideal S1x16384x512 .f32)⟩, ⟨S1x16384x256, (val_main_v31 (F := Ideal) x13 x14 : Vec Ideal S1x16384x256 .f32)⟩]
    concatenates_S1x16384x512_S1x16384x512_S1x16384x512_S1x16384x512_S1x16384x256_S1x16384x2304_d2 (ix3 0 a ⟨1024 + k.val, by omega⟩) 2 (by show 2 < 5; decide)
    S1x16384x512 (val_main_v25 (F := Ideal) x4 x5) rfl rfl 1024 rfl (ix3 0 a k) (fun b hb => ?_) rfl
  fin_cases b <;> first | rfl | exact absurd rfl hb

/-- Columns 1536 to 2047 of the five parts side by side. -/
theorem part3 (a : Fin 16384) (k : Fin 512) : val_main_v32 (F := Ideal) x1 x2 x3 x4 x5 x6 x7 x8 x9 x10 x11 x12 x13 x14 (ix3 0 a ⟨1536 + k.val, by omega⟩) = (val_main_v28 (F := Ideal) x6 x7 x8 x9 x10 x11 x12) (ix3 0 a k) := by
  unfold val_main_v32
  refine concatenate_apply_piece (t := S1x16384x2304) 2 [⟨S1x16384x512, (val_main_v22 (F := Ideal) x1 x2 : Vec Ideal S1x16384x512 .f32)⟩, ⟨S1x16384x512, (x3 : Vec Ideal S1x16384x512 .f32)⟩, ⟨S1x16384x512, (val_main_v25 (F := Ideal) x4 x5 : Vec Ideal S1x16384x512 .f32)⟩, ⟨S1x16384x512, (val_main_v28 (F := Ideal) x6 x7 x8 x9 x10 x11 x12 : Vec Ideal S1x16384x512 .f32)⟩, ⟨S1x16384x256, (val_main_v31 (F := Ideal) x13 x14 : Vec Ideal S1x16384x256 .f32)⟩]
    concatenates_S1x16384x512_S1x16384x512_S1x16384x512_S1x16384x512_S1x16384x256_S1x16384x2304_d2 (ix3 0 a ⟨1536 + k.val, by omega⟩) 3 (by show 3 < 5; decide)
    S1x16384x512 (val_main_v28 (F := Ideal) x6 x7 x8 x9 x10 x11 x12) rfl rfl 1536 rfl (ix3 0 a k) (fun b hb => ?_) rfl
  fin_cases b <;> first | rfl | exact absurd rfl hb

/-- Columns 2048 to 2303 of the five parts side by side. -/
theorem part4 (a : Fin 16384) (k : Fin 256) : val_main_v32 (F := Ideal) x1 x2 x3 x4 x5 x6 x7 x8 x9 x10 x11 x12 x13 x14 (ix3 0 a ⟨2048 + k.val, by omega⟩) = (val_main_v31 (F := Ideal) x13 x14) (ix3 0 a k) := by
  unfold val_main_v32
  refine concatenate_apply_piece (t := S1x16384x2304) 2 [⟨S1x16384x512, (val_main_v22 (F := Ideal) x1 x2 : Vec Ideal S1x16384x512 .f32)⟩, ⟨S1x16384x512, (x3 : Vec Ideal S1x16384x512 .f32)⟩, ⟨S1x16384x512, (val_main_v25 (F := Ideal) x4 x5 : Vec Ideal S1x16384x512 .f32)⟩, ⟨S1x16384x512, (val_main_v28 (F := Ideal) x6 x7 x8 x9 x10 x11 x12 : Vec Ideal S1x16384x512 .f32)⟩, ⟨S1x16384x256, (val_main_v31 (F := Ideal) x13 x14 : Vec Ideal S1x16384x256 .f32)⟩]
    concatenates_S1x16384x512_S1x16384x512_S1x16384x512_S1x16384x512_S1x16384x256_S1x16384x2304_d2 (ix3 0 a ⟨2048 + k.val, by omega⟩) 4 (by show 4 < 5; decide)
    S1x16384x256 (val_main_v31 (F := Ideal) x13 x14) rfl rfl 2048 rfl (ix3 0 a k) (fun b hb => ?_) rfl
  fin_cases b <;> first | rfl | exact absurd rfl hb

/-- The product with the weights is the sum of the five parts' products. -/
theorem y_apply (a : Fin 16384) (d : Fin 1024) (hl : ∀ h j, ∃ r : ℝ, ls x9 x10 x11 a h j = (r : EReal)) :
    val_main_v33 (F := Ideal) x1 x2 x3 x4 x5 x6 x7 x8 x9 x10 x11 x12 x13 x14 x15 (ix3 0 a d) = y (row x0 x1 x2 x3 x4 x5 x6 x7 x8 x9 x10 x11 x12 x13 x14 a) (fun k d => x15 (ix2 k d)) d := by
  have el : ∀ k, lidx_main_v33 (ix3 (0 : Fin 1) a d) k = ix3 (0 : Fin 1) a k := fun k => funext fun b => by fin_cases b <;> rfl
  have er : ∀ k, ridx_main_v33 (ix3 (0 : Fin 1) a d) k = ix2 k d := fun k => funext fun b => by fin_cases b <;> rfl
  rw [val_main_v33_apply]
  simp only [el, er]
  rw [five]
  simp only [part0, part1, part2, part3, part4, val_main_v22_apply, val_main_v25_apply, val_main_v28_apply, val_main_v31_apply,
    gate0, gate1, gate2, gate3, flat20, flat23, flat29]
  refine congrArg₂ (· + ·) (congrArg₂ (· + ·) rfl (Finset.sum_congr rfl fun k _ => ?_)) rfl
  rw [merge_apply _ _ _ _ _ _ a k hl]
  rfl

/-- THE REFERENCE'S ARRAY: the row plus its normalized product. -/
theorem out_apply (a : Fin 16384) (l : Fin 1024) (hl : ∀ h j, ∃ r : ℝ, ls x9 x10 x11 a h j = (r : EReal)) :
    val_main_v48 (F := Ideal) x0 x1 x2 x3 x4 x5 x6 x7 x8 x9 x10 x11 x12 x13 x14 x15 x16 (ix2 a l) = out (row x0 x1 x2 x3 x4 x5 x6 x7 x8 x9 x10 x11 x12 x13 x14 a) (fun k d => x15 (ix2 k d)) (fun d => x16 (ix1 d)) l := by
  have e48 : idx_main_v48 (ix2 a l) = ix3 (0 : Fin 1) a l := funext fun b => by
    fin_cases b
    · rfl
    · exact Fin.ext (by show _ = a.val; dsimp; omega)
    · exact Fin.ext (by show _ = l.val; dsimp; omega)
  have e36 : idx_main_v36 (idx_main_v42 (ix3 (0 : Fin 1) a l)) = ix2 (0 : Fin 1) a := funext fun b => by fin_cases b <;> rfl
  have e35 : ∀ d, idx_main_v35 (ix2 (0 : Fin 1) a) d = ix3 (0 : Fin 1) a d := fun d => funext fun b => by fin_cases b <;> rfl
  have e44 : idx_main_v44 (idx_main_v45 (ix3 (0 : Fin 1) a l)) = ix1 l := funext fun b => by fin_cases b; rfl
  rw [val_main_v48_apply, e48, val_main_v47_apply, val_main_v46_apply, val_main_v45_apply, val_main_v44_apply, e44, val_main_v43_apply,
    val_main_v42_apply, val_main_v41_apply, val_main_v40_apply, val_main_v39_apply, val_main_cst_4_apply, val_main_v38_apply,
    val_main_v37_apply, val_main_cst_3_apply, val_main_v36_apply, e36, val_main_v35_apply, val_main_cst_2_apply]
  simp only [e35, val_main_v34_apply, fun d => y_apply x0 x1 x2 x3 x4 x5 x6 x7 x8 x9 x10 x11 x12 x13 x14 x15 a d hl]
  show _ + y _ _ l * Ideal.rsqrt (Ideal.div (Ideal.ofBits .f32 0x00000000#32 + _) (Ideal.ofBits .f32 0x44800000#32) + Ideal.ofBits .f32 0x358637BD#32) * _ = _
  rw [BandRef.zero_word, zero_add]
  rfl

end Cert.OutRef

end
-- ==== Proof.OutEq.lean ====
/-
  The array of the out-projection's call is its reference's.
-/
module

public import proofs.«01_k».proof.Proof.OutArray
public import proofs.«01_k».proof.Proof.OutRefRow
public import proofs.«01_k».proof.Proof.BandEq

@[expose] public section

set_option maxRecDepth 16384

noncomputable section

namespace Cert.OutEq

open Cert.OutIdeal Cert.OutIdeal.Gen Idealize.ShloMosaic Idealize.ShloMosaic.TcCoe Cert.OutArray Cert.BandEq

variable (m : (ℓ : Loc nD τ sig) → Buf (Elt Ideal) ℓ) (c : Dev nD)

/-- The reference's result of the kernel's arguments. -/
abbrev ref : Vec Ideal S16384x1024 .f32 :=
  OutRefIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- THE KERNEL'S ARRAY IS THE REFERENCE'S, where the log-sum-exps are real. -/
theorem arr_eq (h9 : ∀ i, fin ((m ((c : Thread nD τ).loc main_arg9) : Vec Ideal S1x16384x8 .f32) i)) (h10 : ∀ i, fin ((m ((c : Thread nD τ).loc main_arg10) : Vec Ideal S1x16384x8 .f32) i)) (h11 : ∀ i, fin ((m ((c : Thread nD τ).loc main_arg11) : Vec Ideal S1x16384x8 .f32) i)) :
    arr m c = ref m c := by
  funext y
  obtain ⟨a, l, rfl⟩ : ∃ (a : Fin 16384) (l : Fin 1024), y = ix2 a l := ⟨y 0, y 1, eq_ix2 y⟩
  refine Eq.trans ?_ (OutRef.out_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) a l fun h j => ?_).symm
  · rfl
  · fin_cases j
    · exact h9 _
    · exact h10 _
    · exact h11 _

end Cert.OutEq

end
-- ==== Proof.OutFinite.lean ====
/-
  The precondition read: where it holds, every log-sum-exp is a real number.
-/
module

public import proofs.«01_k».proof.Proof.BandFinite
public import proofs.«01_k».proof.Proof.Gen.Pre_finite_lses

@[expose] public section

noncomputable section

namespace Cert.OutFinite

open Idealize.ShloMosaic Cert.BandEq Cert.BandFinite Cert.Pre_finite_lses

variable [Cert.Pre_finite_lses.Facts]

/-- Where the precondition holds, every log-sum-exp is real. -/
theorem lses (x0 : FVec Ideal S1x16384x1024 .f32) (x1 : FVec Ideal S1x16384x8x64 .f32) (x2 : FVec Ideal S1x16384x512 .f32) (x3 : FVec Ideal S1x16384x512 .f32) (x4 : FVec Ideal S1x16384x8x64 .f32) (x5 : FVec Ideal S1x16384x512 .f32) (x6 : FVec Ideal S1x16384x8x64 .f32) (x7 : FVec Ideal S1x16384x8x64 .f32) (x8 : FVec Ideal S1x16384x8x64 .f32) (x9 : FVec Ideal S1x16384x8 .f32) (x10 : FVec Ideal S1x16384x8 .f32) (x11 : FVec Ideal S1x16384x8 .f32) (x12 : FVec Ideal S1x16384x512 .f32) (x13 : FVec Ideal S1x16384x4x64 .f32) (x14 : FVec Ideal S1x16384x256 .f32) (x15 : FVec Ideal S2304x1024 .f32) (x16 : FVec Ideal S1024 .f32)
    (h : Cert.Pre_finite_lses.fn (F := Ideal) x0 x1 x2 x3 x4 x5 x6 x7 x8 x9 x10 x11 x12 x13 x14 x15 x16 = fun _ => 1#1) :
    (∀ i, fin (x9 i)) ∧ (∀ i, fin (x10 i)) ∧ (∀ i, fin (x11 i)) := by
  have e := congrFun h (Shape.Idx.first Facts.h_S_)
  obtain ⟨e01, e2⟩ := IntOp.andi_eq_one.1 e
  obtain ⟨e0, e1⟩ := IntOp.andi_eq_one.1 e01
  haveI : Subsingleton S_.Idx := ⟨fun a b => funext fun i => i.elim0⟩
  exact ⟨fun i => fin_of_test (Host.reduce_andi_all _ _ _ _ _ e0 i), fun i => fin_of_test (Host.reduce_andi_all _ _ _ _ _ e1 i),
    fun i => fin_of_test (Host.reduce_andi_all _ _ _ _ _ e2 i)⟩

end Cert.OutFinite

end
-- ==== Proof.lean ====
module

public import proofs.«01_k».proof.Defs
public import proofs.«01_k».proof.Proof.Gen.Band1
public import proofs.«01_k».proof.Proof.Gen.Band1.Skeleton
public import proofs.«01_k».proof.Proof.Gen.Band1.Launch
public import proofs.«01_k».proof.Proof.Gen.Band1.Points
public import proofs.«01_k».proof.Proof.Gen.Band1.Frame
public import proofs.«01_k».proof.Proof.Gen.Band1Ideal
public import proofs.«01_k».proof.Proof.Gen.Band1Ideal.Skeleton
public import proofs.«01_k».proof.Proof.Gen.Band1Ideal.Launch
public import proofs.«01_k».proof.Proof.Gen.Band1Ideal.Points
public import proofs.«01_k».proof.Proof.Gen.Band1Ideal.Frame
public import proofs.«01_k».proof.Proof.Gen.BandRef1Ideal
public import proofs.«01_k».proof.Proof.Gen.Band1Ideal.Value
public import proofs.«01_k».proof.Proof.Gen.BandRef1Ideal.Run
public import proofs.«01_k».proof.Proof.Gen.BandRef1Ideal.Read
public import proofs.«01_k».proof.Proof.Gen.Pre_finite
public import proofs.«01_k».proof.Proof.BandEq
public import proofs.«01_k».proof.Proof.BandFinite
public import proofs.«01_k».proof.Proof.Gen.InF
public import proofs.«01_k».proof.Proof.Gen.InF.Skeleton
public import proofs.«01_k».proof.Proof.Gen.InF.Launch
public import proofs.«01_k».proof.Proof.Gen.InF.Points
public import proofs.«01_k».proof.Proof.Gen.InF.Frame
public import proofs.«01_k».proof.Proof.Gen.InFIdeal
public import proofs.«01_k».proof.Proof.Gen.InFIdeal.Skeleton
public import proofs.«01_k».proof.Proof.Gen.InFIdeal.Launch
public import proofs.«01_k».proof.Proof.Gen.InFIdeal.Points
public import proofs.«01_k».proof.Proof.Gen.InFIdeal.Frame
public import proofs.«01_k».proof.Proof.Gen.InFIdeal.Value
public import proofs.«01_k».proof.Proof.Gen.InFRefIdeal
public import proofs.«01_k».proof.Proof.Gen.InFRefIdeal.Run
public import proofs.«01_k».proof.Proof.Gen.InFRefIdeal.Read
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBIdeal.Value
public import proofs.«01_k».proof.Proof.Gen.InBRefIdeal
public import proofs.«01_k».proof.Proof.Gen.InBRefIdeal.Run
public import proofs.«01_k».proof.Proof.Gen.InBRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Pre_finite_lses
public import proofs.«01_k».proof.Proof.InFEq
public import proofs.«01_k».proof.Proof.InBEq
public import proofs.«01_k».proof.Proof.OutEq
public import proofs.«01_k».proof.Proof.OutFinite
public import Idealize.ShloMosaic.Adequacy
public import Idealize.ShloMosaic.Init

@[expose] public section

noncomputable section

namespace Cert.Proof

open Idealize.ShloMosaic Idealize.SL.Sem

/-- The reference's run, read at its arguments. The program declares no semaphore. -/
theorem bandRef1_frame : Cert.quiescent_BandRef1Ideal (hBandRef1Ideal := Cert.BandRef1Ideal.Gen.facts) := fun m ρ _ =>
  (θ_run Cert.BandRef1Ideal.defs _ _).mono (fun r h => ⟨fun c => (h c).2.2, Idealize.ShloMosaic.sem_eq_zero_of_no_sems (by decide) r.2⟩)
    (Cert.BandRef1Ideal.Value.run m ρ)

/-- The kernel of the first dilation's attention computes its reference's two arrays. -/
theorem band1_algebraic : Cert.algebraic_Band1Ideal_BandRef1Ideal_pre_finite
    (hBand1Ideal := Cert.Band1Ideal.Gen.facts) (hBandRef1Ideal := Cert.BandRef1Ideal.Gen.facts)
    (hPre_finite := Cert.Pre_finite.Gen.facts) := by
  intro m g m' g' hpre hargs
  refine ⟨fun c => (Cert.Band1Ideal.Gen.dats m 0 c).arrAt 6 Cert.Band1Ideal.cfg0.N,
    fun c => (Cert.Band1Ideal.Gen.dats m 0 c).arrAt 7 Cert.Band1Ideal.cfg0.N, Cert.Band1Ideal.Value.run_blocks m g, ?_⟩
  refine (θ_run Cert.BandRef1Ideal.defs _ _).mono (fun r h c => ?_) (Cert.BandRef1Ideal.Value.run m' g')
  obtain ⟨r0, r1, ra⟩ := h c
  obtain ⟨a0, a1, a2, a3⟩ := hargs c
  obtain ⟨f0, f1, f3⟩ := Cert.BandFinite.read _ _ _ _ (hpre c)
  refine ⟨?_, ?_, ra⟩
  · rw [r0, Cert.BandRef1Ideal.Read.val_main_v72_eq, a0, a1, a2, a3]
    refine Eq.trans ?_ (Cert.BandArray.arr6 m c).symm
    funext y
    obtain ⟨n, ρ, h, d, rfl⟩ := Cert.BandEq.idx_cases y
    exact (Cert.BandEq.out_eq _ _ _ _ f0 f1 f3 n ρ h d).symm
  · rw [r1, Cert.BandRef1Ideal.Read.val_main_v78_eq, a0, a1, a3]
    refine Eq.trans ?_ (Cert.BandArray.arr7 m c).symm
    funext y
    obtain ⟨n, ρ, h, d, rfl⟩ := Cert.BandEq.idx_cases y
    exact (Cert.BandEq.lse_eq _ _ _ n ρ h d).symm

/-- The reference of the in-projection's first call runs and leaves its arguments. -/
theorem inFRef_frame : Cert.quiescent_InFRefIdeal (hInFRefIdeal := Cert.InFRefIdeal.Gen.facts) := fun m ρ _ =>
  (θ_run Cert.InFRefIdeal.defs _ _).mono (fun r h => ⟨fun c => (h c).2, Idealize.ShloMosaic.sem_eq_zero_of_no_sems (by decide) r.2⟩)
    (Cert.InFRefIdeal.Value.run m ρ)

/-- The in-projection's first call computes its reference's array. -/
theorem inF_algebraic : Cert.algebraic_InFIdeal_InFRefIdeal
    (hInFIdeal := Cert.InFIdeal.Gen.facts) (hInFRefIdeal := Cert.InFRefIdeal.Gen.facts) := by
  intro m g m' g' _ hargs
  refine ⟨fun c => (Cert.InFIdeal.Gen.dats m 0 c).arrAt 3 Cert.InFIdeal.cfg0.N, Cert.InFIdeal.Value.run_blocks m g, ?_⟩
  refine (θ_run Cert.InFRefIdeal.defs _ _).mono (fun r h c => ?_) (Cert.InFRefIdeal.Value.run m' g')
  obtain ⟨r0, ra⟩ := h c
  obtain ⟨a0, a1, a2⟩ := hargs c
  refine ⟨?_, ra⟩
  rw [r0, Cert.InFRefIdeal.Read.val_main_v44_eq, a0, a1, a2]
  exact ((Cert.InFArray.arr3 m c).trans (Cert.InFEq.arr_eq m c)).symm

/-- The reference of the in-projection's second call runs and leaves its arguments. -/
theorem inBRef_frame : Cert.quiescent_InBRefIdeal (hInBRefIdeal := Cert.InBRefIdeal.Gen.facts) := fun m ρ _ =>
  (θ_run Cert.InBRefIdeal.defs _ _).mono (fun r h => ⟨fun c => (h c).2, Idealize.ShloMosaic.sem_eq_zero_of_no_sems (by decide) r.2⟩)
    (Cert.InBRefIdeal.Value.run m ρ)

/-- The in-projection's second call computes its reference's array. -/
theorem inB_algebraic : Cert.algebraic_InBIdeal_InBRefIdeal
    (hInBIdeal := Cert.InBIdeal.Gen.facts) (hInBRefIdeal := Cert.InBRefIdeal.Gen.facts) := by
  intro m g m' g' _ hargs
  refine ⟨fun c => (Cert.InBIdeal.Gen.dats m 0 c).arrAt 3 Cert.InBIdeal.cfg0.N, Cert.InBIdeal.Value.run_blocks m g, ?_⟩
  refine (θ_run Cert.InBRefIdeal.defs _ _).mono (fun r h c => ?_) (Cert.InBRefIdeal.Value.run m' g')
  obtain ⟨r0, ra⟩ := h c
  obtain ⟨a0, a1, a2⟩ := hargs c
  refine ⟨?_, ra⟩
  rw [r0, Cert.InBRefIdeal.Read.val_main_v37_eq, a0, a1, a2]
  exact ((Cert.InBArray.arr3 m c).trans (Cert.InBEq.arr_eq m c)).symm

/-- The reference of the out-projection's call runs and leaves its arguments. -/
theorem outRef_frame : Cert.quiescent_OutRefIdeal (hOutRefIdeal := Cert.OutRefIdeal.Gen.facts) := fun m ρ _ =>
  (θ_run Cert.OutRefIdeal.defs _ _).mono (fun r h => ⟨fun c => (h c).2, Idealize.ShloMosaic.sem_eq_zero_of_no_sems (by decide) r.2⟩)
    (Cert.OutRefIdeal.Value.run m ρ)

/-- The out-projection's call computes its reference's array, where the log-sum-exps are real. -/
theorem out_algebraic : Cert.algebraic_OutIdeal_OutRefIdeal_pre_finite_lses
    (hOutIdeal := Cert.OutIdeal.Gen.facts) (hOutRefIdeal := Cert.OutRefIdeal.Gen.facts)
    (hPre_finite_lses := Cert.Pre_finite_lses.Gen.facts) := by
  intro m g m' g' hpre hargs
  refine ⟨fun c => (Cert.OutIdeal.Gen.dats m 0 c).arrAt 17 Cert.OutIdeal.cfg0.N, Cert.OutIdeal.Value.run_blocks m g, ?_⟩
  refine (θ_run Cert.OutRefIdeal.defs _ _).mono (fun r h c => ?_) (Cert.OutRefIdeal.Value.run m' g')
  obtain ⟨r0, ra⟩ := h c
  obtain ⟨a0, a1, a2, a3, a4, a5, a6, a7, a8, a9, a10, a11, a12, a13, a14, a15, a16⟩ := hargs c
  obtain ⟨f9, f10, f11⟩ := Cert.OutFinite.lses _ _ _ _ _ _ _ _ _ _ _ _ _ _ _ _ _ (hpre c)
  refine ⟨?_, ra⟩
  rw [r0, Cert.OutRefIdeal.Read.val_main_v48_eq, a0, a1, a2, a3, a4, a5, a6, a7, a8, a9, a10, a11, a12, a13, a14, a15, a16]
  exact ((Cert.OutArray.arr17 m c).trans (Cert.OutEq.arr_eq m c f9 f10 f11)).symm

theorem claim : Cert.Claim := ⟨Cert.Band1.Gen.facts, Cert.Band1Ideal.Gen.facts, Cert.BandRef1Ideal.Gen.facts, Cert.InF.Gen.facts, Cert.InFIdeal.Gen.facts, Cert.InFRefIdeal.Gen.facts, Cert.InB.Gen.facts, Cert.InBIdeal.Gen.facts, Cert.InBRefIdeal.Gen.facts, Cert.Out.Gen.facts, Cert.OutIdeal.Gen.facts, Cert.OutRefIdeal.Gen.facts, Cert.Pre_finite.Gen.facts, Cert.Pre_finite_lses.Gen.facts,
  fun m ρ _ => Cert.Band1.Gen.frame m ρ,
  fun m ρ _ => Cert.Band1Ideal.Gen.frame m ρ,
  fun m ρ _ => Cert.Band1Ideal.Gen.frame m ρ,
  fun m ρ _ => bandRef1_frame m ρ trivial,
  fun m ρ _ => bandRef1_frame m ρ trivial,
  fun m ρ _ => Cert.InF.Gen.frame m ρ,
  fun m ρ _ => Cert.InFIdeal.Gen.frame m ρ,
  fun m ρ _ => inFRef_frame m ρ trivial,
  fun m ρ _ => Cert.InB.Gen.frame m ρ,
  fun m ρ _ => Cert.InBIdeal.Gen.frame m ρ,
  fun m ρ _ => inBRef_frame m ρ trivial,
  fun m ρ _ => Cert.Out.Gen.frame m ρ,
  fun m ρ _ => Cert.OutIdeal.Gen.frame m ρ,
  fun m ρ _ => Cert.OutIdeal.Gen.frame m ρ,
  fun m ρ _ => outRef_frame m ρ trivial,
  fun m ρ _ => outRef_frame m ρ trivial,
  IdealRules.named_const.statement Cert.Band1Ideal.κ "mask" .f32 0xF149F2CA#32 ⊥ rfl,
  band1_algebraic,
  trivial, inF_algebraic,
  trivial, inB_algebraic,
  trivial, out_algebraic⟩

end Cert.Proof

end
